-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)) (v2 : (c : Dev Cert.Kernel2Ideal.nD) → Buf (Elt Ideal) ((c.tc : Thread Cert.Kernel2Ideal.nD Cert.Kernel2Ideal.τ).loc Cert.Kernel2Ideal.main_v7_2)) (v3 : (c : Dev Cert.Kernel2Ideal.nD) → Buf (Elt Ideal) ((c.tc : Thread Cert.Kernel2Ideal.nD Cert.Kernel2Ideal.τ).loc Cert.Kernel2Ideal.main_v7_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v7_1) = v1 c
          ∧ r.2.mem ((c.tc : Thread Cert.Kernel2Ideal.nD Cert.Kernel2Ideal.τ).loc Cert.Kernel2Ideal.main_v7_2) = v2 c
          ∧ r.2.mem ((c.tc : Thread Cert.Kernel2Ideal.nD Cert.Kernel2Ideal.τ).loc Cert.Kernel2Ideal.main_v7_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_v24) = v1 c
          ∧ r.2.mem ((c.tc : Thread Cert.Reference2Ideal.nD Cert.Reference2Ideal.τ).loc Cert.Reference2Ideal.main_v33) = v2 c
          ∧ r.2.mem ((c.tc : Thread Cert.Reference2Ideal.nD Cert.Reference2Ideal.τ).loc Cert.Reference2Ideal.main_v34) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v36_0)) (v1 : (c : Dev Cert.Kernel3Ideal.nD) → Buf (Elt Ideal) ((c.tc : Thread Cert.Kernel3Ideal.nD Cert.Kernel3Ideal.τ).loc Cert.Kernel3Ideal.main_v36_1)) (v2 : (c : Dev Cert.Kernel3Ideal.nD) → Buf (Elt Ideal) ((c.tc : Thread Cert.Kernel3Ideal.nD Cert.Kernel3Ideal.τ).loc Cert.Kernel3Ideal.main_v36_2)) (v3 : (c : Dev Cert.Kernel3Ideal.nD) → Buf (Elt Ideal) ((c.tc : Thread Cert.Kernel3Ideal.nD Cert.Kernel3Ideal.τ).loc Cert.Kernel3Ideal.main_v36_3)) (v4 : (c : Dev Cert.Kernel3Ideal.nD) → Buf (Elt Ideal) ((c.tc : Thread Cert.Kernel3Ideal.nD Cert.Kernel3Ideal.τ).loc Cert.Kernel3Ideal.main_v36_4)) (v5 : (c : Dev Cert.Kernel3Ideal.nD) → Buf (Elt Ideal) ((c.tc : Thread Cert.Kernel3Ideal.nD Cert.Kernel3Ideal.τ).loc Cert.Kernel3Ideal.main_v36_5)) (v6 : (c : Dev Cert.Kernel3Ideal.nD) → Buf (Elt Ideal) ((c.tc : Thread Cert.Kernel3Ideal.nD Cert.Kernel3Ideal.τ).loc Cert.Kernel3Ideal.main_v36_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v36_0) = v0 c
          ∧ r.2.mem ((c.tc : Thread Cert.Kernel3Ideal.nD Cert.Kernel3Ideal.τ).loc Cert.Kernel3Ideal.main_v36_1) = v1 c
          ∧ r.2.mem ((c.tc : Thread Cert.Kernel3Ideal.nD Cert.Kernel3Ideal.τ).loc Cert.Kernel3Ideal.main_v36_2) = v2 c
          ∧ r.2.mem ((c.tc : Thread Cert.Kernel3Ideal.nD Cert.Kernel3Ideal.τ).loc Cert.Kernel3Ideal.main_v36_3) = v3 c
          ∧ r.2.mem ((c.tc : Thread Cert.Kernel3Ideal.nD Cert.Kernel3Ideal.τ).loc Cert.Kernel3Ideal.main_v36_4) = v4 c
          ∧ r.2.mem ((c.tc : Thread Cert.Kernel3Ideal.nD Cert.Kernel3Ideal.τ).loc Cert.Kernel3Ideal.main_v36_5) = v5 c
          ∧ r.2.mem ((c.tc : Thread Cert.Kernel3Ideal.nD Cert.Kernel3Ideal.τ).loc Cert.Kernel3Ideal.main_v36_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v172) = v0 c
          ∧ r.2.mem ((c.tc : Thread Cert.Reference3Ideal.nD Cert.Reference3Ideal.τ).loc Cert.Reference3Ideal.main_v209) = v1 c
          ∧ r.2.mem ((c.tc : Thread Cert.Reference3Ideal.nD Cert.Reference3Ideal.τ).loc Cert.Reference3Ideal.main_v211) = v2 c
          ∧ r.2.mem ((c.tc : Thread Cert.Reference3Ideal.nD Cert.Reference3Ideal.τ).loc Cert.Reference3Ideal.main_v250) = v3 c
          ∧ r.2.mem ((c.tc : Thread Cert.Reference3Ideal.nD Cert.Reference3Ideal.τ).loc Cert.Reference3Ideal.main_v252) = v4 c
          ∧ r.2.mem ((c.tc : Thread Cert.Reference3Ideal.nD Cert.Reference3Ideal.τ).loc Cert.Reference3Ideal.main_v260) = v5 c
          ∧ r.2.mem ((c.tc : Thread Cert.Reference3Ideal.nD Cert.Reference3Ideal.τ).loc Cert.Reference3Ideal.main_v267) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  IdealRules.named_const.Statement Cert.Kernel4Ideal.κ "mask" .f32 0xF149F2CA#32 ⊥

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v21)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v21) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v70) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
-- ==== Pre_finite.lean ====
abbrev S8x4096x512 : Shape := ⟨3, ![8, 4096, 512]⟩
abbrev S1x64 : Shape := ⟨2, ![1, 64]⟩
abbrev S1x128 : Shape := ⟨2, ![1, 128]⟩
abbrev S_ : Shape := ⟨0, ![]⟩

class Facts : Prop where
  bitsLt_bf16_f32 : FTy.bits .bf16 < FTy.bits .f32
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S1x64 : S_.BroadcastsInDim S1x64 (![] : Fin 0 → Fin S1x64.rank)
  reducesTo_S1x64_S_d0_1 : S1x64.ReducesTo [0, 1] S_

variable [Facts]

def fn_part2 {F : FTy → Type} [FloatOps F] (main_v31 : IVec S_ 1) (main_v34 : IVec S1x64 1) : IVec S_ 1 :=
  let main_c_11 : IVec S_ 1 := constantI S_ 1 1#1
  let main_v35 : IVec S_ 1 := (fun x v => Host.reduce IntOp.andi x v reducesTo_S1x64_S_d0_1 h_S_) main_v34 main_c_11
  let main_v36 : IVec S_ 1 := andi main_v31 main_v35
  main_v36

def fn_part1 {F : FTy → Type} [FloatOps F] (main_arg4 : FVec F S1x64 .f32) (main_arg5 : FVec F S1x64 .f32) (main_arg6 : FVec F S1x64 .f32) (main_v16 : IVec S_ 1) (main_v17 : FVec F S1x64 .f32) : IVec S_ 1 :=
  let main_cst_4 : FVec F S_ .f32 := constant S_ .f32 0x7F800000#32
  let main_v18 : FVec F S1x64 .f32 := broadcastInDim S1x64 ![] bcast_S_S1x64 main_cst_4
  let main_v19 : IVec S1x64 1 := cmpf .olt main_v17 main_v18
  let main_c_5 : IVec S_ 1 := constantI S_ 1 1#1
  let main_v20 : IVec S_ 1 := (fun x v => Host.reduce IntOp.andi x v reducesTo_S1x64_S_d0_1 h_S_) main_v19 main_c_5
  let main_v21 : IVec S_ 1 := andi main_v16 main_v20
  let main_v22 : FVec F S1x64 .f32 := Host.absf main_arg4
  let main_cst_6 : FVec F S_ .f32 := constant S_ .f32 0x7F800000#32
  let main_v23 : FVec F S1x64 .f32 := broadcastInDim S1x64 ![] bcast_S_S1x64 main_cst_6
  let main_v24 : IVec S1x64 1 := cmpf .olt main_v22 main_v23
  let main_c_7 : IVec S_ 1 := constantI S_ 1 1#1
  let main_v25 : IVec S_ 1 := (fun x v => Host.reduce IntOp.andi x v reducesTo_S1x64_S_d0_1 h_S_) main_v24 main_c_7
  let main_v26 : IVec S_ 1 := andi main_v21 main_v25
  let main_v27 : FVec F S1x64 .f32 := Host.absf main_arg5
  let main_cst_8 : FVec F S_ .f32 := constant S_ .f32 0x7F800000#32
  let main_v28 : FVec F S1x64 .f32 := broadcastInDim S1x64 ![] bcast_S_S1x64 main_cst_8
  let main_v29 : IVec S1x64 1 := cmpf .olt main_v27 main_v28
  let main_c_9 : IVec S_ 1 := constantI S_ 1 1#1
  let main_v30 : IVec S_ 1 := (fun x v => Host.reduce IntOp.andi x v reducesTo_S1x64_S_d0_1 h_S_) main_v29 main_c_9
  let main_v31 : IVec S_ 1 := andi main_v26 main_v30
  let main_v32 : FVec F S1x64 .f32 := Host.absf main_arg6
  let main_cst_10 : FVec F S_ .f32 := constant S_ .f32 0x7F800000#32
  let main_v33 : FVec F S1x64 .f32 := broadcastInDim S1x64 ![] bcast_S_S1x64 main_cst_10
  let main_v34 : IVec S1x64 1 := cmpf .olt main_v32 main_v33
  fn_part2 (F := F) main_v31 main_v34

def fn {F : FTy → Type} [FloatOps F] (main_arg0 : FVec F S8x4096x512 .bf16) (main_arg1 : FVec F S8x4096x512 .bf16) (main_arg2 : FVec F S8x4096x512 .bf16) (main_arg3 : FVec F S1x64 .f32) (main_arg4 : FVec F S1x64 .f32) (main_arg5 : FVec F S1x64 .f32) (main_arg6 : FVec F S1x64 .f32) (main_arg7 : FVec F S1x128 .f32) : IVec S_ 1 :=
  let main_v0 : FVec F S8x4096x512 .f32 := (extf .f32 · bitsLt_bf16_f32) main_arg0
  let main_v1 : FVec F S8x4096x512 .f32 := Host.absf main_v0
  let main_cst : FVec F S_ .f32 := constant S_ .f32 0x7F800000#32
  let main_v2 : FVec F S8x4096x512 .f32 := broadcastInDim S8x4096x512 ![] bcast_S_S8x4096x512 main_cst
  let main_v3 : IVec S8x4096x512 1 := cmpf .olt main_v1 main_v2
  let main_c : IVec S_ 1 := constantI S_ 1 1#1
  let main_v4 : IVec S_ 1 := (fun x v => Host.reduce IntOp.andi x v reducesTo_S8x4096x512_S_d0_1_2 h_S_) main_v3 main_c
  let main_v5 : FVec F S8x4096x512 .f32 := (extf .f32 · bitsLt_bf16_f32) main_arg1
  let main_v6 : FVec F S8x4096x512 .f32 := Host.absf main_v5
  let main_cst_0 : FVec F S_ .f32 := constant S_ .f32 0x7F800000#32
  let main_v7 : FVec F S8x4096x512 .f32 := broadcastInDim S8x4096x512 ![] bcast_S_S8x4096x512 main_cst_0
  let main_v8 : IVec S8x4096x512 1 := cmpf .olt main_v6 main_v7
  let main_c_1 : IVec S_ 1 := constantI S_ 1 1#1
  let main_v9 : IVec S_ 1 := (fun x v => Host.reduce IntOp.andi x v reducesTo_S8x4096x512_S_d0_1_2 h_S_) main_v8 main_c_1
  let main_v10 : IVec S_ 1 := andi main_v4 main_v9
  let main_v11 : FVec F S8x4096x512 .f32 := (extf .f32 · bitsLt_bf16_f32) main_arg2
  let main_v12 : FVec F S8x4096x512 .f32 := Host.absf main_v11
  let main_cst_2 : FVec F S_ .f32 := constant S_ .f32 0x7F800000#32
  let main_v13 : FVec F S8x4096x512 .f32 := broadcastInDim S8x4096x512 ![] bcast_S_S8x4096x512 main_cst_2
  let main_v14 : IVec S8x4096x512 1 := cmpf .olt main_v12 main_v13
  let main_c_3 : IVec S_ 1 := constantI S_ 1 1#1
  let main_v15 : IVec S_ 1 := (fun x v => Host.reduce IntOp.andi x v reducesTo_S8x4096x512_S_d0_1_2 h_S_) main_v14 main_c_3
  let main_v16 : IVec S_ 1 := andi main_v10 main_v15
  let main_v17 : FVec F S1x64 .f32 := Host.absf main_arg3
  fn_part1 (F := F) main_arg4 main_arg5 main_arg6 main_v16 main_v17
-- ==== Pre_finite4.lean ====
abbrev S8x2x4x4096x64 : Shape := ⟨5, ![8, 2, 4, 4096, 64]⟩
abbrev S8x2x4096x64 : Shape := ⟨4, ![8, 2, 4096, 64]⟩
abbrev S8x4096x256 : Shape := ⟨3, ![8, 4096, 256]⟩
abbrev S1 : Shape := ⟨1, ![1]⟩
abbrev S_ : Shape := ⟨0, ![]⟩
abbrev S8x2x4096x1 : Shape := ⟨4, ![8, 2, 4096, 1]⟩
abbrev S8x2x4096 : Shape := ⟨3, ![8, 2, 4096]⟩

class Facts : Prop where
  bitsLt_bf16_f32 : FTy.bits .bf16 < FTy.bits .f32
  bcast_S_S8x2x4x4096x64 : S_.BroadcastsInDim S8x2x4x4096x64 (![] : Fin 0 → Fin S8x2x4x4096x64.rank)
  reducesTo_S8x2x4x4096x64_S_d0_1_2_3_4 : S8x2x4x4096x64.ReducesTo [0, 1, 2, 3, 4] S_
  h_S_ : 0 < S_.numel
  bcast_S_S8x2x4096x64 : S_.BroadcastsInDim S8x2x4096x64 (![] : Fin 0 → Fin S8x2x4096x64.rank)
  reducesTo_S8x2x4096x64_S_d0_1_2_3 : S8x2x4096x64.ReducesTo [0, 1, 2, 3] S_
  slices_S8x2x4096x64_S8x2x4096x1_0_0_0_0 : S8x2x4096x64.Slices ![0, 0, 0, 0] S8x2x4096x1
  shapeCasts_S8x2x4096x1_S8x2x4096 : S8x2x4096x1.ShapeCasts S8x2x4096
  bcast_S_S8x2x4096 : S_.BroadcastsInDim S8x2x4096 (![] : Fin 0 → Fin S8x2x4096.rank)
  reducesTo_S8x2x4096_S_d0_1_2 : S8x2x4096.ReducesTo [0, 1, 2] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v34 : IVec S_ 1) (main_cst_10 : FVec F S_ .f32) : IVec S_ 1 :=
  let main_v35 : FVec F S1 .f32 := broadcastInDim S1 ![] bcast_S_S1 main_cst_10
  let main_v36 : IVec S1 1 := cmpf .oeq main_arg8 main_v35
  let main_c_11 : IVec S_ 1 := constantI S_ 1 1#1
  let main_v37 : IVec S_ 1 := (fun x v => Host.reduce IntOp.andi x v reducesTo_S1_S_d0 h_S_) main_v36 main_c_11
  let main_v38 : IVec S_ 1 := andi main_v34 main_v37
  main_v38

def fn_part1 {F : FTy → Type} [FloatOps F] (main_arg1 : IVec S8x2x4096x64 32) (main_arg5 : FVec F S8x2x4096x64 .bf16) (main_arg8 : FVec F S1 .f32) (main_v16 : IVec S_ 1) (main_v17 : FVec F S8x2x4096x64 .f32) : IVec S_ 1 :=
  let main_v18 : FVec F S8x2x4096x64 .f32 := Host.absf main_v17
  let main_cst_4 : FVec F S_ .f32 := constant S_ .f32 0x7F800000#32
  let main_v19 : FVec F S8x2x4096x64 .f32 := broadcastInDim S8x2x4096x64 ![] bcast_S_S8x2x4096x64 main_cst_4
  let main_v20 : IVec S8x2x4096x64 1 := cmpf .olt main_v18 main_v19
  let main_c_5 : IVec S_ 1 := constantI S_ 1 1#1
  let main_v21 : IVec S_ 1 := (fun x v => Host.reduce IntOp.andi x v reducesTo_S8x2x4096x64_S_d0_1_2_3 h_S_) main_v20 main_c_5
  let main_v22 : IVec S_ 1 := andi main_v16 main_v21
  let main_v23 : FVec F S8x2x4096x64 .f32 := (extf .f32 · bitsLt_bf16_f32) main_arg5
  let main_v24 : FVec F S8x2x4096x64 .f32 := Host.absf main_v23
  let main_cst_6 : FVec F S_ .f32 := constant S_ .f32 0x7F800000#32
  let main_v25 : FVec F S8x2x4096x64 .f32 := broadcastInDim S8x2x4096x64 ![] bcast_S_S8x2x4096x64 main_cst_6
  let main_v26 : IVec S8x2x4096x64 1 := cmpf .olt main_v24 main_v25
  let main_c_7 : IVec S_ 1 := constantI S_ 1 1#1
  let main_v27 : IVec S_ 1 := (fun x v => Host.reduce IntOp.andi x v reducesTo_S8x2x4096x64_S_d0_1_2_3 h_S_) main_v26 main_c_7
  let main_v28 : IVec S_ 1 := andi main_v22 main_v27
  let main_v29 : IVec S8x2x4096x1 32 := (extractStridedSlice S8x2x4096x1 ![0, 0, 0, 0] · slices_S8x2x4096x64_S8x2x4096x1_0_0_0_0) main_arg1
  let main_v30 : IVec S8x2x4096 32 := shapeCast S8x2x4096 main_v29 shapeCasts_S8x2x4096x1_S8x2x4096
  let main_c_8 : IVec S_ 32 := constantI S_ 32 0#32
  let main_v31 : IVec S8x2x4096 32 := broadcastInDim S8x2x4096 ![] bcast_S_S8x2x4096 main_c_8
  let main_v32 : IVec S8x2x4096 1 := cmpi .ne main_v30 main_v31
  let main_c_9 : IVec S_ 1 := constantI S_ 1 1#1
  let main_v33 : IVec S_ 1 := (fun x v => Host.reduce IntOp.andi x v reducesTo_S8x2x4096_S_d0_1_2 h_S_) main_v32 main_c_9
  let main_v34 : IVec S_ 1 := andi main_v28 main_v33
  let main_cst_10 : FVec F S_ .f32 := constant S_ .f32 0xFF800000#32
  fn_part2 (F := F) main_arg8 main_v34 main_cst_10

def fn {F : FTy → Type} [FloatOps F] (main_arg0 : FVec F S8x2x4x4096x64 .bf16) (main_arg1 : IVec S8x2x4096x64 32) (main_arg2 : FVec F S8x2x4096x64 .bf16) (main_arg3 : FVec F S8x2x4096x64 .bf16) (main_arg4 : FVec F S8x2x4096x64 .bf16) (main_arg5 : FVec F S8x2x4096x64 .bf16) (main_arg6 : FVec F S8x2x4x4096x64 .f32) (main_arg7 : FVec F S8x4096x256 .f32) (main_arg8 : FVec F S1 .f32) : IVec S_ 1 :=
  let main_v0 : FVec F S8x2x4x4096x64 .f32 := (extf .f32 · bitsLt_bf16_f32) main_arg0
  let main_v1 : FVec F S8x2x4x4096x64 .f32 := Host.absf main_v0
  let main_cst : FVec F S_ .f32 := constant S_ .f32 0x7F800000#32
  let main_v2 : FVec F S8x2x4x4096x64 .f32 := broadcastInDim S8x2x4x4096x64 ![] bcast_S_S8x2x4x4096x64 main_cst
  let main_v3 : IVec S8x2x4x4096x64 1 := cmpf .olt main_v1 main_v2
  let main_c : IVec S_ 1 := constantI S_ 1 1#1
  let main_v4 : IVec S_ 1 := (fun x v => Host.reduce IntOp.andi x v reducesTo_S8x2x4x4096x64_S_d0_1_2_3_4 h_S_) main_v3 main_c
  let main_v5 : FVec F S8x2x4096x64 .f32 := (extf .f32 · bitsLt_bf16_f32) main_arg2
  let main_v6 : FVec F S8x2x4096x64 .f32 := Host.absf main_v5
  let main_cst_0 : FVec F S_ .f32 := constant S_ .f32 0x7F800000#32
  let main_v7 : FVec F S8x2x4096x64 .f32 := broadcastInDim S8x2x4096x64 ![] bcast_S_S8x2x4096x64 main_cst_0
  let main_v8 : IVec S8x2x4096x64 1 := cmpf .olt main_v6 main_v7
  let main_c_1 : IVec S_ 1 := constantI S_ 1 1#1
  let main_v9 : IVec S_ 1 := (fun x v => Host.reduce IntOp.andi x v reducesTo_S8x2x4096x64_S_d0_1_2_3 h_S_) main_v8 main_c_1
  let main_v10 : IVec S_ 1 := andi main_v4 main_v9
  let main_v11 : FVec F S8x2x4096x64 .f32 := (extf .f32 · bitsLt_bf16_f32) main_arg3
  let main_v12 : FVec F S8x2x4096x64 .f32 := Host.absf main_v11
  let main_cst_2 : FVec F S_ .f32 := constant S_ .f32 0x7F800000#32
  let main_v13 : FVec F S8x2x4096x64 .f32 := broadcastInDim S8x2x4096x64 ![] bcast_S_S8x2x4096x64 main_cst_2
  let main_v14 : IVec S8x2x4096x64 1 := cmpf .olt main_v12 main_v13
  let main_c_3 : IVec S_ 1 := constantI S_ 1 1#1
  let main_v15 : IVec S_ 1 := (fun x v => Host.reduce IntOp.andi x v reducesTo_S8x2x4096x64_S_d0_1_2_3 h_S_) main_v14 main_c_3
  let main_v16 : IVec S_ 1 := andi main_v10 main_v15
  let main_v17 : FVec F S8x2x4096x64 .f32 := (extf .f32 · bitsLt_bf16_f32) main_arg4
  fn_part1 (F := F) main_arg1 main_arg5 main_arg8 main_v16 main_v17
-- ==== Kernel.lean ====
abbrev S8x4096x512 : Shape := ⟨3, ![8, 4096, 512]⟩
abbrev S1x64 : Shape := ⟨2, ![1, 64]⟩
abbrev S1x128 : Shape := ⟨2, ![1, 128]⟩
abbrev S1x256x128 : Shape := ⟨3, ![1, 256, 128]⟩
abbrev S1x4096x128 : Shape := ⟨3, ![1, 4096, 128]⟩
abbrev S512x128 : Shape := ⟨2, ![512, 128]⟩
abbrev S512x1 : Shape := ⟨2, ![512, 1]⟩
abbrev S256x128 : Shape := ⟨2, ![256, 128]⟩
abbrev S512x256 : Shape := ⟨2, ![512, 256]⟩
abbrev S512 : Shape := ⟨1, ![512]⟩
abbrev S1 : Shape := ⟨1, ![1]⟩
abbrev S1x1 : Shape := ⟨2, ![1, 1]⟩
abbrev S256 : Shape := ⟨1, ![256]⟩
abbrev S256x1 : Shape := ⟨2, ![256, 1]⟩

abbrev nBuf : Space → Nat
  | .hbm => 9
  | .vmem => 17
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x4096x512, .bf16⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S8x4096x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x128, .f32⟩
  | .local _ .vmem, ⟨11, _⟩ => ⟨S1x256x128, .bf16⟩
  | .local _ .vmem, ⟨12, _⟩ => ⟨S1x256x128, .bf16⟩
  | .local _ .vmem, ⟨13, _⟩ => ⟨S512x128, .bf16⟩
  | .local _ .vmem, ⟨14, _⟩ => ⟨S512x1, .f32⟩
  | .local _ .vmem, ⟨15, _⟩ => ⟨S512x1, .f32⟩
  | .local _ .vmem, ⟨16, _⟩ => ⟨S512x128, .f32⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![8, 4, 16], ![false, false, false]⟩

@[reducible] def k0_t1_loop (i : grid0.Coords) : Scf.Loop 32 :=
  let c0_i32_15 : BitVec 32 := 0#32
  let arg2 : BitVec 32 := BitVec.ofNat 32 (i 2).val
  let v28 : BitVec 32 := Scalar.subi arg2 c0_i32_15
  let c1_i32 : BitVec 32 := 1#32
  let v30 : BitVec 32 := Scalar.divsi v28 c1_i32
  let v31 : BitVec 32 := Scalar.muli v30 c1_i32
  let v32 : BitVec 32 := Scalar.addi c0_i32_15 v31
  let c1_i32_16 : BitVec 32 := 1#32
  ⟨c0_i32_15, v32, c1_i32_16⟩
def k0_mult1 (i : grid0.Coords) (k0_t1 : Fin (k0_t1_loop i).trips) : BitVec 32 :=
  let c0_i32_15 : BitVec 32 := 0#32
  let c1_i32_16 : BitVec 32 := 1#32
  let arg16 : BitVec 32 := Scf.iv c0_i32_15 c1_i32_16 k0_t1
  let c256_i32_68 : BitVec 32 := 256#32
  let v127 : BitVec 32 := Scalar.muli arg16 c256_i32_68
  v127
def k0_off1 (i : grid0.Coords) (k0_t1 : Fin (k0_t1_loop i).trips) : Fin 3 → Nat :=
  let c0_69 : Index := 0#32
  let c0_i32_15 : BitVec 32 := 0#32
  let c1_i32_16 : BitVec 32 := 1#32
  let arg16 : BitVec 32 := Scf.iv c0_i32_15 c1_i32_16 k0_t1
  let c256_i32_68 : BitVec 32 := 256#32
  let v127 : BitVec 32 := Scalar.muli arg16 c256_i32_68
  let v128 : BitVec 32 := v127
  let v129 : Index := Scalar.indexCast v128
  let c0_70 : Index := 0#32
  ![0, v129.toNat, 0]
def k0_mult2 (i : grid0.Coords) (k0_t1 : Fin (k0_t1_loop i).trips) : BitVec 32 :=
  let c0_i32_15 : BitVec 32 := 0#32
  let c1_i32_16 : BitVec 32 := 1#32
  let arg16 : BitVec 32 := Scf.iv c0_i32_15 c1_i32_16 k0_t1
  let c256_i32_74 : BitVec 32 := 256#32
  let v134 : BitVec 32 := Scalar.muli arg16 c256_i32_74
  v134
@[reducible] def k0_t2_loop (i : grid0.Coords) : Scf.Loop 32 :=
  let c0_i32_15 : BitVec 32 := 0#32
  let arg2 : BitVec 32 := BitVec.ofNat 32 (i 2).val
  let v28 : BitVec 32 := Scalar.subi arg2 c0_i32_15
  let c1_i32 : BitVec 32 := 1#32
  let v30 : BitVec 32 := Scalar.divsi v28 c1_i32
  let v31 : BitVec 32 := Scalar.muli v30 c1_i32
  let v32 : BitVec 32 := Scalar.addi c0_i32_15 v31
  let v29 : BitVec 32 := Scalar.addi c0_i32_15 v28
  let c1_i32_17 : BitVec 32 := 1#32
  ⟨v32, v29, c1_i32_17⟩
def k0_mult3 (i : grid0.Coords) (k0_t2 : Fin (k0_t2_loop i).trips) : BitVec 32 :=
  let c0_i32_15 : BitVec 32 := 0#32
  let arg2 : BitVec 32 := BitVec.ofNat 32 (i 2).val
  let v28 : BitVec 32 := Scalar.subi arg2 c0_i32_15
  let c1_i32 : BitVec 32 := 1#32
  let v30 : BitVec 32 := Scalar.divsi v28 c1_i32
  let v31 : BitVec 32 := Scalar.muli v30 c1_i32
  let v32 : BitVec 32 := Scalar.addi c0_i32_15 v31
  let c1_i32_17 : BitVec 32 := 1#32
  let arg16 : BitVec 32 := Scf.iv v32 c1_i32_17 k0_t2
  let c256_i32_68 : BitVec 32 := 256#32
  let v127 : BitVec 32 := Scalar.muli arg16 c256_i32_68
  v127
def k0_off2 (i : grid0.Coords) (k0_t2 : Fin (k0_t2_loop i).trips) : Fin 3 → Nat :=
  let c0_69 : Index := 0#32
  let c0_i32_15 : BitVec 32 := 0#32
  let arg2 : BitVec 32 := BitVec.ofNat 32 (i 2).val
  let v28 : BitVec 32 := Scalar.subi arg2 c0_i32_15
  let c1_i32 : BitVec 32 := 1#32
  let v30 : BitVec 32 := Scalar.divsi v28 c1_i32
  let v31 : BitVec 32 := Scalar.muli v30 c1_i32
  let v32 : BitVec 32 := Scalar.addi c0_i32_15 v31
  let c1_i32_17 : BitVec 32 := 1#32
  let arg16 : BitVec 32 := Scf.iv v32 c1_i32_17 k0_t2
  let c256_i32_68 : BitVec 32 := 256#32
  let v127 : BitVec 32 := Scalar.muli arg16 c256_i32_68
  let v128 : BitVec 32 := v127
  let v129 : Index := Scalar.indexCast v128
  let c0_70 : Index := 0#32
  ![0, v129.toNat, 0]
def k0_mult4 (i : grid0.Coords) (k0_t2 : Fin (k0_t2_loop i).trips) : BitVec 32 :=
  let c0_i32_15 : BitVec 32 := 0#32
  let arg2 : BitVec 32 := BitVec.ofNat 32 (i 2).val
  let v28 : BitVec 32 := Scalar.subi arg2 c0_i32_15
  let c1_i32 : BitVec 32 := 1#32
  let v30 : BitVec 32 := Scalar.divsi v28 c1_i32
  let v31 : BitVec 32 := Scalar.muli v30 c1_i32
  let v32 : BitVec 32 := Scalar.addi c0_i32_15 v31
  let c1_i32_17 : BitVec 32 := 1#32
  let arg16 : BitVec 32 := Scf.iv v32 c1_i32_17 k0_t2
  let c256_i32_74 : BitVec 32 := 256#32
  let v134 : BitVec 32 := Scalar.muli arg16 c256_i32_74
  v134
def k0_mult5 (i : grid0.Coords) : BitVec 32 :=
  let arg2 : BitVec 32 := BitVec.ofNat 32 (i 2).val
  let c256_i32_19 : BitVec 32 := 256#32
  let v41 : BitVec 32 := Scalar.muli arg2 c256_i32_19
  v41
def k0_off3 (i : grid0.Coords) : Fin 3 → Nat :=
  let c0_20 : Index := 0#32
  let arg2 : BitVec 32 := BitVec.ofNat 32 (i 2).val
  let c256_i32_19 : BitVec 32 := 256#32
  let v41 : BitVec 32 := Scalar.muli arg2 c256_i32_19
  let v42 : BitVec 32 := v41
  let v43 : Index := Scalar.indexCast v42
  let c0_21 : Index := 0#32
  ![0, v43.toNat, 0]
def k0_mult6 (i : grid0.Coords) : BitVec 32 :=
  let arg2 : BitVec 32 := BitVec.ofNat 32 (i 2).val
  let c256_i32_26 : BitVec 32 := 256#32
  let v50 : BitVec 32 := Scalar.muli arg2 c256_i32_26
  v50
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8x4096x512 : Shape := ⟨3, ![8, 4096, 512]⟩
abbrev S1x64 : Shape := ⟨2, ![1, 64]⟩
abbrev S1x128 : Shape := ⟨2, ![1, 128]⟩
abbrev S8x4096x4x2x64 : Shape := ⟨5, ![8, 4096, 4, 2, 64]⟩
abbrev S8x4096x4x128 : Shape := ⟨4, ![8, 4096, 4, 128]⟩
abbrev S64 : Shape := ⟨1, ![64]⟩
abbrev S_ : Shape := ⟨0, ![]⟩
abbrev S8x4x2x4096x4096 : Shape := ⟨5, ![8, 4, 2, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4x2x4096 : Shape := ⟨4, ![8, 4, 2, 4096]⟩
abbrev S8x4x2x4096x1 : Shape := ⟨5, ![8, 4, 2, 4096, 1]⟩
abbrev S8x4x1x4096x4096 : Shape := ⟨5, ![8, 4, 1, 4096, 4096]⟩
abbrev S8x4x4096x4096 : Shape := ⟨4, ![8, 4, 4096, 4096]⟩
abbrev S8x4x128x4096 : Shape := ⟨4, ![8, 4, 128, 4096]⟩
abbrev S128 : Shape := ⟨1, ![128]⟩
abbrev S8x4096x4 : Shape := ⟨3, ![8, 4096, 4]⟩
abbrev S8x4096x4x1 : Shape := ⟨4, ![8, 4096, 4, 1]⟩
abbrev S1x1x1x128 : Shape := ⟨4, ![1, 1, 1, 128]⟩

abbrev nBuf : Space → Nat
  | .hbm => 86
  | .vmem => 0
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S8x4096x512, .bf16⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S8x4096x512, .f32⟩
  | .hbm, ⟨9, _⟩ => ⟨S8x4096x4x2x64, .f32⟩
  | .hbm, ⟨10, _⟩ => ⟨S8x4096x512, .f32⟩
  | .hbm, ⟨11, _⟩ => ⟨S8x4096x4x2x64, .f32⟩
  | .hbm, ⟨12, _⟩ => ⟨S8x4096x512, .f32⟩
  | .hbm, ⟨13, _⟩ => ⟨S8x4096x4x128, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S8x4x2x4096x4096, .f32⟩
  | .hbm, ⟨30, _⟩ => ⟨S4096, .i32⟩
  | .hbm, ⟨31, _⟩ => ⟨S1x4096, .i32⟩
  | .hbm, ⟨32, _⟩ => ⟨S4096x1, .i32⟩
  | .hbm, ⟨33, _⟩ => ⟨S4096x4096, .i32⟩
  | .hbm, ⟨34, _⟩ => ⟨S4096x4096, .i32⟩
  | .hbm, ⟨35, _⟩ => ⟨S4096x4096, .i1⟩
  | .hbm, ⟨36, _⟩ => ⟨S_, .f32⟩
  | .hbm, ⟨37, _⟩ => ⟨S_, .f32⟩
  | .hbm, ⟨38, _⟩ => ⟨S8x4x2x4096x4096, .i1⟩
  | .hbm, ⟨39, _⟩ => ⟨S8x4x2x4096x4096, .f32⟩
  | .hbm, ⟨40, _⟩ => ⟨S8x4x2x4096x4096, .f32⟩
  | .hbm, ⟨41, _⟩ => ⟨S_, .f32⟩
  | .hbm, ⟨42, _⟩ => ⟨S8x4x2x4096, .f32⟩
  | .hbm, ⟨43, _⟩ => ⟨S_, .f32⟩
  | .hbm, ⟨44, _⟩ => ⟨S8x4x2x4096, .f32⟩
  | .hbm, ⟨45, _⟩ => ⟨S8x4x2x4096, .f32⟩
  | .hbm, ⟨46, _⟩ => ⟨S8x4x2x4096x1, .f32⟩
  | .hbm, ⟨47, _⟩ => ⟨S8x4x2x4096x4096, .f32⟩
  | .hbm, ⟨48, _⟩ => ⟨S8x4x2x4096x4096, .f32⟩
  | .hbm, ⟨49, _⟩ => ⟨S8x4x2x4096x4096, .f32⟩
  | .hbm, ⟨50, _⟩ => ⟨S_, .f32⟩
  | .hbm, ⟨51, _⟩ => ⟨S8x4x2x4096, .f32⟩
  | .hbm, ⟨52, _⟩ => ⟨S8x4x2x4096x1, .f32⟩
  | .hbm, ⟨53, _⟩ => ⟨S8x4x2x4096x4096, .f32⟩
  | .hbm, ⟨54, _⟩ => ⟨S8x4x2x4096x4096, .f32⟩
  | .hbm, ⟨55, _⟩ => ⟨S8x4x1x4096x4096, .f32⟩
  | .hbm, ⟨56, _⟩ => ⟨S8x4x4096x4096, .f32⟩
  | .hbm, ⟨57, _⟩ => ⟨S8x4x1x4096x4096, .f32⟩
  | .hbm, ⟨58, _⟩ => ⟨S8x4x4096x4096, .f32⟩
  | .hbm, ⟨59, _⟩ => ⟨S8x4x4096x4096, .f32⟩
  | .hbm, ⟨60, _⟩ => ⟨S8x4x4096x4096, .f32⟩
  | .hbm, ⟨61, _⟩ => ⟨S8x4x4096x4096, .f32⟩
  | .hbm, ⟨62, _⟩ => ⟨S8x4x128x4096, .f32⟩
  | .hbm, ⟨63, _⟩ => ⟨S8x4096x4x128, .f32⟩
  | .hbm, ⟨64, _⟩ => ⟨S128, .f32⟩
  | .hbm, ⟨65, _⟩ => ⟨S8x4096x4x128, .f32⟩
  | .hbm, ⟨66, _⟩ => ⟨S_, .f32⟩
  | .hbm, ⟨67, _⟩ => ⟨S8x4096x4, .f32⟩
  | .hbm, ⟨68, _⟩ => ⟨S8x4096x4x1, .f32⟩
  | .hbm, ⟨69, _⟩ => ⟨S_, .f32⟩
  | .hbm, ⟨70, _⟩ => ⟨S8x4096x4x1, .f32⟩
  | .hbm, ⟨71, _⟩ => ⟨S8x4096x4x1, .f32⟩
  | .hbm, ⟨72, _⟩ => ⟨S_, .f32⟩
  | .hbm, ⟨73, _⟩ => ⟨S8x4096x4x1, .f32⟩
  | .hbm, ⟨74, _⟩ => ⟨S8x4096x4x1, .f32⟩
  | .hbm, ⟨75, _⟩ => ⟨S8x4096x4x1, .f32⟩
  | .hbm, ⟨76, _⟩ => ⟨S8x4096x4x128, .f32⟩
  | .hbm, ⟨77, _⟩ => ⟨S8x4096x4x128, .f32⟩
  | .hbm, ⟨78, _⟩ => ⟨S1x1x1x128, .f32⟩
  | .hbm, ⟨79, _⟩ => ⟨S8x4096x4x128, .f32⟩
  | .hbm, ⟨80, _⟩ => ⟨S8x4096x4x128, .f32⟩
  | .hbm, ⟨81, _⟩ => ⟨S_, .f32⟩
  | .hbm, ⟨82, _⟩ => ⟨S8x4096x4x128, .f32⟩
  | .hbm, ⟨83, _⟩ => ⟨S8x4096x4x128, .f32⟩
  | .hbm, ⟨84, _⟩ => ⟨S8x4096x512, .f32⟩
  | .hbm, ⟨85, _⟩ => ⟨S8x4096x512, .bf16⟩
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_6 : Ref sig .tc := ⟨.hbm, 66, rfl⟩
abbrev main_v48 : Ref sig .tc := ⟨.hbm, 67, rfl⟩
abbrev main_v49 : Ref sig .tc := ⟨.hbm, 68, rfl⟩
abbrev main_cst_7 : Ref sig .tc := ⟨.hbm, 69, rfl⟩
abbrev main_v50 : Ref sig .tc := ⟨.hbm, 70, rfl⟩
abbrev main_v51 : Ref sig .tc := ⟨.hbm, 71, rfl⟩
abbrev main_cst_8 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_9 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩

abbrev nD : Nat := 1
abbrev τ : Topo := Topo.v7x

variable {F : FTy → Type} [FloatOps F]
-- ==== Kernel2.lean ====
abbrev S32768x512 : Shape := ⟨2, ![32768, 512]⟩
abbrev S32768x2048 : Shape := ⟨2, ![32768, 2048]⟩
abbrev S32768x1024 : Shape := ⟨2, ![32768, 1024]⟩
abbrev S512x1024 : Shape := ⟨2, ![512, 1024]⟩
abbrev S1024x1024 : Shape := ⟨2, ![1024, 1024]⟩
abbrev S1024 : Shape := ⟨1, ![1024]⟩
abbrev S1024x2048 : Shape := ⟨2, ![1024, 2048]⟩
abbrev S128x128 : Shape := ⟨2, ![128, 128]⟩
abbrev S1x1024 : Shape := ⟨2, ![1, 1024]⟩
abbrev S8x128x32768 : Shape := ⟨3, ![8, 128, 32768]⟩
abbrev S256x512 : Shape := ⟨2, ![256, 512]⟩
abbrev S256x2048 : Shape := ⟨2, ![256, 2048]⟩
abbrev S256x1024 : Shape := ⟨2, ![256, 1024]⟩
abbrev S8x128x256 : Shape := ⟨3, ![8, 128, 256]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S256x128 : Shape := ⟨2, ![256, 128]⟩
abbrev S128x256 : Shape := ⟨2, ![128, 256]⟩
abbrev S1x128x256 : Shape := ⟨3, ![1, 128, 256]⟩

abbrev nBuf : Space → Nat
  | .hbm => 22
  | .vmem => 23
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x2048, .bf16⟩
  | .hbm, ⟨3, _⟩ => ⟨S32768x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024x2048, .f32⟩
  | .hbm, ⟨9, _⟩ => ⟨S128x128, .f32⟩
  | .hbm, ⟨10, _⟩ => ⟨S128x128, .f32⟩
  | .hbm, ⟨11, _⟩ => ⟨S512x1024, .bf16⟩
  | .hbm, ⟨12, _⟩ => ⟨S512x1024, .bf16⟩
  | .hbm, ⟨13, _⟩ => ⟨S1024x1024, .bf16⟩
  | .hbm, ⟨14, _⟩ => ⟨S1x1024, .f32⟩
  | .hbm, ⟨15, _⟩ => ⟨S1024x2048, .bf16⟩
  | .hbm, ⟨16, _⟩ => ⟨S128x128, .bf16⟩
  | .hbm, ⟨17, _⟩ => ⟨S128x128, .bf16⟩
  | .hbm, ⟨18, _⟩ => ⟨S32768x1024, .f32⟩
  | .hbm, ⟨19, _⟩ => ⟨S32768x1024, .f32⟩
  | .hbm, ⟨20, _⟩ => ⟨S8x128x32768, .f32⟩
  | .hbm, ⟨21, _⟩ => ⟨S8x128x32768, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x2048, .bf16⟩
  | .local _ .vmem, ⟨5, _⟩ => ⟨S256x2048, .bf16⟩
  | .local _ .vmem, ⟨6, _⟩ => ⟨S256x1024, .f32⟩
  | .local _ .vmem, ⟨7, _⟩ => ⟨S256x1024, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1024x2048, .bf16⟩
  | .local _ .vmem, ⟨13, _⟩ => ⟨S128x128, .bf16⟩
  | .local _ .vmem, ⟨14, _⟩ => ⟨S128x128, .bf16⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S8x128x256, .f32⟩
  | .local _ .vmem, ⟨20, _⟩ => ⟨S8x128x256, .f32⟩
  | .local _ .vmem, ⟨21, _⟩ => ⟨S8x128x256, .f32⟩
  | .local _ .vmem, ⟨22, _⟩ => ⟨S8x128x256, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev main_v7_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x128x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x128x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S32768x512 : Shape := ⟨2, ![32768, 512]⟩
abbrev S32768x2048 : Shape := ⟨2, ![32768, 2048]⟩
abbrev S32768x1024 : Shape := ⟨2, ![32768, 1024]⟩
abbrev S512x1024 : Shape := ⟨2, ![512, 1024]⟩
abbrev S1024x1024 : Shape := ⟨2, ![1024, 1024]⟩
abbrev S1024 : Shape := ⟨1, ![1024]⟩
abbrev S1024x2048 : Shape := ⟨2, ![1024, 2048]⟩
abbrev S128x128 : Shape := ⟨2, ![128, 128]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x8x2x128 : Shape := ⟨4, ![32768, 8, 2, 128]⟩
abbrev S32768x8x1x128 : Shape := ⟨4, ![32768, 8, 1, 128]⟩
abbrev S32768x8x128 : Shape := ⟨3, ![32768, 8, 128]⟩
abbrev S8x128x32768 : Shape := ⟨3, ![8, 128, 32768]⟩

abbrev nBuf : Space → Nat
  | .hbm => 49
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x2048, .bf16⟩
  | .hbm, ⟨3, _⟩ => ⟨S32768x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024, .f32⟩
  | .hbm, ⟨8, _⟩ => ⟨S1024x2048, .f32⟩
  | .hbm, ⟨9, _⟩ => ⟨S128x128, .f32⟩
  | .hbm, ⟨10, _⟩ => ⟨S128x128, .f32⟩
  | .hbm, ⟨11, _⟩ => ⟨S32768x2048, .f32⟩
  | .hbm, ⟨12, _⟩ => ⟨S32768x1024, .f32⟩
  | .hbm, ⟨13, _⟩ => ⟨S32768x1024, .f32⟩
  | .hbm, ⟨14, _⟩ => ⟨S32768x512, .f32⟩
  | .hbm, ⟨15, _⟩ => ⟨S32768x1024, .f32⟩
  | .hbm, ⟨16, _⟩ => ⟨S32768x1024, .f32⟩
  | .hbm, ⟨17, _⟩ => ⟨S32768x512, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S_, .f32⟩
  | .hbm, ⟨25, _⟩ => ⟨S32768, .f32⟩
  | .hbm, ⟨26, _⟩ => ⟨S32768x1, .f32⟩
  | .hbm, ⟨27, _⟩ => ⟨S_, .f32⟩
  | .hbm, ⟨28, _⟩ => ⟨S32768x1, .f32⟩
  | .hbm, ⟨29, _⟩ => ⟨S32768x1, .f32⟩
  | .hbm, ⟨30, _⟩ => ⟨S_, .f32⟩
  | .hbm, ⟨31, _⟩ => ⟨S32768x1, .f32⟩
  | .hbm, ⟨32, _⟩ => ⟨S32768x1, .f32⟩
  | .hbm, ⟨33, _⟩ => ⟨S32768x1, .f32⟩
  | .hbm, ⟨34, _⟩ => ⟨S32768x1024, .f32⟩
  | .hbm, ⟨35, _⟩ => ⟨S32768x1024, .f32⟩
  | .hbm, ⟨36, _⟩ => ⟨S1x1024, .f32⟩
  | .hbm, ⟨37, _⟩ => ⟨S32768x1024, .f32⟩
  | .hbm, ⟨38, _⟩ => ⟨S32768x1024, .f32⟩
  | .hbm, ⟨39, _⟩ => ⟨S32768x2048, .f32⟩
  | .hbm, ⟨40, _⟩ => ⟨S32768x8x2x128, .f32⟩
  | .hbm, ⟨41, _⟩ => ⟨S32768x8x1x128, .f32⟩
  | .hbm, ⟨42, _⟩ => ⟨S32768x8x128, .f32⟩
  | .hbm, ⟨43, _⟩ => ⟨S32768x8x128, .f32⟩
  | .hbm, ⟨44, _⟩ => ⟨S32768x8x1x128, .f32⟩
  | .hbm, ⟨45, _⟩ => ⟨S32768x8x128, .f32⟩
  | .hbm, ⟨46, _⟩ => ⟨S32768x8x128, .f32⟩
  | .hbm, ⟨47, _⟩ => ⟨S8x128x32768, .f32⟩
  | .hbm, ⟨48, _⟩ => ⟨S8x128x32768, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Kernel3.lean ====
abbrev S8x4096x1024 : Shape := ⟨3, ![8, 4096, 1024]⟩
abbrev S1024 : Shape := ⟨1, ![1024]⟩
abbrev S1024x4888 : Shape := ⟨2, ![1024, 4888]⟩
abbrev S32768x1024 : Shape := ⟨2, ![32768, 1024]⟩
abbrev S1x1024 : Shape := ⟨2, ![1, 1024]⟩
abbrev S1024x24 : Shape := ⟨2, ![1024, 24]⟩
abbrev S_ : Shape := ⟨0, ![]⟩
abbrev S1024x116 : Shape := ⟨2, ![1024, 116]⟩
abbrev S1024x2816 : Shape := ⟨2, ![1024, 2816]⟩
abbrev S1024x2048 : Shape := ⟨2, ![1024, 2048]⟩
abbrev S1024x12 : Shape := ⟨2, ![1024, 12]⟩
abbrev S1024x5120 : Shape := ⟨2, ![1024, 5120]⟩
abbrev S8 : Shape := ⟨1, ![8]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S4096x128 : Shape := ⟨2, ![4096, 128]⟩
abbrev S32768x512 : Shape := ⟨2, ![32768, 512]⟩
abbrev S32768x768 : Shape := ⟨2, ![32768, 768]⟩
abbrev S32768x2048 : Shape := ⟨2, ![32768, 2048]⟩
abbrev S32768x256 : Shape := ⟨2, ![32768, 256]⟩
abbrev S512x1024 : Shape := ⟨2, ![512, 1024]⟩
abbrev S512x128 : Shape := ⟨2, ![512, 128]⟩
abbrev S512x512 : Shape := ⟨2, ![512, 512]⟩
abbrev S512x768 : Shape := ⟨2, ![512, 768]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩
abbrev S1024x256 : Shape := ⟨2, ![1024, 256]⟩

abbrev nBuf : Space → Nat
  | .hbm => 53
  | .vmem => 24
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x4888, .f32⟩
  | .hbm, ⟨3, _⟩ => ⟨S32768x1024, .f32⟩
  | .hbm, ⟨4, _⟩ => ⟨S1x1024, .f32⟩
  | .hbm, ⟨5, _⟩ => ⟨S1024x24, .f32⟩
  | .hbm, ⟨6, _⟩ => ⟨S_, .f32⟩
  | .hbm, ⟨7, _⟩ => ⟨S1024x116, .f32⟩
  | .hbm, ⟨8, _⟩ => ⟨S1024x2816, .f32⟩
  | .hbm, ⟨9, _⟩ => ⟨S1024x2048, .f32⟩
  | .hbm, ⟨10, _⟩ => ⟨S1024x12, .f32⟩
  | .hbm, ⟨11, _⟩ => ⟨S1024x12, .f32⟩
  | .hbm, ⟨12, _⟩ => ⟨S1024x5120, .f32⟩
  | .hbm, ⟨13, _⟩ => ⟨S1024x5120, .bf16⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S4096, .f32⟩
  | .hbm, ⟨26, _⟩ => ⟨S4096x1, .f32⟩
  | .hbm, ⟨27, _⟩ => ⟨S1x8, .f32⟩
  | .hbm, ⟨28, _⟩ => ⟨S4096x8, .f32⟩
  | .hbm, ⟨29, _⟩ => ⟨S4096x8, .f32⟩
  | .hbm, ⟨30, _⟩ => ⟨S4096x8, .f32⟩
  | .hbm, ⟨31, _⟩ => ⟨S4096x8, .f32⟩
  | .hbm, ⟨32, _⟩ => ⟨S4096x8, .f32⟩
  | .hbm, ⟨33, _⟩ => ⟨S_, .f32⟩
  | .hbm, ⟨34, _⟩ => ⟨S4096x48, .f32⟩
  | .hbm, ⟨35, _⟩ => ⟨S_, .f32⟩
  | .hbm, ⟨36, _⟩ => ⟨S4096x8, .f32⟩
  | .hbm, ⟨37, _⟩ => ⟨S_, .f32⟩
  | .hbm, ⟨38, _⟩ => ⟨S4096x48, .f32⟩
  | .hbm, ⟨39, _⟩ => ⟨S4096x64, .f32⟩
  | .hbm, ⟨40, _⟩ => ⟨S4096x64, .f32⟩
  | .hbm, ⟨41, _⟩ => ⟨S4096x8, .f32⟩
  | .hbm, ⟨42, _⟩ => ⟨S4096x64, .f32⟩
  | .hbm, ⟨43, _⟩ => ⟨S4096x128, .f32⟩
  | .hbm, ⟨44, _⟩ => ⟨S4096x128, .f32⟩
  | .hbm, ⟨45, _⟩ => ⟨S4096x128, .f32⟩
  | .hbm, ⟨46, _⟩ => ⟨S32768x512, .bf16⟩
  | .hbm, ⟨47, _⟩ => ⟨S32768x512, .bf16⟩
  | .hbm, ⟨48, _⟩ => ⟨S32768x512, .bf16⟩
  | .hbm, ⟨49, _⟩ => ⟨S32768x512, .bf16⟩
  | .hbm, ⟨50, _⟩ => ⟨S32768x768, .bf16⟩
  | .hbm, ⟨51, _⟩ => ⟨S32768x2048, .bf16⟩
  | .hbm, ⟨52, _⟩ => ⟨S32768x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5120, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x768, .bf16⟩
  | .local _ .vmem, ⟨19, _⟩ => ⟨S512x768, .bf16⟩
  | .local _ .vmem, ⟨20, _⟩ => ⟨S512x2048, .bf16⟩
  | .local _ .vmem, ⟨21, _⟩ => ⟨S512x2048, .bf16⟩
  | .local _ .vmem, ⟨22, _⟩ => ⟨S512x256, .f32⟩
  | .local _ .vmem, ⟨23, _⟩ => ⟨S512x256, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36_0 : Ref sig .tc := ⟨.hbm, 46, rfl⟩
abbrev main_v36_1 : Ref sig .tc := ⟨.hbm, 47, rfl⟩
abbrev main_v36_2 : Ref sig .tc := ⟨.hbm, 48, rfl⟩
abbrev main_v36_3 : Ref sig .tc := ⟨.hbm, 49, rfl⟩
abbrev main_v36_4 : Ref sig .tc := ⟨.hbm, 50, rfl⟩
abbrev main_v36_5 : Ref sig .tc := ⟨.hbm, 51, rfl⟩
abbrev main_v36_6 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S8x4096x1024 : Shape := ⟨3, ![8, 4096, 1024]⟩
abbrev S1024 : Shape := ⟨1, ![1024]⟩
abbrev S1024x4888 : Shape := ⟨2, ![1024, 4888]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4888 : Shape := ⟨3, ![8, 4096, 4888]⟩
abbrev S8x4096x512 : Shape := ⟨3, ![8, 4096, 512]⟩
abbrev S8x4096x128 : Shape := ⟨3, ![8, 4096, 128]⟩
abbrev S8x4096x24 : Shape := ⟨3, ![8, 4096, 24]⟩
abbrev S8x4096x2048 : Shape := ⟨3, ![8, 4096, 2048]⟩
abbrev S8x4096x2x64 : Shape := ⟨4, ![8, 4096, 2, 64]⟩
abbrev S8 : Shape := ⟨1, ![8]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S1x4096x1x8 : Shape := ⟨4, ![1, 4096, 1, 8]⟩
abbrev S8x4096x2x8 : Shape := ⟨4, ![8, 4096, 2, 8]⟩
abbrev S8x4096x2x48 : Shape := ⟨4, ![8, 4096, 2, 48]⟩
abbrev S8x4096x768 : Shape := ⟨3, ![8, 4096, 768]⟩
abbrev S32768x2x12 : Shape := ⟨3, ![32768, 2, 12]⟩
abbrev S32768x2x128 : Shape := ⟨3, ![32768, 2, 128]⟩
abbrev S8x4096x8x64 : Shape := ⟨4, ![8, 4096, 8, 64]⟩
abbrev S8x4096x8x8 : Shape := ⟨4, ![8, 4096, 8, 8]⟩
abbrev S8x4096x8x48 : Shape := ⟨4, ![8, 4096, 8, 48]⟩
abbrev S32768x512 : Shape := ⟨2, ![32768, 512]⟩
abbrev S32768x768 : Shape := ⟨2, ![32768, 768]⟩
abbrev S32768x2048 : Shape := ⟨2, ![32768, 2048]⟩
abbrev S32768x256 : Shape := ⟨2, ![32768, 256]⟩

abbrev nBuf : Space → Nat
  | .hbm => 300
  | .vmem => 0
  | .smem => 0
  | _ => 0

abbrev hbmTy0_0 (i : Nat) : BufTy := match i % 128 with
  | 0 => ⟨S8x4096x1024, .f32⟩
  | 1 => ⟨S1024, .f32⟩
  | 2 => ⟨S1024x4888, .f32⟩
  | 3 => ⟨S8x4096x1024, .f32⟩
  | 4 => ⟨S_, .f32⟩
  | 5 => ⟨S8x4096, .f32⟩
  | 6 => ⟨S8x4096x1, .f32⟩
  | 7 => ⟨S_, .f32⟩
  | 8 => ⟨S8x4096x1, .f32⟩
  | 9 => ⟨S8x4096x1, .f32⟩
  | 10 => ⟨S_, .f32⟩
  | 11 => ⟨S8x4096x1, .f32⟩
  | 12 => ⟨S8x4096x1, .f32⟩
  | 13 => ⟨S8x4096x1, .f32⟩
  | 14 => ⟨S8x4096x1024, .f32⟩
  | 15 => ⟨S8x4096x1024, .f32⟩
  | 16 => ⟨S1x1x1024, .f32⟩
  | 17 => ⟨S8x4096x1024, .f32⟩
  | 18 => ⟨S8x4096x1024, .f32⟩
  | 19 => ⟨S8x4096x4888, .f32⟩
  | 20 => ⟨S8x4096x512, .f32⟩
  | 21 => ⟨S8x4096x512, .f32⟩
  | 22 => ⟨S8x4096x512, .f32⟩
  | 23 => ⟨S8x4096x512, .f32⟩
  | 24 => ⟨S8x4096x128, .f32⟩
  | 25 => ⟨S8x4096x128, .f32⟩
  | 26 => ⟨S8x4096x128, .f32⟩
  | 27 => ⟨S8x4096x128, .f32⟩
  | 28 => ⟨S8x4096x128, .f32⟩
  | 29 => ⟨S8x4096x128, .f32⟩
  | 30 => ⟨S8x4096x24, .f32⟩
  | 31 => ⟨S8x4096x2048, .f32⟩
  | 32 => ⟨S8x4096x2x64, .f32⟩
  | 33 => ⟨S8, .f32⟩
  | 34 => ⟨S8, .f32⟩
  | 35 => ⟨S_, .f32⟩
  | 36 => ⟨S8, .f32⟩
  | 37 => ⟨S8, .f32⟩
  | 38 => ⟨S_, .f32⟩
  | 39 => ⟨S8, .f32⟩
  | 40 => ⟨S8, .f32⟩
  | 41 => ⟨S_, .f32⟩
  | 42 => ⟨S8, .f32⟩
  | 43 => ⟨S8, .f32⟩
  | 44 => ⟨S4096, .i32⟩
  | 45 => ⟨S4096, .f32⟩
  | 46 => ⟨S4096x1, .f32⟩
  | 47 => ⟨S1x8, .f32⟩
  | 48 => ⟨S4096x8, .f32⟩
  | 49 => ⟨S4096x8, .f32⟩
  | 50 => ⟨S4096x8, .f32⟩
  | 51 => ⟨S4096x8, .f32⟩
  | 52 => ⟨S1x4096x1x8, .f32⟩
  | 53 => ⟨S4096x8, .f32⟩
  | 54 => ⟨S1x4096x1x8, .f32⟩
  | 55 => ⟨S8x4096x2x8, .f32⟩
  | 56 => ⟨S8x4096x2x8, .f32⟩
  | 57 => ⟨S8x4096x2x8, .f32⟩
  | 58 => ⟨S8x4096x2x8, .f32⟩
  | 59 => ⟨S8x4096x2x8, .f32⟩
  | 60 => ⟨S8x4096x2x8, .f32⟩
  | 61 => ⟨S8x4096x2x8, .f32⟩
  | 62 => ⟨S8x4096x2x8, .f32⟩
  | 63 => ⟨S8x4096x2x8, .f32⟩
  | 64 => ⟨S8x4096x2x8, .f32⟩
  | 65 => ⟨S8x4096x2x8, .f32⟩
  | 66 => ⟨S8x4096x2x8, .f32⟩
  | 67 => ⟨S8x4096x2x48, .f32⟩
  | 68 => ⟨S8x4096x2x64, .f32⟩
  | 69 => ⟨S8x4096x128, .f32⟩
  | 70 => ⟨S8x4096x2x64, .f32⟩
  | 71 => ⟨S8, .f32⟩
  | 72 => ⟨S8, .f32⟩
  | 73 => ⟨S_, .f32⟩
  | 74 => ⟨S8, .f32⟩
  | 75 => ⟨S8, .f32⟩
  | 76 => ⟨S_, .f32⟩
  | 77 => ⟨S8, .f32⟩
  | 78 => ⟨S8, .f32⟩
  | 79 => ⟨S_, .f32⟩
  | 80 => ⟨S8, .f32⟩
  | 81 => ⟨S8, .f32⟩
  | 82 => ⟨S4096, .i32⟩
  | 83 => ⟨S4096, .f32⟩
  | 84 => ⟨S4096x1, .f32⟩
  | 85 => ⟨S1x8, .f32⟩
  | 86 => ⟨S4096x8, .f32⟩
  | 87 => ⟨S4096x8, .f32⟩
  | 88 => ⟨S4096x8, .f32⟩
  | 89 => ⟨S4096x8, .f32⟩
  | 90 => ⟨S1x4096x1x8, .f32⟩
  | 91 => ⟨S4096x8, .f32⟩
  | 92 => ⟨S1x4096x1x8, .f32⟩
  | 93 => ⟨S8x4096x2x8, .f32⟩
  | 94 => ⟨S8x4096x2x8, .f32⟩
  | 95 => ⟨S8x4096x2x8, .f32⟩
  | 96 => ⟨S8x4096x2x8, .f32⟩
  | 97 => ⟨S8x4096x2x8, .f32⟩
  | 98 => ⟨S8x4096x2x8, .f32⟩
  | 99 => ⟨S8x4096x2x8, .f32⟩
  | 100 => ⟨S8x4096x2x8, .f32⟩
  | 101 => ⟨S8x4096x2x8, .f32⟩
  | 102 => ⟨S8x4096x2x8, .f32⟩
  | 103 => ⟨S8x4096x2x8, .f32⟩
  | 104 => ⟨S8x4096x2x8, .f32⟩
  | 105 => ⟨S8x4096x2x48, .f32⟩
  | 106 => ⟨S8x4096x2x64, .f32⟩
  | 107 => ⟨S8x4096x128, .f32⟩
  | 108 => ⟨S8x4096x2x64, .f32⟩
  | 109 => ⟨S8, .f32⟩
  | 110 => ⟨S8, .f32⟩
  | 111 => ⟨S_, .f32⟩
  | 112 => ⟨S8, .f32⟩
  | 113 => ⟨S8, .f32⟩
  | 114 => ⟨S_, .f32⟩
  | 115 => ⟨S8, .f32⟩
  | 116 => ⟨S8, .f32⟩
  | 117 => ⟨S_, .f32⟩
  | 118 => ⟨S8, .f32⟩
  | 119 => ⟨S8, .f32⟩
  | 120 => ⟨S4096, .i32⟩
  | 121 => ⟨S4096, .f32⟩
  | 122 => ⟨S4096x1, .f32⟩
  | 123 => ⟨S1x8, .f32⟩
  | 124 => ⟨S4096x8, .f32⟩
  | 125 => ⟨S4096x8, .f32⟩
  | 126 => ⟨S4096x8, .f32⟩
  | 127 => ⟨S4096x8, .f32⟩
  | _ => ⟨S8x4096x1024, .f32⟩

abbrev hbmTy0_1 (i : Nat) : BufTy := match i % 128 with
  | 0 => ⟨S1x4096x1x8, .f32⟩
  | 1 => ⟨S4096x8, .f32⟩
  | 2 => ⟨S1x4096x1x8, .f32⟩
  | 3 => ⟨S8x4096x2x8, .f32⟩
  | 4 => ⟨S8x4096x2x8, .f32⟩
  | 5 => ⟨S8x4096x2x8, .f32⟩
  | 6 => ⟨S8x4096x2x8, .f32⟩
  | 7 => ⟨S8x4096x2x8, .f32⟩
  | 8 => ⟨S8x4096x2x8, .f32⟩
  | 9 => ⟨S8x4096x2x8, .f32⟩
  | 10 => ⟨S8x4096x2x8, .f32⟩
  | 11 => ⟨S8x4096x2x8, .f32⟩
  | 12 => ⟨S8x4096x2x8, .f32⟩
  | 13 => ⟨S8x4096x2x8, .f32⟩
  | 14 => ⟨S8x4096x2x8, .f32⟩
  | 15 => ⟨S8x4096x2x48, .f32⟩
  | 16 => ⟨S8x4096x2x64, .f32⟩
  | 17 => ⟨S8x4096x128, .f32⟩
  | 18 => ⟨S8x4096x768, .f32⟩
  | 19 => ⟨S32768x2x12, .f32⟩
  | 20 => ⟨S_, .i32⟩
  | 21 => ⟨S_, .f32⟩
  | 22 => ⟨S32768x2x128, .f32⟩
  | 23 => ⟨S8x4096x8x64, .f32⟩
  | 24 => ⟨S8, .f32⟩
  | 25 => ⟨S8, .f32⟩
  | 26 => ⟨S_, .f32⟩
  | 27 => ⟨S8, .f32⟩
  | 28 => ⟨S8, .f32⟩
  | 29 => ⟨S_, .f32⟩
  | 30 => ⟨S8, .f32⟩
  | 31 => ⟨S8, .f32⟩
  | 32 => ⟨S_, .f32⟩
  | 33 => ⟨S8, .f32⟩
  | 34 => ⟨S8, .f32⟩
  | 35 => ⟨S4096, .i32⟩
  | 36 => ⟨S4096, .f32⟩
  | 37 => ⟨S4096x1, .f32⟩
  | 38 => ⟨S1x8, .f32⟩
  | 39 => ⟨S4096x8, .f32⟩
  | 40 => ⟨S4096x8, .f32⟩
  | 41 => ⟨S4096x8, .f32⟩
  | 42 => ⟨S4096x8, .f32⟩
  | 43 => ⟨S1x4096x1x8, .f32⟩
  | 44 => ⟨S4096x8, .f32⟩
  | 45 => ⟨S1x4096x1x8, .f32⟩
  | 46 => ⟨S8x4096x8x8, .f32⟩
  | 47 => ⟨S8x4096x8x8, .f32⟩
  | 48 => ⟨S8x4096x8x8, .f32⟩
  | 49 => ⟨S8x4096x8x8, .f32⟩
  | 50 => ⟨S8x4096x8x8, .f32⟩
  | 51 => ⟨S8x4096x8x8, .f32⟩
  | 52 => ⟨S8x4096x8x8, .f32⟩
  | 53 => ⟨S8x4096x8x8, .f32⟩
  | 54 => ⟨S8x4096x8x8, .f32⟩
  | 55 => ⟨S8x4096x8x8, .f32⟩
  | 56 => ⟨S8x4096x8x8, .f32⟩
  | 57 => ⟨S8x4096x8x8, .f32⟩
  | 58 => ⟨S8x4096x8x48, .f32⟩
  | 59 => ⟨S8x4096x8x64, .f32⟩
  | 60 => ⟨S8x4096x512, .f32⟩
  | 61 => ⟨S_, .f32⟩
  | 62 => ⟨S8x4096x512, .f32⟩
  | 63 => ⟨S8x4096x512, .f32⟩
  | 64 => ⟨S32768x512, .f32⟩
  | 65 => ⟨S32768x512, .bf16⟩
  | 66 => ⟨S8x4096x8x64, .f32⟩
  | 67 => ⟨S8, .f32⟩
  | 68 => ⟨S8, .f32⟩
  | 69 => ⟨S_, .f32⟩
  | 70 => ⟨S8, .f32⟩
  | 71 => ⟨S8, .f32⟩
  | 72 => ⟨S_, .f32⟩
  | 73 => ⟨S8, .f32⟩
  | 74 => ⟨S8, .f32⟩
  | 75 => ⟨S_, .f32⟩
  | 76 => ⟨S8, .f32⟩
  | 77 => ⟨S8, .f32⟩
  | 78 => ⟨S4096, .i32⟩
  | 79 => ⟨S4096, .f32⟩
  | 80 => ⟨S4096x1, .f32⟩
  | 81 => ⟨S1x8, .f32⟩
  | 82 => ⟨S4096x8, .f32⟩
  | 83 => ⟨S4096x8, .f32⟩
  | 84 => ⟨S4096x8, .f32⟩
  | 85 => ⟨S4096x8, .f32⟩
  | 86 => ⟨S1x4096x1x8, .f32⟩
  | 87 => ⟨S4096x8, .f32⟩
  | 88 => ⟨S1x4096x1x8, .f32⟩
  | 89 => ⟨S8x4096x8x8, .f32⟩
  | 90 => ⟨S8x4096x8x8, .f32⟩
  | 91 => ⟨S8x4096x8x8, .f32⟩
  | 92 => ⟨S8x4096x8x8, .f32⟩
  | 93 => ⟨S8x4096x8x8, .f32⟩
  | 94 => ⟨S8x4096x8x8, .f32⟩
  | 95 => ⟨S8x4096x8x8, .f32⟩
  | 96 => ⟨S8x4096x8x8, .f32⟩
  | 97 => ⟨S8x4096x8x8, .f32⟩
  | 98 => ⟨S8x4096x8x8, .f32⟩
  | 99 => ⟨S8x4096x8x8, .f32⟩
  | 100 => ⟨S8x4096x8x8, .f32⟩
  | 101 => ⟨S8x4096x8x48, .f32⟩
  | 102 => ⟨S8x4096x8x64, .f32⟩
  | 103 => ⟨S8x4096x512, .f32⟩
  | 104 => ⟨S32768x512, .f32⟩
  | 105 => ⟨S32768x512, .bf16⟩
  | 106 => ⟨S32768x512, .f32⟩
  | 107 => ⟨S32768x512, .bf16⟩
  | 108 => ⟨S8x4096x8x64, .f32⟩
  | 109 => ⟨S8, .f32⟩
  | 110 => ⟨S8, .f32⟩
  | 111 => ⟨S_, .f32⟩
  | 112 => ⟨S8, .f32⟩
  | 113 => ⟨S8, .f32⟩
  | 114 => ⟨S_, .f32⟩
  | 115 => ⟨S8, .f32⟩
  | 116 => ⟨S8, .f32⟩
  | 117 => ⟨S_, .f32⟩
  | 118 => ⟨S8, .f32⟩
  | 119 => ⟨S8, .f32⟩
  | 120 => ⟨S4096, .i32⟩
  | 121 => ⟨S4096, .f32⟩
  | 122 => ⟨S4096x1, .f32⟩
  | 123 => ⟨S1x8, .f32⟩
  | 124 => ⟨S4096x8, .f32⟩
  | 125 => ⟨S4096x8, .f32⟩
  | 126 => ⟨S4096x8, .f32⟩
  | 127 => ⟨S4096x8, .f32⟩
  | _ => ⟨S8x4096x1024, .f32⟩

abbrev hbmTy0_2 (i : Nat) : BufTy := match i % 128 with
  | 0 => ⟨S1x4096x1x8, .f32⟩
  | 1 => ⟨S4096x8, .f32⟩
  | 2 => ⟨S1x4096x1x8, .f32⟩
  | 3 => ⟨S8x4096x8x8, .f32⟩
  | 4 => ⟨S8x4096x8x8, .f32⟩
  | 5 => ⟨S8x4096x8x8, .f32⟩
  | 6 => ⟨S8x4096x8x8, .f32⟩
  | 7 => ⟨S8x4096x8x8, .f32⟩
  | 8 => ⟨S8x4096x8x8, .f32⟩
  | 9 => ⟨S8x4096x8x8, .f32⟩
  | 10 => ⟨S8x4096x8x8, .f32⟩
  | 11 => ⟨S8x4096x8x8, .f32⟩
  | 12 => ⟨S8x4096x8x8, .f32⟩
  | 13 => ⟨S8x4096x8x8, .f32⟩
  | 14 => ⟨S8x4096x8x8, .f32⟩
  | 15 => ⟨S8x4096x8x48, .f32⟩
  | 16 => ⟨S8x4096x8x64, .f32⟩
  | 17 => ⟨S8x4096x512, .f32⟩
  | 18 => ⟨S_, .f32⟩
  | 19 => ⟨S8x4096x512, .f32⟩
  | 20 => ⟨S8x4096x512, .f32⟩
  | 21 => ⟨S32768x512, .f32⟩
  | 22 => ⟨S32768x512, .bf16⟩
  | 23 => ⟨S32768x768, .f32⟩
  | 24 => ⟨S32768x768, .bf16⟩
  | 25 => ⟨S8x4096x2048, .f32⟩
  | 26 => ⟨S8x4096x2048, .f32⟩
  | 27 => ⟨S_, .f32⟩
  | 28 => ⟨S8x4096x2048, .f32⟩
  | 29 => ⟨S8x4096x2048, .f32⟩
  | 30 => ⟨S_, .f32⟩
  | 31 => ⟨S8x4096x2048, .f32⟩
  | 32 => ⟨S8x4096x2048, .f32⟩
  | 33 => ⟨S32768x2048, .f32⟩
  | 34 => ⟨S32768x2048, .bf16⟩
  | 35 => ⟨S32768x2x128, .f32⟩
  | 36 => ⟨S32768x2x128, .f32⟩
  | 37 => ⟨S_, .f32⟩
  | 38 => ⟨S32768x2x128, .f32⟩
  | 39 => ⟨S32768x2x128, .f32⟩
  | 40 => ⟨S_, .f32⟩
  | 41 => ⟨S32768x2x128, .f32⟩
  | 42 => ⟨S32768x2x128, .f32⟩
  | 43 => ⟨S32768x256, .f32⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_2 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_cst_4 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_cst_5 : Ref sig .tc := ⟨.hbm, 73, rfl⟩
abbrev main_v64 : Ref sig .tc := ⟨.hbm, 74, rfl⟩
abbrev main_v65 : Ref sig .tc := ⟨.hbm, 75, rfl⟩
abbrev main_cst_6 : Ref sig .tc := ⟨.hbm, 76, rfl⟩
abbrev main_v66 : Ref sig .tc := ⟨.hbm, 77, rfl⟩
abbrev main_v67 : Ref sig .tc := ⟨.hbm, 78, rfl⟩
abbrev main_cst_7 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_cst_8 : Ref sig .tc := ⟨.hbm, 111, rfl⟩
abbrev main_v99 : Ref sig .tc := ⟨.hbm, 112, rfl⟩
abbrev main_v100 : Ref sig .tc := ⟨.hbm, 113, rfl⟩
abbrev main_cst_9 : Ref sig .tc := ⟨.hbm, 114, rfl⟩
abbrev main_v101 : Ref sig .tc := ⟨.hbm, 115, rfl⟩
abbrev main_v102 : Ref sig .tc := ⟨.hbm, 116, rfl⟩
abbrev main_cst_10 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_c : Ref sig .tc := ⟨.hbm, 148, rfl⟩
abbrev main_call0_v0 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_cst_11 : Ref sig .tc := ⟨.hbm, 154, rfl⟩
abbrev main_v137 : Ref sig .tc := ⟨.hbm, 155, rfl⟩
abbrev main_v138 : Ref sig .tc := ⟨.hbm, 156, rfl⟩
abbrev main_cst_12 : Ref sig .tc := ⟨.hbm, 157, rfl⟩
abbrev main_v139 : Ref sig .tc := ⟨.hbm, 158, rfl⟩
abbrev main_v140 : Ref sig .tc := ⟨.hbm, 159, rfl⟩
abbrev main_cst_13 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_cst_14 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_cst_15 : Ref sig .tc := ⟨.hbm, 197, rfl⟩
abbrev main_v176 : Ref sig .tc := ⟨.hbm, 198, rfl⟩
abbrev main_v177 : Ref sig .tc := ⟨.hbm, 199, rfl⟩
abbrev main_cst_16 : Ref sig .tc := ⟨.hbm, 200, rfl⟩
abbrev main_v178 : Ref sig .tc := ⟨.hbm, 201, rfl⟩
abbrev main_v179 : Ref sig .tc := ⟨.hbm, 202, rfl⟩
abbrev main_cst_17 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_v190 : Ref sig .tc := ⟨.hbm, 214, rfl⟩
abbrev main_v191 : Ref sig .tc := ⟨.hbm, 215, rfl⟩
abbrev main_v192 : Ref sig .tc := ⟨.hbm, 216, rfl⟩
abbrev main_v193 : Ref sig .tc := ⟨.hbm, 217, rfl⟩
abbrev main_v194 : Ref sig .tc := ⟨.hbm, 218, rfl⟩
abbrev main_v195 : Ref sig .tc := ⟨.hbm, 219, rfl⟩
abbrev main_v196 : Ref sig .tc := ⟨.hbm, 220, rfl⟩
abbrev main_v197 : Ref sig .tc := ⟨.hbm, 221, rfl⟩
abbrev main_v198 : Ref sig .tc := ⟨.hbm, 222, rfl⟩
abbrev main_v199 : Ref sig .tc := ⟨.hbm, 223, rfl⟩
abbrev main_v200 : Ref sig .tc := ⟨.hbm, 224, rfl⟩
abbrev main_v201 : Ref sig .tc := ⟨.hbm, 225, rfl⟩
abbrev main_v202 : Ref sig .tc := ⟨.hbm, 226, rfl⟩
abbrev main_v203 : Ref sig .tc := ⟨.hbm, 227, rfl⟩
abbrev main_v204 : Ref sig .tc := ⟨.hbm, 228, rfl⟩
abbrev main_v205 : Ref sig .tc := ⟨.hbm, 229, rfl⟩
abbrev main_v206 : Ref sig .tc := ⟨.hbm, 230, rfl⟩
abbrev main_v207 : Ref sig .tc := ⟨.hbm, 231, rfl⟩
abbrev main_v208 : Ref sig .tc := ⟨.hbm, 232, rfl⟩
abbrev main_v209 : Ref sig .tc := ⟨.hbm, 233, rfl⟩
abbrev main_v210 : Ref sig .tc := ⟨.hbm, 234, rfl⟩
abbrev main_v211 : Ref sig .tc := ⟨.hbm, 235, rfl⟩
abbrev main_v212 : Ref sig .tc := ⟨.hbm, 236, rfl⟩
abbrev main_v213 : Ref sig .tc := ⟨.hbm, 237, rfl⟩
abbrev main_v214 : Ref sig .tc := ⟨.hbm, 238, rfl⟩
abbrev main_cst_18 : Ref sig .tc := ⟨.hbm, 239, rfl⟩
abbrev main_v215 : Ref sig .tc := ⟨.hbm, 240, rfl⟩
abbrev main_v216 : Ref sig .tc := ⟨.hbm, 241, rfl⟩
abbrev main_cst_19 : Ref sig .tc := ⟨.hbm, 242, rfl⟩
abbrev main_v217 : Ref sig .tc := ⟨.hbm, 243, rfl⟩
abbrev main_v218 : Ref sig .tc := ⟨.hbm, 244, rfl⟩
abbrev main_cst_20 : Ref sig .tc := ⟨.hbm, 245, rfl⟩
abbrev main_v219 : Ref sig .tc := ⟨.hbm, 246, rfl⟩
abbrev main_v220 : Ref sig .tc := ⟨.hbm, 247, rfl⟩
abbrev main_v221 : Ref sig .tc := ⟨.hbm, 248, rfl⟩
abbrev main_v222 : Ref sig .tc := ⟨.hbm, 249, rfl⟩
abbrev main_v223 : Ref sig .tc := ⟨.hbm, 250, rfl⟩
abbrev main_v224 : Ref sig .tc := ⟨.hbm, 251, rfl⟩
abbrev main_v225 : Ref sig .tc := ⟨.hbm, 252, rfl⟩
abbrev main_v226 : Ref sig .tc := ⟨.hbm, 253, rfl⟩
abbrev main_v227 : Ref sig .tc := ⟨.hbm, 254, rfl⟩
abbrev main_v228 : Ref sig .tc := ⟨.hbm, 255, rfl⟩
abbrev main_v229 : Ref sig .tc := ⟨.hbm, 256, rfl⟩
abbrev main_v230 : Ref sig .tc := ⟨.hbm, 257, rfl⟩
abbrev main_v231 : Ref sig .tc := ⟨.hbm, 258, rfl⟩
abbrev main_v232 : Ref sig .tc := ⟨.hbm, 259, rfl⟩
abbrev main_v233 : Ref sig .tc := ⟨.hbm, 260, rfl⟩
abbrev main_v234 : Ref sig .tc := ⟨.hbm, 261, rfl⟩
abbrev main_v235 : Ref sig .tc := ⟨.hbm, 262, rfl⟩
abbrev main_v236 : Ref sig .tc := ⟨.hbm, 263, rfl⟩
abbrev main_v237 : Ref sig .tc := ⟨.hbm, 264, rfl⟩
abbrev main_v238 : Ref sig .tc := ⟨.hbm, 265, rfl⟩
abbrev main_v239 : Ref sig .tc := ⟨.hbm, 266, rfl⟩
abbrev main_v240 : Ref sig .tc := ⟨.hbm, 267, rfl⟩
abbrev main_v241 : Ref sig .tc := ⟨.hbm, 268, rfl⟩
abbrev main_v242 : Ref sig .tc := ⟨.hbm, 269, rfl⟩
abbrev main_v243 : Ref sig .tc := ⟨.hbm, 270, rfl⟩
abbrev main_v244 : Ref sig .tc := ⟨.hbm, 271, rfl⟩
abbrev main_v245 : Ref sig .tc := ⟨.hbm, 272, rfl⟩
abbrev main_v246 : Ref sig .tc := ⟨.hbm, 273, rfl⟩
abbrev main_cst_21 : Ref sig .tc := ⟨.hbm, 274, rfl⟩
abbrev main_v247 : Ref sig .tc := ⟨.hbm, 275, rfl⟩
abbrev main_v248 : Ref sig .tc := ⟨.hbm, 276, rfl⟩
abbrev main_v249 : Ref sig .tc := ⟨.hbm, 277, rfl⟩
abbrev main_v250 : Ref sig .tc := ⟨.hbm, 278, rfl⟩
abbrev main_v251 : Ref sig .tc := ⟨.hbm, 279, rfl⟩
abbrev main_v252 : Ref sig .tc := ⟨.hbm, 280, rfl⟩
abbrev main_v253 : Ref sig .tc := ⟨.hbm, 281, rfl⟩
abbrev main_v254 : Ref sig .tc := ⟨.hbm, 282, rfl⟩
abbrev main_cst_22 : Ref sig .tc := ⟨.hbm, 283, rfl⟩
abbrev main_v255 : Ref sig .tc := ⟨.hbm, 284, rfl⟩
abbrev main_v256 : Ref sig .tc := ⟨.hbm, 285, rfl⟩
abbrev main_cst_23 : Ref sig .tc := ⟨.hbm, 286, rfl⟩
abbrev main_v257 : Ref sig .tc := ⟨.hbm, 287, rfl⟩
abbrev main_v258 : Ref sig .tc := ⟨.hbm, 288, rfl⟩
abbrev main_v259 : Ref sig .tc := ⟨.hbm, 289, rfl⟩
abbrev main_v260 : Ref sig .tc := ⟨.hbm, 290, rfl⟩
abbrev main_v261 : Ref sig .tc := ⟨.hbm, 291, rfl⟩
abbrev main_v262 : Ref sig .tc := ⟨.hbm, 292, rfl⟩
abbrev main_cst_24 : Ref sig .tc := ⟨.hbm, 293, rfl⟩
abbrev main_v263 : Ref sig .tc := ⟨.hbm, 294, rfl⟩
abbrev main_v264 : Ref sig .tc := ⟨.hbm, 295, rfl⟩
abbrev main_cst_25 : Ref sig .tc := ⟨.hbm, 296, rfl⟩
abbrev main_v265 : Ref sig .tc := ⟨.hbm, 297, rfl⟩
abbrev main_v266 : Ref sig .tc := ⟨.hbm, 298, rfl⟩
abbrev main_v267 : Ref sig .tc := ⟨.hbm, 299, rfl⟩

abbrev nD : Nat := 1
abbrev τ : Topo := Topo.v7x

variable {F : FTy → Type} [FloatOps F]
-- ==== Kernel4.lean ====
abbrev S8x2x4x4096x64 : Shape := ⟨5, ![8, 2, 4, 4096, 64]⟩
abbrev S8x2x4096x64 : Shape := ⟨4, ![8, 2, 4096, 64]⟩
abbrev S8x4096x256 : Shape := ⟨3, ![8, 4096, 256]⟩
abbrev S1 : Shape := ⟨1, ![1]⟩
abbrev S_ : Shape := ⟨0, ![]⟩
abbrev S8x2x4x4096x128 : Shape := ⟨5, ![8, 2, 4, 4096, 128]⟩
abbrev S8x2x4096x128 : Shape := ⟨4, ![8, 2, 4096, 128]⟩
abbrev S4096 : Shape := ⟨1, ![4096]⟩
abbrev S4096x1 : Shape := ⟨2, ![4096, 1]⟩
abbrev S64 : Shape := ⟨1, ![64]⟩
abbrev S1x64 : Shape := ⟨2, ![1, 64]⟩
abbrev S4096x64 : Shape := ⟨2, ![4096, 64]⟩
abbrev S1x1x4x256x128 : Shape := ⟨5, ![1, 1, 4, 256, 128]⟩
abbrev S1x1x256x128 : Shape := ⟨4, ![1, 1, 256, 128]⟩
abbrev S1x1x4096x128 : Shape := ⟨4, ![1, 1, 4096, 128]⟩
abbrev S1x1x4096x64 : Shape := ⟨4, ![1, 1, 4096, 64]⟩
abbrev S1x1x4x256x64 : Shape := ⟨5, ![1, 1, 4, 256, 64]⟩
abbrev S1x256x128 : Shape := ⟨3, ![1, 256, 128]⟩
abbrev S1024x1 : Shape := ⟨2, ![1024, 1]⟩
abbrev S1024x64 : Shape := ⟨2, ![1024, 64]⟩
abbrev S4x256x128 : Shape := ⟨3, ![4, 256, 128]⟩
abbrev S1024x128 : Shape := ⟨2, ![1024, 128]⟩
abbrev S256x128 : Shape := ⟨2, ![256, 128]⟩
abbrev S1024x256 : Shape := ⟨2, ![1024, 256]⟩
abbrev S1x1x256x64 : Shape := ⟨4, ![1, 1, 256, 64]⟩
abbrev S256x64 : Shape := ⟨2, ![256, 64]⟩
abbrev S1024 : Shape := ⟨1, ![1024]⟩
abbrev S256x1 : Shape := ⟨2, ![256, 1]⟩
abbrev S1x1x1x256x64 : Shape := ⟨5, ![1, 1, 1, 256, 64]⟩

abbrev nBuf : Space → Nat
  | .hbm => 56
  | .vmem => 21
  | .smem => 0
  | _ => 0

abbrev bufTy : (tb : Table) → Fin (tcTables nBuf tb) → BufTy
  | .hbm, ⟨0, _⟩ => ⟨S8x2x4x4096x64, .bf16⟩
  | .hbm, ⟨1, _⟩ => ⟨S8x2x4096x64, .i32⟩
  | .hbm, ⟨2, _⟩ => ⟨S8x2x4096x64, .bf16⟩
  | .hbm, ⟨3, _⟩ => ⟨S8x2x4096x64, .bf16⟩
  | .hbm, ⟨4, _⟩ => ⟨S8x2x4096x64, .bf16⟩
  | .hbm, ⟨5, _⟩ => ⟨S8x2x4096x64, .bf16⟩
  | .hbm, ⟨6, _⟩ => ⟨S8x2x4x4096x64, .f32⟩
  | .hbm, ⟨7, _⟩ => ⟨S8x4096x256, .f32⟩
  | .hbm, ⟨8, _⟩ => ⟨S1, .f32⟩
  | .hbm, ⟨9, _⟩ => ⟨S_, .bf16⟩
  | .hbm, ⟨10, _⟩ => ⟨S8x2x4x4096x64, .bf16⟩
  | .hbm, ⟨11, _⟩ => ⟨S8x2x4x4096x128, .bf16⟩
  | .hbm, ⟨12, _⟩ => ⟨S_, .i32⟩
  | .hbm, ⟨13, _⟩ => ⟨S8x2x4096x64, .i32⟩
  | .hbm, ⟨14, _⟩ => ⟨S8x2x4096x128, .i32⟩
  | .hbm, ⟨15, _⟩ => ⟨S_, .i32⟩
  | .hbm, ⟨16, _⟩ => ⟨S8x2x4096x128, .i32⟩
  | .hbm, ⟨17, _⟩ => ⟨S8x2x4096x128, .i1⟩
  | .hbm, ⟨18, _⟩ => ⟨S_, .f32⟩
  | .hbm, ⟨19, _⟩ => ⟨S_, .f32⟩
  | .hbm, ⟨20, _⟩ => ⟨S8x2x4096x128, .f32⟩
  | .hbm, ⟨21, _⟩ => ⟨S8x2x4096x128, .f32⟩
  | .hbm, ⟨22, _⟩ => ⟨S8x2x4096x128, .f32⟩
  | .hbm, ⟨23, _⟩ => ⟨S8x2x4096x128, .bf16⟩
  | .hbm, ⟨24, _⟩ => ⟨S4096, .i32⟩
  | .hbm, ⟨25, _⟩ => ⟨S4096x1, .i32⟩
  | .hbm, ⟨26, _⟩ => ⟨S_, .i32⟩
  | .hbm, ⟨27, _⟩ => ⟨S_, .i32⟩
  | .hbm, ⟨28, _⟩ => ⟨S4096x1, .i32⟩
  | .hbm, ⟨29, _⟩ => ⟨S4096x1, .i32⟩
  | .hbm, ⟨30, _⟩ => ⟨S4096x1, .i32⟩
  | .hbm, ⟨31, _⟩ => ⟨S_, .i32⟩
  | .hbm, ⟨32, _⟩ => ⟨S4096x1, .i32⟩
  | .hbm, ⟨33, _⟩ => ⟨S4096x1, .i1⟩
  | .hbm, ⟨34, _⟩ => ⟨S4096x1, .i32⟩
  | .hbm, ⟨35, _⟩ => ⟨S4096x1, .i32⟩
  | .hbm, ⟨36, _⟩ => ⟨S_, .i32⟩
  | .hbm, ⟨37, _⟩ => ⟨S4096x1, .i32⟩
  | .hbm, ⟨38, _⟩ => ⟨S4096x1, .i1⟩
  | .hbm, ⟨39, _⟩ => ⟨S4096x1, .i1⟩
  | .hbm, ⟨40, _⟩ => ⟨S_, .i32⟩
  | .hbm, ⟨41, _⟩ => ⟨S4096x1, .i32⟩
  | .hbm, ⟨42, _⟩ => ⟨S4096x1, .i32⟩
  | .hbm, ⟨43, _⟩ => ⟨S4096x1, .i32⟩
  | .hbm, ⟨44, _⟩ => ⟨S64, .i32⟩
  | .hbm, ⟨45, _⟩ => ⟨S1x64, .i32⟩
  | .hbm, ⟨46, _⟩ => ⟨S4096x64, .i32⟩
  | .hbm, ⟨47, _⟩ => ⟨S4096x64, .i32⟩
  | .hbm, ⟨48, _⟩ => ⟨S4096x64, .i1⟩
  | .hbm, ⟨49, _⟩ => ⟨S4096x64, .bf16⟩
  | .hbm, ⟨50, _⟩ => ⟨S8x2x4096x64, .bf16⟩
  | .hbm, ⟨51, _⟩ => ⟨S8x2x4096x128, .bf16⟩
  | .hbm, ⟨52, _⟩ => ⟨S_, .bf16⟩
  | .hbm, ⟨53, _⟩ => ⟨S8x2x4096x64, .bf16⟩
  | .hbm, ⟨54, _⟩ => ⟨S8x2x4096x128, .bf16⟩
  | .hbm, ⟨55, _⟩ => ⟨S8x2x4x4096x64, .bf16⟩
  | .local _ .vmem, ⟨0, _⟩ => ⟨S1x1x4x256x128, .bf16⟩
  | .local _ .vmem, ⟨1, _⟩ => ⟨S1x1x4x256x128, .bf16⟩
  | .local _ .vmem, ⟨2, _⟩ => ⟨S1x1x256x128, .bf16⟩
  | .local _ .vmem, ⟨3, _⟩ => ⟨S1x1x256x128, .bf16⟩
  | .local _ .vmem, ⟨4, _⟩ => ⟨S1x1x4096x128, .bf16⟩
  | .local _ .vmem, ⟨5, _⟩ => ⟨S1x1x4096x128, .bf16⟩
  | .local _ .vmem, ⟨6, _⟩ => ⟨S1x1x4096x64, .bf16⟩
  | .local _ .vmem, ⟨7, _⟩ => ⟨S1x1x4096x64, .bf16⟩
  | .local _ .vmem, ⟨8, _⟩ => ⟨S1x1x4096x128, .bf16⟩
  | .local _ .vmem, ⟨9, _⟩ => ⟨S1x1x4096x128, .bf16⟩
  | .local _ .vmem, ⟨10, _⟩ => ⟨S1x1x4096x64, .bf16⟩
  | .local _ .vmem, ⟨11, _⟩ => ⟨S1x1x4096x64, .bf16⟩
  | .local _ .vmem, ⟨12, _⟩ => ⟨S1x1x4x256x64, .f32⟩
  | .local _ .vmem, ⟨13, _⟩ => ⟨S1x1x4x256x64, .f32⟩
  | .local _ .vmem, ⟨14, _⟩ => ⟨S1x256x128, .f32⟩
  | .local _ .vmem, ⟨15, _⟩ => ⟨S1x256x128, .f32⟩
  | .local _ .vmem, ⟨16, _⟩ => ⟨S1x1x4x256x64, .bf16⟩
  | .local _ .vmem, ⟨17, _⟩ => ⟨S1x1x4x256x64, .bf16⟩
  | .local _ .vmem, ⟨18, _⟩ => ⟨S1024x1, .f32⟩
  | .local _ .vmem, ⟨19, _⟩ => ⟨S1024x1, .f32⟩
  | .local _ .vmem, ⟨20, _⟩ => ⟨S1024x64, .f32⟩
  | _, _ => ⟨S8x2x4x4096x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c_2 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_c : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_0 : Ref sig .tc := ⟨.hbm, 40, rfl⟩
abbrev main_call1_v12 : Ref sig .tc := ⟨.hbm, 41, rfl⟩
abbrev main_call1_v13 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_cst_3 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![8, 2, 16], ![false, false, false]⟩

@[reducible] def k0_t1_loop (i : grid0.Coords) : Scf.Loop 32 :=
  let c0_i32_16 : BitVec 32 := 0#32
  let arg2 : BitVec 32 := BitVec.ofNat 32 (i 2).val
  let v26 : BitVec 32 := Scalar.subi arg2 c0_i32_16
  let c1_i32 : BitVec 32 := 1#32
  let v28 : BitVec 32 := Scalar.divsi v26 c1_i32
  let v29 : BitVec 32 := Scalar.muli v28 c1_i32
  let v30 : BitVec 32 := Scalar.addi c0_i32_16 v29
  let c1_i32_17 : BitVec 32 := 1#32
  ⟨c0_i32_16, v30, c1_i32_17⟩
def k0_mult1 (i : grid0.Coords) (k0_t1 : Fin (k0_t1_loop i).trips) : BitVec 32 :=
  let c0_i32_16 : BitVec 32 := 0#32
  let c1_i32_17 : BitVec 32 := 1#32
  let arg15 : BitVec 32 := Scf.iv c0_i32_16 c1_i32_17 k0_t1
  let c256_i32_110 : BitVec 32 := 256#32
  let v187 : BitVec 32 := Scalar.muli arg15 c256_i32_110
  v187
def k0_off1 (i : grid0.Coords) (k0_t1 : Fin (k0_t1_loop i).trips) : Fin 4 → Nat :=
  let c0_111 : Index := 0#32
  let c0_112 : Index := 0#32
  let c0_i32_16 : BitVec 32 := 0#32
  let c1_i32_17 : BitVec 32 := 1#32
  let arg15 : BitVec 32 := Scf.iv c0_i32_16 c1_i32_17 k0_t1
  let c256_i32_110 : BitVec 32 := 256#32
  let v187 : BitVec 32 := Scalar.muli arg15 c256_i32_110
  let v188 : BitVec 32 := v187
  let v189 : Index := Scalar.indexCast v188
  let c0_113 : Index := 0#32
  ![0, 0, v189.toNat, 0]
def k0_mult2 (i : grid0.Coords) (k0_t1 : Fin (k0_t1_loop i).trips) : BitVec 32 :=
  let c0_i32_16 : BitVec 32 := 0#32
  let c1_i32_17 : BitVec 32 := 1#32
  let arg15 : BitVec 32 := Scf.iv c0_i32_16 c1_i32_17 k0_t1
  let c256_i32_115 : BitVec 32 := 256#32
  let v193 : BitVec 32 := Scalar.muli arg15 c256_i32_115
  v193
def k0_off2 (i : grid0.Coords) (k0_t1 : Fin (k0_t1_loop i).trips) : Fin 4 → Nat :=
  let c0_116 : Index := 0#32
  let c0_117 : Index := 0#32
  let c0_i32_16 : BitVec 32 := 0#32
  let c1_i32_17 : BitVec 32 := 1#32
  let arg15 : BitVec 32 := Scf.iv c0_i32_16 c1_i32_17 k0_t1
  let c256_i32_115 : BitVec 32 := 256#32
  let v193 : BitVec 32 := Scalar.muli arg15 c256_i32_115
  let v194 : BitVec 32 := v193
  let v195 : Index := Scalar.indexCast v194
  let c0_118 : Index := 0#32
  ![0, 0, v195.toNat, 0]
@[reducible] def k0_t2_loop (i : grid0.Coords) : Scf.Loop 32 :=
  let c0_i32_16 : BitVec 32 := 0#32
  let arg2 : BitVec 32 := BitVec.ofNat 32 (i 2).val
  let v26 : BitVec 32 := Scalar.subi arg2 c0_i32_16
  let c1_i32 : BitVec 32 := 1#32
  let v28 : BitVec 32 := Scalar.divsi v26 c1_i32
  let v29 : BitVec 32 := Scalar.muli v28 c1_i32
  let v30 : BitVec 32 := Scalar.addi c0_i32_16 v29
  let v27 : BitVec 32 := Scalar.addi c0_i32_16 v26
  let c1_i32_18 : BitVec 32 := 1#32
  ⟨v30, v27, c1_i32_18⟩
def k0_mult3 (i : grid0.Coords) (k0_t2 : Fin (k0_t2_loop i).trips) : BitVec 32 :=
  let c0_i32_16 : BitVec 32 := 0#32
  let arg2 : BitVec 32 := BitVec.ofNat 32 (i 2).val
  let v26 : BitVec 32 := Scalar.subi arg2 c0_i32_16
  let c1_i32 : BitVec 32 := 1#32
  let v28 : BitVec 32 := Scalar.divsi v26 c1_i32
  let v29 : BitVec 32 := Scalar.muli v28 c1_i32
  let v30 : BitVec 32 := Scalar.addi c0_i32_16 v29
  let c1_i32_18 : BitVec 32 := 1#32
  let arg15 : BitVec 32 := Scf.iv v30 c1_i32_18 k0_t2
  let c256_i32_110 : BitVec 32 := 256#32
  let v187 : BitVec 32 := Scalar.muli arg15 c256_i32_110
  v187
def k0_off3 (i : grid0.Coords) (k0_t2 : Fin (k0_t2_loop i).trips) : Fin 4 → Nat :=
  let c0_111 : Index := 0#32
  let c0_112 : Index := 0#32
  let c0_i32_16 : BitVec 32 := 0#32
  let arg2 : BitVec 32 := BitVec.ofNat 32 (i 2).val
  let v26 : BitVec 32 := Scalar.subi arg2 c0_i32_16
  let c1_i32 : BitVec 32 := 1#32
  let v28 : BitVec 32 := Scalar.divsi v26 c1_i32
  let v29 : BitVec 32 := Scalar.muli v28 c1_i32
  let v30 : BitVec 32 := Scalar.addi c0_i32_16 v29
  let c1_i32_18 : BitVec 32 := 1#32
  let arg15 : BitVec 32 := Scf.iv v30 c1_i32_18 k0_t2
  let c256_i32_110 : BitVec 32 := 256#32
  let v187 : BitVec 32 := Scalar.muli arg15 c256_i32_110
  let v188 : BitVec 32 := v187
  let v189 : Index := Scalar.indexCast v188
  let c0_113 : Index := 0#32
  ![0, 0, v189.toNat, 0]
def k0_mult4 (i : grid0.Coords) (k0_t2 : Fin (k0_t2_loop i).trips) : BitVec 32 :=
  let c0_i32_16 : BitVec 32 := 0#32
  let arg2 : BitVec 32 := BitVec.ofNat 32 (i 2).val
  let v26 : BitVec 32 := Scalar.subi arg2 c0_i32_16
  let c1_i32 : BitVec 32 := 1#32
  let v28 : BitVec 32 := Scalar.divsi v26 c1_i32
  let v29 : BitVec 32 := Scalar.muli v28 c1_i32
  let v30 : BitVec 32 := Scalar.addi c0_i32_16 v29
  let c1_i32_18 : BitVec 32 := 1#32
  let arg15 : BitVec 32 := Scf.iv v30 c1_i32_18 k0_t2
  let c256_i32_115 : BitVec 32 := 256#32
  let v193 : BitVec 32 := Scalar.muli arg15 c256_i32_115
  v193
def k0_off4 (i : grid0.Coords) (k0_t2 : Fin (k0_t2_loop i).trips) : Fin 4 → Nat :=
  let c0_116 : Index := 0#32
  let c0_117 : Index := 0#32
  let c0_i32_16 : BitVec 32 := 0#32
  let arg2 : BitVec 32 := BitVec.ofNat 32 (i 2).val
  let v26 : BitVec 32 := Scalar.subi arg2 c0_i32_16
  let c1_i32 : BitVec 32 := 1#32
  let v28 : BitVec 32 := Scalar.divsi v26 c1_i32
  let v29 : BitVec 32 := Scalar.muli v28 c1_i32
  let v30 : BitVec 32 := Scalar.addi c0_i32_16 v29
  let c1_i32_18 : BitVec 32 := 1#32
  let arg15 : BitVec 32 := Scf.iv v30 c1_i32_18 k0_t2
  let c256_i32_115 : BitVec 32 := 256#32
  let v193 : BitVec 32 := Scalar.muli arg15 c256_i32_115
  let v194 : BitVec 32 := v193
  let v195 : Index := Scalar.indexCast v194
  let c0_118 : Index := 0#32
  ![0, 0, v195.toNat, 0]
def k0_mult5 (i : grid0.Coords) : BitVec 32 :=
  let arg2 : BitVec 32 := BitVec.ofNat 32 (i 2).val
  let c256_i32_19 : BitVec 32 := 256#32
  let v31 : BitVec 32 := Scalar.muli arg2 c256_i32_19
  v31
def k0_off5 (i : grid0.Coords) : Fin 4 → Nat :=
  let c0_20 : Index := 0#32
  let c0_21 : Index := 0#32
  let arg2 : BitVec 32 := BitVec.ofNat 32 (i 2).val
  let c256_i32_19 : BitVec 32 := 256#32
  let v31 : BitVec 32 := Scalar.muli arg2 c256_i32_19
  let v32 : BitVec 32 := v31
  let v33 : Index := Scalar.indexCast v32
  let c0_22 : Index := 0#32
  ![0, 0, v33.toNat, 0]
def k0_mult6 (i : grid0.Coords) : BitVec 32 :=
  let arg2 : BitVec 32 := BitVec.ofNat 32 (i 2).val
  let c256_i32_26 : BitVec 32 := 256#32
  let v43 : BitVec 32 := Scalar.muli arg2 c256_i32_26
  v43
def k0_off6 (i : grid0.Coords) : Fin 4 → Nat :=
  let c0_27 : Index := 0#32
  let c0_28 : Index := 0#32
  let arg2 : BitVec 32 := BitVec.ofNat 32 (i 2).val
  let c256_i32_26 : BitVec 32 := 256#32
  let v43 : BitVec 32 := Scalar.muli arg2 c256_i32_26
  let v44 : BitVec 32 := v43
  let v45 : Index := Scalar.indexCast v44
  let c0_29 : Index := 0#32
  ![0, 0, v45.toNat, 0]
def k0_cond1 (i : grid0.Coords) : BitVec 1 :=
  let arg2 : BitVec 32 := BitVec.ofNat 32 (i 2).val
  let c2_i32 : BitVec 32 := 2#32
  let v93 : BitVec 32 := Scalar.subi arg2 c2_i32
  let c0_i32_58 : BitVec 32 := 0#32
  let v94 : BitVec 1 := Scalar.cmpi .sge v93 c0_i32_58
  let v95 : BitVec 32 := Scalar.extui v94
  let c0_i32_59 : BitVec 32 := 0#32
  let v96 : BitVec 1 := Scalar.cmpi .ne v95 c0_i32_59
  v96

def k0_mult7 (i : grid0.Coords) : BitVec 32 :=
  let arg2 : BitVec 32 := BitVec.ofNat 32 (i 2).val
  let c2_i32 : BitVec 32 := 2#32
  let v93 : BitVec 32 := Scalar.subi arg2 c2_i32
  let c0_i32_111 : BitVec 32 := 0#32
  let v190 : BitVec 32 := Scalar.maxsi v93 c0_i32_111
  let c256_i32_112 : BitVec 32 := 256#32
  let v191 : BitVec 32 := Scalar.muli v190 c256_i32_112
  v191
def k0_off7 (i : grid0.Coords) : Fin 4 → Nat :=
  let c0_113 : Index := 0#32
  let c0_114 : Index := 0#32
  let arg2 : BitVec 32 := BitVec.ofNat 32 (i 2).val
  let c2_i32 : BitVec 32 := 2#32
  let v93 : BitVec 32 := Scalar.subi arg2 c2_i32
  let c0_i32_111 : BitVec 32 := 0#32
  let v190 : BitVec 32 := Scalar.maxsi v93 c0_i32_111
  let c256_i32_112 : BitVec 32 := 256#32
  let v191 : BitVec 32 := Scalar.muli v190 c256_i32_112
  let v192 : BitVec 32 := v191
  let v193 : Index := Scalar.indexCast v192
  let c0_115 : Index := 0#32
  ![0, 0, v193.toNat, 0]
def k0_mult8 (i : grid0.Coords) : BitVec 32 :=
  let arg2 : BitVec 32 := BitVec.ofNat 32 (i 2).val
  let c2_i32 : BitVec 32 := 2#32
  let v93 : BitVec 32 := Scalar.subi arg2 c2_i32
  let c0_i32_118 : BitVec 32 := 0#32
  let v204 : BitVec 32 := Scalar.maxsi v93 c0_i32_118
  let c256_i32_119 : BitVec 32 := 256#32
  let v205 : BitVec 32 := Scalar.muli v204 c256_i32_119
  v205
def k0_off8 (i : grid0.Coords) : Fin 4 → Nat :=
  let c0_120 : Index := 0#32
  let c0_121 : Index := 0#32
  let arg2 : BitVec 32 := BitVec.ofNat 32 (i 2).val
  let c2_i32 : BitVec 32 := 2#32
  let v93 : BitVec 32 := Scalar.subi arg2 c2_i32
  let c0_i32_118 : BitVec 32 := 0#32
  let v204 : BitVec 32 := Scalar.maxsi v93 c0_i32_118
  let c256_i32_119 : BitVec 32 := 256#32
  let v205 : BitVec 32 := Scalar.muli v204 c256_i32_119
  let v206 : BitVec 32 := v205
  let v207 : Index := Scalar.indexCast v206
  let c0_122 : Index := 0#32
  ![0, 0, v207.toNat, 0]
def k0_cond2 (i : grid0.Coords) : BitVec 1 :=
  let arg2 : BitVec 32 := BitVec.ofNat 32 (i 2).val
  let c1_i32_60 : BitVec 32 := 1#32
  let v97 : BitVec 32 := Scalar.subi arg2 c1_i32_60
  let c0_i32_61 : BitVec 32 := 0#32
  let v98 : BitVec 1 := Scalar.cmpi .sge v97 c0_i32_61
  let v99 : BitVec 32 := Scalar.extui v98
  let c0_i32_62 : BitVec 32 := 0#32
  let v100 : BitVec 1 := Scalar.cmpi .ne v99 c0_i32_62
  v100

def k0_mult9 (i : grid0.Coords) : BitVec 32 :=
  let arg2 : BitVec 32 := BitVec.ofNat 32 (i 2).val
  let c1_i32_60 : BitVec 32 := 1#32
  let v97 : BitVec 32 := Scalar.subi arg2 c1_i32_60
  let c0_i32_111 : BitVec 32 := 0#32
  let v190 : BitVec 32 := Scalar.maxsi v97 c0_i32_111
  let c256_i32_112 : BitVec 32 := 256#32
  let v191 : BitVec 32 := Scalar.muli v190 c256_i32_112
  v191
def k0_off9 (i : grid0.Coords) : Fin 4 → Nat :=
  let c0_113 : Index := 0#32
  let c0_114 : Index := 0#32
  let arg2 : BitVec 32 := BitVec.ofNat 32 (i 2).val
  let c1_i32_60 : BitVec 32 := 1#32
  let v97 : BitVec 32 := Scalar.subi arg2 c1_i32_60
  let c0_i32_111 : BitVec 32 := 0#32
  let v190 : BitVec 32 := Scalar.maxsi v97 c0_i32_111
  let c256_i32_112 : BitVec 32 := 256#32
  let v191 : BitVec 32 := Scalar.muli v190 c256_i32_112
  let v192 : BitVec 32 := v191
  let v193 : Index := Scalar.indexCast v192
  let c0_115 : Index := 0#32
  ![0, 0, v193.toNat, 0]
def k0_mult10 (i : grid0.Coords) : BitVec 32 :=
  let arg2 : BitVec 32 := BitVec.ofNat 32 (i 2).val
  let c1_i32_60 : BitVec 32 := 1#32
  let v97 : BitVec 32 := Scalar.subi arg2 c1_i32_60
  let c0_i32_118 : BitVec 32 := 0#32
  let v204 : BitVec 32 := Scalar.maxsi v97 c0_i32_118
  let c256_i32_119 : BitVec 32 := 256#32
  let v205 : BitVec 32 := Scalar.muli v204 c256_i32_119
  v205
def k0_off10 (i : grid0.Coords) : Fin 4 → Nat :=
  let c0_120 : Index := 0#32
  let c0_121 : Index := 0#32
  let arg2 : BitVec 32 := BitVec.ofNat 32 (i 2).val
  let c1_i32_60 : BitVec 32 := 1#32
  let v97 : BitVec 32 := Scalar.subi arg2 c1_i32_60
  let c0_i32_118 : BitVec 32 := 0#32
  let v204 : BitVec 32 := Scalar.maxsi v97 c0_i32_118
  let c256_i32_119 : BitVec 32 := 256#32
  let v205 : BitVec 32 := Scalar.muli v204 c256_i32_119
  let v206 : BitVec 32 := v205
  let v207 : Index := Scalar.indexCast v206
  let c0_122 : Index := 0#32
  ![0, 0, v207.toNat, 0]
def k0_cond3 (i : grid0.Coords) : BitVec 1 :=
  let arg2 : BitVec 32 := BitVec.ofNat 32 (i 2).val
  let c0_i32_63 : BitVec 32 := 0#32
  let v101 : BitVec 32 := Scalar.subi arg2 c0_i32_63
  let c0_i32_64 : BitVec 32 := 0#32
  let v102 : BitVec 1 := Scalar.cmpi .sge v101 c0_i32_64
  let v103 : BitVec 32 := Scalar.extui v102
  let c0_i32_65 : BitVec 32 := 0#32
  let v104 : BitVec 1 := Scalar.cmpi .ne v103 c0_i32_65
  v104

def k0_mult11 (i : grid0.Coords) : BitVec 32 :=
  let arg2 : BitVec 32 := BitVec.ofNat 32 (i 2).val
  let c0_i32_63 : BitVec 32 := 0#32
  let v101 : BitVec 32 := Scalar.subi arg2 c0_i32_63
  let c0_i32_111 : BitVec 32 := 0#32
  let v190 : BitVec 32 := Scalar.maxsi v101 c0_i32_111
  let c256_i32_112 : BitVec 32 := 256#32
  let v191 : BitVec 32 := Scalar.muli v190 c256_i32_112
  v191
def k0_off11 (i : grid0.Coords) : Fin 4 → Nat :=
  let c0_113 : Index := 0#32
  let c0_114 : Index := 0#32
  let arg2 : BitVec 32 := BitVec.ofNat 32 (i 2).val
  let c0_i32_63 : BitVec 32 := 0#32
  let v101 : BitVec 32 := Scalar.subi arg2 c0_i32_63
  let c0_i32_111 : BitVec 32 := 0#32
  let v190 : BitVec 32 := Scalar.maxsi v101 c0_i32_111
  let c256_i32_112 : BitVec 32 := 256#32
  let v191 : BitVec 32 := Scalar.muli v190 c256_i32_112
  let v192 : BitVec 32 := v191
  let v193 : Index := Scalar.indexCast v192
  let c0_115 : Index := 0#32
  ![0, 0, v193.toNat, 0]
def k0_mult12 (i : grid0.Coords) : BitVec 32 :=
  let arg2 : BitVec 32 := BitVec.ofNat 32 (i 2).val
  let c0_i32_63 : BitVec 32 := 0#32
  let v101 : BitVec 32 := Scalar.subi arg2 c0_i32_63
  let c0_i32_118 : BitVec 32 := 0#32
  let v204 : BitVec 32 := Scalar.maxsi v101 c0_i32_118
  let c256_i32_119 : BitVec 32 := 256#32
  let v205 : BitVec 32 := Scalar.muli v204 c256_i32_119
  v205
def k0_off12 (i : grid0.Coords) : Fin 4 → Nat :=
  let c0_120 : Index := 0#32
  let c0_121 : Index := 0#32
  let arg2 : BitVec 32 := BitVec.ofNat 32 (i 2).val
  let c0_i32_63 : BitVec 32 := 0#32
  let v101 : BitVec 32 := Scalar.subi arg2 c0_i32_63
  let c0_i32_118 : BitVec 32 := 0#32
  let v204 : BitVec 32 := Scalar.maxsi v101 c0_i32_118
  let c256_i32_119 : BitVec 32 := 256#32
  let v205 : BitVec 32 := Scalar.muli v204 c256_i32_119
  let v206 : BitVec 32 := v205
  let v207 : Index := Scalar.indexCast v206
  let c0_122 : Index := 0#32
  ![0, 0, v207.toNat, 0]
def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, arg2.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, arg2.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_8 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, arg2.toNat, c0_i32_0.toNat]

abbrev stage0_0 : Fin 2 → Memref sig .tc .vmem S1x1x4x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x4096x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x4096x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x4x256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x4x256x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== Kernel4Ideal.lean ====
variable {F : FTy → Type} [FloatOps F] [Named F]
def κ : String → Option EReal := fun
  | "mask" => some ⊥
  | _ => none
-- ==== Reference4Ideal.lean ====
abbrev S8x2x4x4096x64 : Shape := ⟨5, ![8, 2, 4, 4096, 64]⟩
abbrev S8x2x4096x64 : Shape := ⟨4, ![8, 2, 4096, 64]⟩
abbrev S8x4096x256 : Shape := ⟨3, ![8, 4096, 256]⟩
abbrev S1 : Shape := ⟨1, ![1]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S8x2x4096x64x64 : Shape := ⟨5, ![8, 2, 4096, 64, 64]⟩
abbrev S8x2x4096x4096 : Shape := ⟨4, ![8, 2, 4096, 4096]⟩
abbrev S8x2x1x4096x4096 : Shape := ⟨5, ![8, 2, 1, 4096, 4096]⟩
abbrev S1x1x1x4096x4096 : Shape := ⟨5, ![1, 1, 1, 4096, 4096]⟩
abbrev S8x2x4x4096x4096 : Shape := ⟨5, ![8, 2, 4, 4096, 4096]⟩
abbrev S8x2x4x4096 : Shape := ⟨4, ![8, 2, 4, 4096]⟩
abbrev S8x2x4x4096x1 : Shape := ⟨5, ![8, 2, 4, 4096, 1]⟩
abbrev S8x4096x2x128 : Shape := ⟨4, ![8, 4096, 2, 128]⟩
abbrev S8x4096x2x12 : Shape := ⟨4, ![8, 4096, 2, 12]⟩
abbrev S8x4096x2x4x3 : Shape := ⟨5, ![8, 4096, 2, 4, 3]⟩
abbrev S8x2x4x4096x3 : Shape := ⟨5, ![8, 2, 4, 4096, 3]⟩

abbrev nBuf : Space → Nat
  | .hbm => 96
  | .vmem => 0
  | .smem => 0
  | _ => 0

abbrev bufTy : (tb : Table) → Fin (tcTables nBuf tb) → BufTy
  | .hbm, ⟨0, _⟩ => ⟨S8x2x4x4096x64, .bf16⟩
  | .hbm, ⟨1, _⟩ => ⟨S8x2x4096x64, .i32⟩
  | .hbm, ⟨2, _⟩ => ⟨S8x2x4096x64, .bf16⟩
  | .hbm, ⟨3, _⟩ => ⟨S8x2x4096x64, .bf16⟩
  | .hbm, ⟨4, _⟩ => ⟨S8x2x4096x64, .bf16⟩
  | .hbm, ⟨5, _⟩ => ⟨S8x2x4096x64, .bf16⟩
  | .hbm, ⟨6, _⟩ => ⟨S8x2x4x4096x64, .f32⟩
  | .hbm, ⟨7, _⟩ => ⟨S8x4096x256, .f32⟩
  | .hbm, ⟨8, _⟩ => ⟨S1, .f32⟩
  | .hbm, ⟨9, _⟩ => ⟨S8x2x4x4096x64, .f32⟩
  | .hbm, ⟨10, _⟩ => ⟨S8x2x4096x64, .f32⟩
  | .hbm, ⟨11, _⟩ => ⟨S8x2x4096x64, .f32⟩
  | .hbm, ⟨12, _⟩ => ⟨S8x2x4096x64, .f32⟩
  | .hbm, ⟨13, _⟩ => ⟨S8x2x4096x64, .f32⟩
  | .hbm, ⟨14, _⟩ => ⟨S4096, .i32⟩
  | .hbm, ⟨15, _⟩ => ⟨S1x4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S_, .i32⟩
  | .hbm, ⟨21, _⟩ => ⟨S8x2x4096x64, .i32⟩
  | .hbm, ⟨22, _⟩ => ⟨S8x2x4096x64, .i1⟩
  | .hbm, ⟨23, _⟩ => ⟨S8x2x4096x64x64, .i1⟩
  | .hbm, ⟨24, _⟩ => ⟨S8x2x4096x4096, .i1⟩
  | .hbm, ⟨25, _⟩ => ⟨S8x2x1x4096x4096, .i1⟩
  | .hbm, ⟨26, _⟩ => ⟨S1x1x1x4096x4096, .i1⟩
  | .hbm, ⟨27, _⟩ => ⟨S8x2x1x4096x4096, .i1⟩
  | .hbm, ⟨28, _⟩ => ⟨S8x2x1x4096x4096, .i1⟩
  | .hbm, ⟨29, _⟩ => ⟨S8x2x4x4096x4096, .f32⟩
  | .hbm, ⟨30, _⟩ => ⟨S_, .f32⟩
  | .hbm, ⟨31, _⟩ => ⟨S_, .f32⟩
  | .hbm, ⟨32, _⟩ => ⟨S8x2x4x4096x4096, .i1⟩
  | .hbm, ⟨33, _⟩ => ⟨S8x2x4x4096x4096, .f32⟩
  | .hbm, ⟨34, _⟩ => ⟨S8x2x4x4096x4096, .f32⟩
  | .hbm, ⟨35, _⟩ => ⟨S_, .f32⟩
  | .hbm, ⟨36, _⟩ => ⟨S8x2x4x4096, .f32⟩
  | .hbm, ⟨37, _⟩ => ⟨S_, .f32⟩
  | .hbm, ⟨38, _⟩ => ⟨S8x2x4x4096, .f32⟩
  | .hbm, ⟨39, _⟩ => ⟨S8x2x4x4096, .f32⟩
  | .hbm, ⟨40, _⟩ => ⟨S8x2x4x4096x1, .f32⟩
  | .hbm, ⟨41, _⟩ => ⟨S8x2x4x4096x4096, .f32⟩
  | .hbm, ⟨42, _⟩ => ⟨S8x2x4x4096x4096, .f32⟩
  | .hbm, ⟨43, _⟩ => ⟨S8x2x4x4096x4096, .f32⟩
  | .hbm, ⟨44, _⟩ => ⟨S_, .f32⟩
  | .hbm, ⟨45, _⟩ => ⟨S8x2x4x4096, .f32⟩
  | .hbm, ⟨46, _⟩ => ⟨S8x2x4x4096x1, .f32⟩
  | .hbm, ⟨47, _⟩ => ⟨S8x2x4x4096x4096, .f32⟩
  | .hbm, ⟨48, _⟩ => ⟨S8x2x4x4096x4096, .f32⟩
  | .hbm, ⟨49, _⟩ => ⟨S8x2x4x4096x64, .f32⟩
  | .hbm, ⟨50, _⟩ => ⟨S1x4096, .i32⟩
  | .hbm, ⟨51, _⟩ => ⟨S4096x1, .i32⟩
  | .hbm, ⟨52, _⟩ => ⟨S_, .i32⟩
  | .hbm, ⟨53, _⟩ => ⟨S4096x1, .i32⟩
  | .hbm, ⟨54, _⟩ => ⟨S4096x1, .i32⟩
  | .hbm, ⟨55, _⟩ => ⟨S4096x4096, .i32⟩
  | .hbm, ⟨56, _⟩ => ⟨S4096x4096, .i32⟩
  | .hbm, ⟨57, _⟩ => ⟨S4096x4096, .i1⟩
  | .hbm, ⟨58, _⟩ => ⟨S4096x4096, .i1⟩
  | .hbm, ⟨59, _⟩ => ⟨S8x2x4x4096x4096, .f32⟩
  | .hbm, ⟨60, _⟩ => ⟨S_, .f32⟩
  | .hbm, ⟨61, _⟩ => ⟨S_, .f32⟩
  | .hbm, ⟨62, _⟩ => ⟨S8x2x4x4096x4096, .i1⟩
  | .hbm, ⟨63, _⟩ => ⟨S8x2x4x4096x4096, .f32⟩
  | .hbm, ⟨64, _⟩ => ⟨S8x2x4x4096x4096, .f32⟩
  | .hbm, ⟨65, _⟩ => ⟨S_, .f32⟩
  | .hbm, ⟨66, _⟩ => ⟨S8x2x4x4096, .f32⟩
  | .hbm, ⟨67, _⟩ => ⟨S_, .f32⟩
  | .hbm, ⟨68, _⟩ => ⟨S8x2x4x4096, .f32⟩
  | .hbm, ⟨69, _⟩ => ⟨S8x2x4x4096, .f32⟩
  | .hbm, ⟨70, _⟩ => ⟨S8x2x4x4096x1, .f32⟩
  | .hbm, ⟨71, _⟩ => ⟨S8x2x4x4096x4096, .f32⟩
  | .hbm, ⟨72, _⟩ => ⟨S8x2x4x4096x4096, .f32⟩
  | .hbm, ⟨73, _⟩ => ⟨S8x2x4x4096x4096, .f32⟩
  | .hbm, ⟨74, _⟩ => ⟨S_, .f32⟩
  | .hbm, ⟨75, _⟩ => ⟨S8x2x4x4096, .f32⟩
  | .hbm, ⟨76, _⟩ => ⟨S8x2x4x4096x1, .f32⟩
  | .hbm, ⟨77, _⟩ => ⟨S8x2x4x4096x4096, .f32⟩
  | .hbm, ⟨78, _⟩ => ⟨S8x2x4x4096x4096, .f32⟩
  | .hbm, ⟨79, _⟩ => ⟨S8x2x4x4096x64, .f32⟩
  | .hbm, ⟨80, _⟩ => ⟨S8x4096x2x128, .f32⟩
  | .hbm, ⟨81, _⟩ => ⟨S8x4096x2x12, .f32⟩
  | .hbm, ⟨82, _⟩ => ⟨S8x4096x2x4x3, .f32⟩
  | .hbm, ⟨83, _⟩ => ⟨S8x2x4x4096x3, .f32⟩
  | .hbm, ⟨84, _⟩ => ⟨S8x2x4x4096x1, .f32⟩
  | .hbm, ⟨85, _⟩ => ⟨S8x2x4x4096x64, .f32⟩
  | .hbm, ⟨86, _⟩ => ⟨S8x2x4x4096x64, .f32⟩
  | .hbm, ⟨87, _⟩ => ⟨S8x2x4x4096x1, .f32⟩
  | .hbm, ⟨88, _⟩ => ⟨S8x2x4x4096x64, .f32⟩
  | .hbm, ⟨89, _⟩ => ⟨S8x2x4x4096x64, .f32⟩
  | .hbm, ⟨90, _⟩ => ⟨S8x2x4x4096x64, .f32⟩
  | .hbm, ⟨91, _⟩ => ⟨S8x2x4x4096x1, .f32⟩
  | .hbm, ⟨92, _⟩ => ⟨S8x2x4x4096x64, .f32⟩
  | .hbm, ⟨93, _⟩ => ⟨S8x2x4x4096x64, .f32⟩
  | .hbm, ⟨94, _⟩ => ⟨S8x2x4x4096x64, .f32⟩
  | .hbm, ⟨95, _⟩ => ⟨S8x2x4x4096x64, .bf16⟩
  | _, _ => ⟨S8x2x4x4096x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v20 : Ref sig .tc := ⟨.hbm, 34, rfl⟩
abbrev main_cst_0 : Ref sig .tc := ⟨.hbm, 35, rfl⟩
abbrev main_v21 : Ref sig .tc := ⟨.hbm, 36, rfl⟩
abbrev main_cst_1 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_2 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_3 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_4 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v42 : Ref sig .tc := ⟨.hbm, 64, rfl⟩
abbrev main_cst_5 : Ref sig .tc := ⟨.hbm, 65, rfl⟩
abbrev main_v43 : Ref sig .tc := ⟨.hbm, 66, rfl⟩
abbrev main_cst_6 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_7 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩

abbrev nD : Nat := 1
abbrev τ : Topo := Topo.v7x

variable {F : FTy → Type} [FloatOps F]
-- ==== Proof.Body.lean ====
/-
  What one grid point's body leaves in the output tile, as a function of its input blocks alone: the running
  maximum, the running sum and the weighted sum of the values start at their resets, go through the unmasked key
  tiles one by one and then through the masked diagonal tile; the output is computed from what they end at.
-/
module

public import proofs.«01_k».proof.Proof.Gen.KernelIdeal.Value
public import Idealize.ShloMosaic.Lib.Pipeline.ValueKit
public import Idealize.ShloMosaic.Lib.Pipeline.ReadBack
public import Idealize.ShloMosaic.Lib.VecWindow

@[expose] public section

set_option maxRecDepth 65536
set_option maxHeartbeats 400000
noncomputable section
open Idealize.ShloMosaic Idealize.ShloMosaic.TcCoe Idealize.SL.Sem
open Idealize.ShloMosaic.Pipeline (Dat)
namespace Cert.KernelIdeal.Body
open Cert.KernelIdeal Cert.KernelIdeal.Gen
variable {F : FTy → Type} [FloatOps F] [Named F]

/-- What the three running buffers hold: the row maxima, the row sums and the weighted sums of the values. -/
abbrev St (F : FTy → Type) := Vec F S512x1 .f32 × Vec F S512x1 .f32 × Vec F S512x128 .f32

/-- One unmasked tile of the running softmax: `K`, `V` the tile's keys and values, `Q` the stacked queries. -/
def step (Q : Vec F S512x128 .bf16) (K V : Vec F S1x256x128 .bf16) (s : St F) : St F :=
  (k0_pay22 (k0_pay3 K Q s.1), k0_pay6 K Q s.1 s.2.1, k0_pay21 (k0_pay7 K Q V s.1 s.2.2))

/-- The masked tile: as `step`, over the scores with the mask applied. -/
def last (Q : Vec F S512x128 .bf16) (K V : Vec F S1x256x128 .bf16) (s : St F) : St F :=
  (k0_pay34 (k0_pay27 K Q s.1), k0_pay32 (k0_pay30 K Q s.1 s.2.1) (k0_pay31 K Q s.1),
    k0_pay33 (k0_pay26 V) (k0_pay28 K Q s.1) (k0_pay29 K Q s.1) s.2.2)

/-- Rows `256 n` to `256 n + 255` of a sequence of 4096 rows. -/
def tile (X : Vec F S1x4096x128 .bf16) (n : ℕ) : Vec F S1x256x128 .bf16 :=
  fun y => X (ix3 0 (Fin.ofNat 4096 (256 * n + (y 1).val)) (y 2))

/-- The queries stacked twice, once with each half of the lanes kept. -/
def stack (x0 : Vec F S1x256x128 .bf16) : Vec F S512x128 .bf16 := fun y =>
  if (y 0).val < 256 then k0_pay16 x0 (ix2 (Fin.ofNat 256 (y 0).val) (y 1))
  else k0_pay17 x0 (ix2 (Fin.ofNat 256 (y 0).val) (y 1))

/-- The three buffers after the first `n` unmasked tiles. -/
def states (Q : Vec F S512x128 .bf16) (X Y : Vec F S1x4096x128 .bf16) : ℕ → St F
  | 0 => (k0_pay18, k0_pay19, k0_pay20)
  | n + 1 => step Q (tile X n) (tile Y n) (states Q X Y n)

/-- The output tile from what the three buffers end at. -/
def emit (s : St F) (x3 x4 x5 x6 : Vec F S1x64 .f32) (x7 : Vec F S1x128 .f32) : Vec F S1x256x128 .bf16 :=
  k0_pay1 (k0_pay35 s.2.2 s.2.1) (k0_pay36 x3 x4 x5 x6) (Scalar.ofBits .f32 0x3E4CCCCD#32) x7

/-- The first loop runs once for each key tile before the diagonal. -/
theorem trips_one (i : grid0.Coords) : Scf.trips (k0_t1_loop i).lb (k0_t1_loop i).ub (k0_t1_loop i).st = (i 2).val :=
  (by decide +kernel : ∀ j : Fin 16, Scf.trips (0#32) (Scalar.addi 0#32 (Scalar.muli (Scalar.divsi
    (Scalar.subi (BitVec.ofNat 32 j.val) 0#32) 1#32) 1#32)) (1#32) = j.val) (i 2)

/-- The second loop (what is left of the first after unrolling by one) never runs. -/
theorem trips_two (i : grid0.Coords) : Scf.trips (k0_t2_loop i).lb (k0_t2_loop i).ub (k0_t2_loop i).st = 0 :=
  Nat.le_zero.mp (k0_t2_abs i).2.1

theorem tile_of_load (v : View sig .tc .vmem S1x4096x128 .bf16) (f : v.ty.Contents (Elt F)) (n : ℕ) (hn : n < 16)
    {off : Fin 3 → ℕ} (h : off = ![0, 256 * n, 0]) (inb : ∀ a, off a + S1x256x128.size a ≤ S1x4096x128.size a) :
    v.readAt (Elt F) (Rect.unit (s := S1x4096x128) off ![1, 256, 128] inb).toLoadRect f = tile (v.read (Elt F) f) n := by
  subst h
  funext y
  refine congrArg (v.read (Elt F) f) (funext fun a => Fin.ext ?_)
  have h1 : (y 1).val < 256 := (y 1).isLt
  match a with
  | ⟨0, _⟩ => have h0 : (y 0).val < 1 := (y 0).isLt
              show 0 + 1 * (y 0).val = 0; omega
  | ⟨1, _⟩ => show 256 * n + 1 * (y 1).val = (256 * n + (y 1).val) % 4096
              rw [Nat.mod_eq_of_lt (by omega)]; omega
  | ⟨2, _⟩ => show 0 + 1 * (y 2).val = (y 2).val; omega

section
variable {e : EltTy}
theorem whole_a (v : View sig .tc .vmem S512x1 e) (f : v.ty.Contents (Elt F)) (inb) :
    v.readAt (Elt F) (Rect.unit (s := S512x1) ![0, 0] ![512, 1] inb).toLoadRect f = v.read (Elt F) f := View.readAt_full v f inb
theorem whole_b (v : View sig .tc .vmem S512x128 e) (f : v.ty.Contents (Elt F)) (inb) :
    v.readAt (Elt F) (Rect.unit (s := S512x128) ![0, 0] ![512, 128] inb).toLoadRect f = v.read (Elt F) f := View.readAt_full v f inb
theorem whole_c (v : View sig .tc .vmem S1x64 e) (f : v.ty.Contents (Elt F)) (inb) :
    v.readAt (Elt F) (Rect.unit (s := S1x64) ![0, 0] ![1, 64] inb).toLoadRect f = v.read (Elt F) f := View.readAt_full v f inb
theorem whole_d (v : View sig .tc .vmem S1x128 e) (f : v.ty.Contents (Elt F)) (inb) :
    v.readAt (Elt F) (Rect.unit (s := S1x128) ![0, 0] ![1, 128] inb).toLoadRect f = v.read (Elt F) f := View.readAt_full v f inb
theorem whole_e (v : View sig .tc .vmem S1x256x128 e) (f : v.ty.Contents (Elt F)) (inb) :
    v.readAt (Elt F) (Rect.unit (s := S1x256x128) ![0, 0, 0] ![1, 256, 128] inb).toLoadRect f = v.read (Elt F) f := View.readAt_full v f inb
theorem over_a (v : View sig .tc .vmem S512x1 e) (f : v.ty.Contents (Elt F)) (inb) (w : Vec F S512x1 e) (L) :
    v.read (Elt F) (v.writes (Elt F) f (⟨Rect.unit (s := S512x1) ![0, 0] ![512, 1] inb, w⟩ :: L)) = w := View.read_writes_full v f inb w L
theorem over_b (v : View sig .tc .vmem S512x128 e) (f : v.ty.Contents (Elt F)) (inb) (w : Vec F S512x128 e) (L) :
    v.read (Elt F) (v.writes (Elt F) f (⟨Rect.unit (s := S512x128) ![0, 0] ![512, 128] inb, w⟩ :: L)) = w := View.read_writes_full v f inb w L
theorem over_e (v : View sig .tc .vmem S1x256x128 e) (f : v.ty.Contents (Elt F)) (inb) (w : Vec F S1x256x128 e) (L) :
    v.read (Elt F) (v.writes (Elt F) f (⟨Rect.unit (s := S1x256x128) ![0, 0, 0] ![1, 256, 128] inb, w⟩ :: L)) = w := View.read_writes_full v f inb w L
end

section
variable (c : Dev nD) (i : grid0.Coords)
  (arg3 : Memref sig .tc .vmem S1x256x128 .bf16) (harg3 : arg3.IsWhole)
  (arg4 : Memref sig .tc .vmem S1x4096x128 .bf16) (harg4 : arg4.IsWhole)
  (arg5 : Memref sig .tc .vmem S1x4096x128 .bf16) (harg5 : arg5.IsWhole)
  (arg6 : Memref sig .tc .vmem S1x64 .f32) (harg6 : arg6.IsWhole)
  (arg7 : Memref sig .tc .vmem S1x64 .f32) (harg7 : arg7.IsWhole)
  (arg8 : Memref sig .tc .vmem S1x64 .f32) (harg8 : arg8.IsWhole)
  (arg9 : Memref sig .tc .vmem S1x64 .f32) (harg9 : arg9.IsWhole)
  (arg10 : Memref sig .tc .vmem S1x128 .f32) (harg10 : arg10.IsWhole)
  (arg11 : Memref sig .tc .vmem S1x256x128 .bf16) (harg11 : arg11.IsWhole)
  (arg12 : Memref sig .tc .vmem S512x128 .bf16) (harg12 : arg12.IsWhole)
  (arg13 : Memref sig .tc .vmem S512x1 .f32) (harg13 : arg13.IsWhole)
  (arg14 : Memref sig .tc .vmem S512x1 .f32) (harg14 : arg14.IsWhole)
  (arg15 : Memref sig .tc .vmem S512x128 .f32) (harg15 : arg15.IsWhole)

variable (𝒱 : Variants) (bd : Option 𝒱.V) (a2 z n o : BitVec 32) (X4 : BufTy.Contents (Elt F) arg4.view.ty)
  (X5 : BufTy.Contents (Elt F) arg5.view.ty) (X12 : BufTy.Contents (Elt F) arg12.view.ty)

/-- One trip of the loop takes what the three buffers hold to `step` of it. -/
theorem trip_reads (k : Fin (k0_t1_loop i).trips)
    (f13 : BufTy.Contents (Elt F) arg13.view.ty) (f14 : BufTy.Contents (Elt F) arg14.view.ty) (f15 : BufTy.Contents (Elt F) arg15.view.ty) :
    ((arg13.view.read (Elt F) (arg13.view.writes (Elt F) f13 (tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 a2 z n o X4 X5 X12 k f13 f14 f15).1),
      arg14.view.read (Elt F) (arg14.view.writes (Elt F) f14 (tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 a2 z n o X4 X5 X12 k f13 f14 f15).2.1),
      arg15.view.read (Elt F) (arg15.view.writes (Elt F) f15 (tripL_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 a2 z n o X4 X5 X12 k f13 f14 f15).2.2)) : St F)
    = step (arg12.view.read (Elt F) X12) (tile (arg4.view.read (Elt F) X4) k.val) (tile (arg5.view.read (Elt F) X5) k.val)
        (arg13.view.read (Elt F) f13, arg14.view.read (Elt F) f14, arg15.view.read (Elt F) f15) := by
  have hk : k.val < 16 := lt_of_lt_of_le k.isLt (le_trans (k0_t1_abs i).2.1 (by decide))
  rw [← tile_of_load arg4.view X4 k.val hk (k0_off1_eq i k) (k0_off1_inb i k),
    ← tile_of_load arg5.view X5 k.val hk (k0_off1_eq i k) (k0_off1_inb i k)]
  unfold tripL_k0_t1 trip_k0_t1
  dsimp only
  rw [View.read_writes_full, View.read_writes_full, View.read_writes_full]
  sl_unfold_words
  simp only [whole_a, whole_b]
  rfl

/-- Before trip `t` the three buffers hold the states of that number, if they start at the resets. -/
theorem loop_reads (G13 : BufTy.Contents (Elt F) arg13.view.ty) (G14 : BufTy.Contents (Elt F) arg14.view.ty)
    (G15 : BufTy.Contents (Elt F) arg15.view.ty)
    (h0 : ((arg13.view.read (Elt F) G13, arg14.view.read (Elt F) G14, arg15.view.read (Elt F) G15) : St F) = (k0_pay18, k0_pay19, k0_pay20))
    (t : ℕ) (ht : t ≤ (k0_t1_loop i).trips) :
    ((arg13.view.read (Elt F) (arg13.view.writes (Elt F) G13 (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 a2 z n o X4 X5 X12 G13 G14 G15 t).1),
      arg14.view.read (Elt F) (arg14.view.writes (Elt F) G14 (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 a2 z n o X4 X5 X12 G13 G14 G15 t).2.1),
      arg15.view.read (Elt F) (arg15.view.writes (Elt F) G15 (pb_k0_t1 (F := F) 𝒱 c bd i arg3 harg3 arg4 harg4 arg5 harg5 arg6 harg6 arg7 harg7 arg8 harg8 arg9 harg9 arg10 harg10 arg11 harg11 arg12 harg12 arg13 harg13 arg14 harg14 arg15 harg15 a2 z n o X4 X5 X12 G13 G14 G15 t).2.2)) : St F)
    = states (arg12.view.read (Elt F) X12) (arg4.view.read (Elt F) X4) (arg5.view.read (Elt F) X5) t := by
  induction t with
  | zero => exact h0
  | succ t ih =>
    have hs := pb_k0_t1_succ (F := F) 𝒱 c bd i arg3 harg3 arg4 harg4 arg5 harg5 arg6 harg6 arg7 harg7 arg8 harg8 arg9 harg9 arg10 harg10 arg11 harg11 arg12 harg12 arg13 harg13 arg14 harg14 arg15 harg15 a2 z n o X4 X5 X12 G13 G14 G15 ⟨t, ht⟩
    dsimp only at hs
    rw [hs]
    dsimp only
    rw [View.writes_append, View.writes_append, View.writes_append]
    refine (trip_reads c i arg3 harg3 arg4 harg4 arg5 harg5 arg6 harg6 arg7 harg7 arg8 harg8 arg9 harg9 arg10 harg10 arg11 harg11 arg12 harg12 arg13 harg13 arg14 harg14 arg15 harg15 𝒱 bd a2 z n o X4 X5 X12 ⟨t, ht⟩ _ _ _).trans ?_
    rw [ih (Nat.le_of_succ_le ht)]
    rfl

end

section
variable (c : Dev nD) (i : grid0.Coords)
  (arg3 : Memref sig .tc .vmem S1x256x128 .bf16) (harg3 : arg3.IsWhole)
  (arg4 : Memref sig .tc .vmem S1x4096x128 .bf16) (harg4 : arg4.IsWhole)
  (arg5 : Memref sig .tc .vmem S1x4096x128 .bf16) (harg5 : arg5.IsWhole)
  (arg6 : Memref sig .tc .vmem S1x64 .f32) (harg6 : arg6.IsWhole)
  (arg7 : Memref sig .tc .vmem S1x64 .f32) (harg7 : arg7.IsWhole)
  (arg8 : Memref sig .tc .vmem S1x64 .f32) (harg8 : arg8.IsWhole)
  (arg9 : Memref sig .tc .vmem S1x64 .f32) (harg9 : arg9.IsWhole)
  (arg10 : Memref sig .tc .vmem S1x128 .f32) (harg10 : arg10.IsWhole)
  (arg11 : Memref sig .tc .vmem S1x256x128 .bf16) (harg11 : arg11.IsWhole)
  (arg12 : Memref sig .tc .vmem S512x128 .bf16) (harg12 : arg12.IsWhole)
  (arg13 : Memref sig .tc .vmem S512x1 .f32) (harg13 : arg13.IsWhole)
  (arg14 : Memref sig .tc .vmem S512x1 .f32) (harg14 : arg14.IsWhole)
  (arg15 : Memref sig .tc .vmem S512x128 .f32) (harg15 : arg15.IsWhole)

/-- The two stores of the queries leave them stacked. -/
theorem stack_reads (f : BufTy.Contents (Elt F) arg12.view.ty) (w w' : Vec F S256x128 .bf16) (x0 : Vec F S1x256x128 .bf16)
    (hw : w = k0_pay17 x0) (hw' : w' = k0_pay16 x0) :
    arg12.view.read (Elt F) (arg12.view.writes (Elt F) f
      [⟨Rect.unit (s := S512x128) ![256, 0] ![256, 128] inb_S512x128_S256x128_256_0, w⟩,
       ⟨Rect.unit (s := S512x128) ![0, 0] ![256, 128] inb_S512x128_S256x128_0_0, w'⟩]) = stack x0 := by
  subst hw hw'
  funext y
  have hy : (y 0).val < 512 := (y 0).isLt
  unfold stack
  by_cases h : (y 0).val < 256
  · rw [if_pos h]
    refine (View.read_writes_cons_rows_of_not_mem arg12.view f _ _ _ y rfl rfl (Or.inl h)).trans ?_
    refine View.read_writes_cons_rows_of_mem arg12.view f _ _ _ y (ix2 (Fin.ofNat 256 (y 0).val) (y 1)) rfl ?_ rfl
    show (y 0).val = 0 + (y 0).val % 256
    omega
  · rw [if_neg h]
    refine View.read_writes_cons_rows_of_mem arg12.view f _ _ _ y (ix2 (Fin.ofNat 256 (y 0).val) (y 1)) rfl ?_ rfl
    show (y 0).val = 256 + (y 0).val % 256
    omega

/-- The output tile a grid point leaves, from its blocks. -/
theorem out_eq (x0 : Vec F S1x256x128 .bf16) (x1 : Vec F S1x4096x128 .bf16) (x2 : Vec F S1x4096x128 .bf16) (x3 x4 x5 x6 : Vec F S1x64 .f32) (x7 : Vec F S1x128 .f32) :
    out0_A_8 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7
      = emit (last (stack x0) (tile x1 (i 2).val) (tile x2 (i 2).val) (states (stack x0) x1 x2 (i 2).val)) x3 x4 x5 x6 x7 := by
  have hi : (i 2).val < 16 := (i 2).isLt
  have hL := fun X12 G13 G14 G15 h0 => loop_reads c i arg3 harg3 arg4 harg4 arg5 harg5 arg6 harg6 arg7 harg7 arg8 harg8 arg9 harg9 arg10 harg10 arg11 harg11 arg12 harg12 arg13 harg13 arg14 harg14 arg15 harg15 Variants.none none (BitVec.ofNat 32 (i 2).val) (0#32)
    (Scalar.subi (BitVec.ofNat 32 (i 2).val) 0#32) (1#32) (harg4.unread x1) (harg5.unread x2) X12 G13 G14 G15 h0
    (Scf.trips (k0_t1_loop i).lb (k0_t1_loop i).ub (k0_t1_loop i).st) le_rfl
  frame_open
  rw [trips_two i]
  unfold pb_k0_t2
  dsimp only [List.nil_append]
  unfold View.readCov
  simp only [View.writes_append, whole_a, whole_b, whole_c, whole_d, whole_e, over_a, over_b, over_e, Memref.IsWhole.read_unread]
  simp only [tile_of_load _ _ _ hi (k0_off3_eq i), Memref.IsWhole.read_unread]
  rw [stack_reads arg12 _ _ _ x0 rfl rfl]
  have h := fun X12 => hL X12 _ _ _ (Prod.ext (over_a arg13.view arg13.view.junk inb_S512x1_S512x1_0_0 k0_pay18 [])
    (Prod.ext (over_a arg14.view arg14.view.junk inb_S512x1_S512x1_0_0 k0_pay19 [])
      (over_b arg15.view arg15.view.junk inb_S512x128_S512x128_0_0 k0_pay20 [])))
  simp only [Memref.IsWhole.read_unread] at h
  have h' := h (arg12.view.writes (Elt F) arg12.view.junk
      [⟨Rect.unit (s := S512x128) ![256, 0] ![256, 128] inb_S512x128_S256x128_256_0, k0_pay17 x0⟩,
       ⟨Rect.unit (s := S512x128) ![0, 0] ![256, 128] inb_S512x128_S256x128_0_0, k0_pay16 x0⟩])
  rw [stack_reads arg12 _ _ _ x0 rfl rfl] at h'
  refine Eq.trans ?_ (congrArg (fun s : St F => emit (last (stack x0) (tile x1 (i 2).val) (tile x2 (i 2).val) s) x3 x4 x5 x6 x7)
    (h'.trans (congrArg (states (stack x0) x1 x2) (trips_one i))))
  unfold emit last
  dsimp only
end
-- ==== Proof.Row.lean ====
/-
  The running softmax of one row, over the extended reals: after any number of key tiles the running sum and the
  weighted sum of the values are `exp (-M)` times sums of `exp score` over the keys seen, where `M` is the running
  maximum; of `M` only that it is a real number matters.
-/
module

public import Idealize.ShloMosaic.Lib.Pointwise

@[expose] public section

noncomputable section
open Idealize.ShloMosaic
namespace Cert.Row

/-- `w` is the exponential of the score `s`: of a number, or of the mask. -/
def Score (s : EReal) (w : ℝ) : Prop := (∃ x : ℝ, s = x ∧ w = Real.exp x) ∨ (s = ⊥ ∧ w = 0)

/-- What the running maximum, sum and weighted sum hold, when the exponentials seen sum to `L` and weighted to `A`. -/
def Inv (m l a : EReal) (L A : ℝ) : Prop :=
  (m = ⊥ ∧ l = 0 ∧ a = 0 ∧ L = 0 ∧ A = 0) ∨
    ∃ M : ℝ, m = M ∧ l = ((Real.exp (-M) * L : ℝ) : EReal) ∧ a = ((Real.exp (-M) * A : ℝ) : EReal)

/-- The exponential of a score less a number. -/
theorem exp_less {s : EReal} {w : ℝ} (h : Score s w) (M : ℝ) :
    Ideal.exp (s - (M : EReal)) = ((Real.exp (-M) * w : ℝ) : EReal) := by
  rcases h with ⟨x, rfl, rfl⟩ | ⟨rfl, rfl⟩
  · rw [← EReal.coe_sub, Ideal.exp_coe, sub_eq_add_neg, Real.exp_add, mul_comm]
  · rw [mul_zero, EReal.bot_sub, Ideal.exp_bot]; rfl

/-- A sum of numbers is a number. -/
theorem coe_sum {ι : Type*} (u : Finset ι) (f : ι → ℝ) : ∑ k ∈ u, ((f k : ℝ) : EReal) = ((∑ k ∈ u, f k : ℝ) : EReal) := by
  classical
  induction u using Finset.induction_on with
  | empty => simp
  | insert a u ha ih => rw [Finset.sum_insert ha, Finset.sum_insert ha, ih, EReal.coe_add]

/-- The largest of scores is a number when one of them is. -/
theorem max_num {ι : Type*} (u : Finset ι) (m : EReal) (hm : m ≠ ⊤) (s : ι → EReal) (w : ι → ℝ)
    (h : ∀ k, Score (s k) (w k)) (hne : ∃ k ∈ u, s k ≠ ⊥) :
    ∃ M : ℝ, max m (u.fold max ⊥ s) = M := by
  have ht : u.fold max ⊥ s ≠ ⊤ := by
    classical
    clear hne
    induction u using Finset.induction_on with
    | empty => simp
    | insert a u ha ih =>
      rw [Finset.fold_insert ha]
      intro e
      rcases max_choice (s a) (u.fold max ⊥ s) with e' | e'
      · rw [e'] at e
        rcases h a with ⟨x, hx, _⟩ | ⟨hx, _⟩ <;> rw [hx] at e <;> simp at e
      · rw [e'] at e; exact ih e
  have hb : u.fold max ⊥ s ≠ ⊥ := by
    obtain ⟨k, hk, hs⟩ := hne
    intro e
    have : s k ≤ u.fold max ⊥ s := (Finset.le_fold_max (s k)).2 (Or.inr ⟨k, hk, le_rfl⟩)
    rw [e, le_bot_iff] at this
    exact hs this
  rcases max_choice m (u.fold max ⊥ s) with e | e
  · have : m ≠ ⊥ := by
      rintro rfl
      rw [max_eq_right bot_le] at e
      exact hb e
    exact ⟨m.toReal, e.trans (EReal.coe_toReal hm this).symm⟩
  · exact ⟨_, e.trans (EReal.coe_toReal ht hb).symm⟩

/-- One tile of keys keeps the invariant, and leaves a number as the maximum. -/
theorem tile_step {n : ℕ} {m l a : EReal} {L A : ℝ} (h : Inv m l a L A) (s : Fin n → EReal) (w : Fin n → ℝ) (v : Fin n → EReal)
    (ν : Fin n → ℝ) (hs : ∀ k, Score (s k) (w k)) (hne : ∃ k, s k ≠ ⊥) (hv : ∀ k, v k = ν k) :
    ∃ M : ℝ, max m (Finset.univ.fold max ⊥ s) = M ∧
      Ideal.exp (m - M) * l + ∑ k, Ideal.exp (s k - M) = ((Real.exp (-M) * (L + ∑ k, w k) : ℝ) : EReal) ∧
      Ideal.exp (m - M) * a + ∑ k, Ideal.exp (s k - M) * v k = ((Real.exp (-M) * (A + ∑ k, w k * ν k) : ℝ) : EReal) := by
  have hm : m ≠ ⊤ := by
    rcases h with ⟨rfl, _⟩ | ⟨M, rfl, _⟩ <;> simp
  obtain ⟨M, hM⟩ := max_num Finset.univ m hm s w hs (hne.imp fun k hk => ⟨Finset.mem_univ k, hk⟩)
  refine ⟨M, hM, ?_⟩
  simp only [exp_less (hs _), hv, ← EReal.coe_mul, coe_sum]
  rcases h with ⟨rfl, rfl, rfl, rfl, rfl⟩ | ⟨N, rfl, rfl, rfl⟩
  · rw [EReal.bot_sub, Ideal.exp_bot, mul_zero, zero_add, zero_add, zero_add, zero_add, ← Finset.mul_sum]
    refine ⟨rfl, congrArg _ ?_⟩
    rw [Finset.mul_sum]
    exact Finset.sum_congr rfl fun k _ => mul_assoc _ _ _
  · have e : Real.exp (N - M) * Real.exp (-N) = Real.exp (-M) := by
      rw [← Real.exp_add]; congr 1; ring
    rw [← EReal.coe_sub, Ideal.exp_coe, ← EReal.coe_mul, ← EReal.coe_mul, ← EReal.coe_add, ← EReal.coe_add]
    constructor <;> refine congrArg _ ?_
    · rw [← mul_assoc, e, ← Finset.mul_sum]; ring
    · rw [← mul_assoc, e, mul_add, Finset.mul_sum]
      exact congrArg _ (Finset.sum_congr rfl fun k _ => mul_assoc _ _ _)

/-- A quotient of two numbers carrying the same factor `exp (-M)`. -/
theorem div_num (M A W : ℝ) (hW : W ≠ 0) :
    Ideal.div ((Real.exp (-M) * A : ℝ) : EReal) ((Real.exp (-M) * W : ℝ) : EReal) = ((A / W : ℝ) : EReal) := by
  have he : Real.exp (-M) ≠ 0 := Real.exp_ne_zero _
  rw [Ideal.div_coe (mul_ne_zero he hW), ← EReal.coe_mul]
  refine congrArg _ ?_
  field_simp

/-- A row of `D` scaled to unit mean square, by its gain and by the fixed factor of the output. -/
def normed (D : Fin 128 → EReal) (g : EReal) (d : Fin 128) : EReal :=
  D d * Ideal.rsqrt (Ideal.div (∑ x, D x * D x) (Ideal.ofBits .f32 0x43000000#32) + Ideal.ofBits .f32 0x358637BD#32) * g
    * Ideal.ofBits .f32 0x3F4CCCCD#32

/-- The weight of the second softmax. -/
def lamOf (a b : EReal) : EReal := Ideal.exp a - Ideal.exp b + Ideal.ofBits .f32 0x3E4CCCCD#32

/-- The word of minus infinity. -/
theorem negInf : Ideal.ofBits .f32 0xFF800000#32 = ⊥ := by simp [Ideal.ofBits, Ideal.ieee]

/-- The weight is a number when what it exponentiates are numbers. -/
theorem lamOf_num (a b : ℝ) : ∃ x : ℝ, lamOf a b = x := by
  have h : ∃ z : ℝ, Ideal.ofBits .f32 0x3E4CCCCD#32 = z := ⟨_, by simp [Ideal.ofBits, Ideal.ieee]; rfl⟩
  obtain ⟨z, hz⟩ := h
  exact ⟨Real.exp a - Real.exp b + z, by rw [lamOf, Ideal.exp_coe, Ideal.exp_coe, hz, ← EReal.coe_sub, ← EReal.coe_add]⟩

end Cert.Row
-- ==== Proof.Rows.lean ====
/-
  The body's values at the ideal instance, read row by row: each row's three running values go through the tiles by
  the row recurrence.
-/
module

public import proofs.«01_k».proof.Proof.Body
public import proofs.«01_k».proof.Proof.Row
public import Idealize.ShloMosaic.Lib.Pointwise
public import Idealize.ShloMosaic.Lib.WordCmp

@[expose] public section

set_option maxRecDepth 65536
noncomputable section
open Idealize.ShloMosaic Idealize.ShloMosaic.TcCoe Idealize.SL.Sem
namespace Cert.KernelIdeal.Body
open Cert.KernelIdeal Cert.KernelIdeal.Gen Cert.Row

/-- The score of stacked row `r` against key `k` of a tile. -/
def dotRow (Q : Vec Ideal S512x128 .bf16) (K : Vec Ideal S1x256x128 .bf16) (r : Fin 512) (k : Fin 256) : EReal :=
  ∑ e : Fin 128, Q (ix2 r e) * K (ix3 0 k e)

theorem mask_val : (Named.named (F := Ideal) κ "mask" 0xF149F2CA#32 : Ideal .f32) = ⊥ :=
  IdealRules.named_const.ideal_named_scalar _ _ _ _ rfl

/-- The score of stacked row `r` against key `k` of the diagonal tile: masked past the row's own position. -/
def maskRow (Q : Vec Ideal S512x128 .bf16) (K : Vec Ideal S1x256x128 .bf16) (r : Fin 512) (k : Fin 256) : EReal :=
  if k.val ≤ r.val % 256 then dotRow Q K r k else ⊥

theorem pay2_at (Q : Vec Ideal S512x128 .bf16) (K : Vec Ideal S1x256x128 .bf16) (r : Fin 512) (k : Fin 256) :
    k0_pay2 (F := Ideal) K Q (ix2 r k) = dotRow Q K r k := by
  pointwise [k0_pay2, dotRow]

/-- A stacked row's position within its tile, as the words compute it. -/
theorem pos_word : ∀ r : Fin 512, Scalar.select (IntOp.cmpi .sge (BitVec.ofNat 32 r.val) 256#32)
    (IntOp.subi (BitVec.ofNat 32 r.val) 256#32) (BitVec.ofNat 32 r.val) = BitVec.ofNat 32 (r.val % 256) := by
  decide +kernel

theorem pay25_at (Q : Vec Ideal S512x128 .bf16) (K : Vec Ideal S1x256x128 .bf16) (r : Fin 512) (k : Fin 256) :
    k0_pay25 (F := Ideal) K Q (ix2 r k) = maskRow Q K r k := by
  have hk := k.isLt
  have hm : r.val % 256 < 2 ^ (32 - 1) := by omega
  pointwise [k0_pay25, maskRow, mask_val, dotRow]
  rw [pos_word]
  word_cmp

theorem pay3_at (Q : Vec Ideal S512x128 .bf16) (K : Vec Ideal S1x256x128 .bf16) (m : Vec Ideal S512x1 .f32) (r : Fin 512) :
    k0_pay3 (F := Ideal) K Q m (ix2 r 0) = max (m (ix2 r 0)) (Finset.univ.fold max ⊥ (dotRow Q K r)) := by
  pointwise [k0_pay3, pay2_at]
  rw [negInf]

theorem pay27_at (Q : Vec Ideal S512x128 .bf16) (K : Vec Ideal S1x256x128 .bf16) (m : Vec Ideal S512x1 .f32) (r : Fin 512) :
    k0_pay27 (F := Ideal) K Q m (ix2 r 0) = max (m (ix2 r 0)) (Finset.univ.fold max ⊥ (maskRow Q K r)) := by
  pointwise [k0_pay27, pay25_at]
  rw [negInf]

section
variable (Q : Vec Ideal S512x128 .bf16) (K V : Vec Ideal S1x256x128 .bf16) (s : St Ideal) (r : Fin 512) (d : Fin 128) (M : EReal)

theorem step_m : (step Q K V s).1 (ix2 r 0) = max (s.1 (ix2 r 0)) (Finset.univ.fold max ⊥ (dotRow Q K r)) := by
  refine Eq.trans ?_ (pay3_at Q K s.1 r)
  pointwise [step, k0_pay22]

theorem step_l (h : k0_pay3 K Q s.1 (ix2 r 0) = M) : (step Q K V s).2.1 (ix2 r 0)
    = Ideal.exp (s.1 (ix2 r 0) - M) * s.2.1 (ix2 r 0) + ∑ k, Ideal.exp (dotRow Q K r k - M) := by
  pointwise [step, k0_pay6, k0_pay4, k0_pay5, h, pay2_at]

theorem step_a (h : k0_pay3 K Q s.1 (ix2 r 0) = M) : (step Q K V s).2.2 (ix2 r d)
    = Ideal.exp (s.1 (ix2 r 0) - M) * s.2.2 (ix2 r d) + ∑ k, Ideal.exp (dotRow Q K r k - M) * V (ix3 0 k d) := by
  pointwise [step, k0_pay21, k0_pay7, k0_pay4, k0_pay5, h, pay2_at]

theorem last_m : (last Q K V s).1 (ix2 r 0) = max (s.1 (ix2 r 0)) (Finset.univ.fold max ⊥ (maskRow Q K r)) := by
  refine Eq.trans ?_ (pay27_at Q K s.1 r)
  pointwise [last, k0_pay34]

theorem last_l (h : k0_pay27 K Q s.1 (ix2 r 0) = M) : (last Q K V s).2.1 (ix2 r 0)
    = Ideal.exp (s.1 (ix2 r 0) - M) * s.2.1 (ix2 r 0) + ∑ k, Ideal.exp (maskRow Q K r k - M) := by
  pointwise [last, k0_pay32, k0_pay30, k0_pay31, k0_pay28, k0_pay29, h, pay25_at]

theorem last_a (h : k0_pay27 K Q s.1 (ix2 r 0) = M) : (last Q K V s).2.2 (ix2 r d)
    = Ideal.exp (s.1 (ix2 r 0) - M) * s.2.2 (ix2 r d) + ∑ k, Ideal.exp (maskRow Q K r k - M) * V (ix3 0 k d) := by
  pointwise [last, k0_pay33, k0_pay26, k0_pay28, k0_pay29, h, pay25_at]
end

/-- The stacked queries at a lane. -/
theorem stack_at (x0 : Vec Ideal S1x256x128 .bf16) (r : Fin 512) (e : Fin 128) :
    stack x0 (ix2 r e) = if r.val / 256 = e.val / 64 then x0 (ix3 0 (Fin.ofNat 256 r.val) e) else 0 := by
  have hr := r.isLt
  have he := e.isLt
  show (if r.val < 256 then k0_pay16 x0 (ix2 (Fin.ofNat 256 r.val) e) else k0_pay17 x0 (ix2 (Fin.ofNat 256 r.val) e)) = _
  by_cases h : r.val < 256
  · rw [if_pos h]
    pointwise [k0_pay16, k0_pay14, k0_pay15]
    have h0 : r.val / 256 = e.val / 64 ↔ e.val < 64 := by omega
    simp only [h0]
    word_cmp
  · rw [if_neg h]
    pointwise [k0_pay17, k0_pay14, k0_pay15]
    have h0 : r.val / 256 = e.val / 64 ↔ 64 ≤ e.val := by omega
    simp only [h0]
    word_cmp

/-- A row's weighted sum over its sum. -/
def quo (s : St Ideal) (r : Fin 512) (d : Fin 128) : EReal := Ideal.div (s.2.2 (ix2 r d)) (s.2.1 (ix2 r 0))

/-- The output tile's entry from the two stacked rows of its query. -/
theorem emit_at (s : St Ideal) (x3 x4 x5 x6 : Vec Ideal S1x64 .f32) (x7 : Vec Ideal S1x128 .f32) (q : Fin 256) (d : Fin 128) :
    emit s x3 x4 x5 x6 x7 (ix3 0 q d) = normed (fun x => quo s (Fin.castLE (by decide) q) x
      - lamOf (∑ e : Fin 64, x3 (ix2 0 e) * x4 (ix2 0 e)) (∑ e : Fin 64, x5 (ix2 0 e) * x6 (ix2 0 e)) * quo s (Fin.natAdd 256 q) x)
      (x7 (ix2 0 d)) d := by
  pointwise [emit, k0_pay1, k0_pay35, k0_pay36]
  rfl

section
variable {x0 : Vec Ideal S1x256x128 .bf16} {x1 x2 : Vec Ideal S1x4096x128 .bf16}
  {X0 : S1x256x128.Idx → ℝ} {X1 X2 : S1x4096x128.Idx → ℝ}

/-- Lane `e` of component `c`. -/
def lane (c : ℕ) (e : Fin 64) : Fin 128 := Fin.ofNat 128 (64 * c + e.val)

/-- The exponential of the score of stacked row `r` against key `k`. -/
def wt (X0 : S1x256x128.Idx → ℝ) (X1 : S1x4096x128.Idx → ℝ) (r k : ℕ) : ℝ :=
  Real.exp (∑ e : Fin 64, X0 (ix3 0 (Fin.ofNat 256 r) (lane (r / 256) e)) * X1 (ix3 0 (Fin.ofNat 4096 k) (lane (r / 256) e)))

theorem score_at (h0 : ∀ y, x0 y = (X0 y : EReal)) (h1 : ∀ y, x1 y = (X1 y : EReal)) (n : ℕ) (r : Fin 512) (k : Fin 256) :
    Score (dotRow (stack x0) (tile x1 n) r k) (wt X0 X1 r.val (256 * n + k.val)) := by
  refine Or.inl ⟨_, ?_, rfl⟩
  unfold dotRow
  simp only [stack_at]
  rw [Fin.sum_univ_two_halves 64 64 rfl]
  have e0 : ∀ e : Fin 64, e.val / 64 = 0 := fun e => Nat.div_eq_of_lt e.isLt
  have e1 : ∀ e : Fin 64, (64 + e.val) / 64 = 1 := fun e => by have := e.isLt; omega
  have hr := r.isLt
  simp only [e0, e1]
  rw [← coe_sum]
  by_cases h : r.val < 256
  · have hc : r.val / 256 = 0 := Nat.div_eq_of_lt h
    simp only [hc, if_pos, if_neg, zero_ne_one, not_false_eq_true, ↓reduceIte, zero_mul, Finset.sum_const_zero, add_zero]
    refine Finset.sum_congr rfl fun e _ => ?_
    have hl : (⟨e.val, by omega⟩ : Fin 128) = lane 0 e := Fin.ext (by show e.val = (64 * 0 + e.val) % 128; omega)
    rw [hl, EReal.coe_mul, ← h0, ← h1]
    rfl
  · have hc : r.val / 256 = 1 := by omega
    simp only [hc, if_pos, if_neg, one_ne_zero, not_false_eq_true, ↓reduceIte, zero_mul, Finset.sum_const_zero, zero_add]
    refine Finset.sum_congr rfl fun e _ => ?_
    have hl : (⟨64 + e.val, by omega⟩ : Fin 128) = lane 1 e := Fin.ext (by show 64 + e.val = (64 * 1 + e.val) % 128; omega)
    rw [hl, EReal.coe_mul, ← h0, ← h1]
    rfl

/-- A tile's worth more of a sum over the keys. -/
theorem sum_tile (f : ℕ → ℝ) (n : ℕ) :
    ∑ k ∈ Finset.range (256 * (n + 1)), f k = ∑ k ∈ Finset.range (256 * n), f k + ∑ k : Fin 256, f (256 * n + k.val) := by
  rw [mul_add, mul_one, Finset.sum_range_add, Finset.sum_range (fun k => f (256 * n + k))]

/-- Value `d` of key `k`. -/
def val (X2 : S1x4096x128.Idx → ℝ) (d : Fin 128) (k : ℕ) : ℝ := X2 (ix3 0 (Fin.ofNat 4096 k) d)

/-- After `n` unmasked tiles the row holds the sums over the first `256 n` keys. -/
theorem states_inv (h0 : ∀ y, x0 y = (X0 y : EReal)) (h1 : ∀ y, x1 y = (X1 y : EReal)) (h2 : ∀ y, x2 y = (X2 y : EReal))
    (r : Fin 512) (d : Fin 128) (n : ℕ) :
    Inv ((states (stack x0) x1 x2 n).1 (ix2 r 0)) ((states (stack x0) x1 x2 n).2.1 (ix2 r 0)) ((states (stack x0) x1 x2 n).2.2 (ix2 r d))
      (∑ k ∈ Finset.range (256 * n), wt X0 X1 r.val k) (∑ k ∈ Finset.range (256 * n), wt X0 X1 r.val k * val X2 d k) := by
  induction n with
  | zero =>
    refine Or.inl ⟨?_, ?_, ?_, rfl, rfl⟩ <;> show (_ : EReal) = _
    · pointwise [states, k0_pay18, mask_val]
    · pointwise [states, k0_pay19]
    · pointwise [states, k0_pay20]
  | succ n ih =>
    have hs := fun k => score_at h0 h1 n r k
    obtain ⟨M, hM, hl, ha⟩ := tile_step ih (dotRow (stack x0) (tile x1 n) r) _ (fun k => tile x2 n (ix3 0 k d))
      (fun k => val X2 d (256 * n + k.val)) hs
      ⟨0, by rcases score_at h0 h1 n r 0 with ⟨x, hx, _⟩ | ⟨_, hx⟩
             · rw [hx]; exact EReal.coe_ne_bot x
             · exact absurd hx (Real.exp_ne_zero _)⟩ (fun k => h2 _)
    refine Or.inr ⟨M, (step_m _ _ _ _ r).trans hM, ?_, ?_⟩
    · rw [sum_tile, ← hl]
      exact step_l _ _ _ _ r M ((pay3_at _ _ _ r).trans hM)
    · rw [sum_tile, ← ha]
      exact step_a _ _ _ _ r d M ((pay3_at _ _ _ r).trans hM)

/-- The weight of key `k` for row `r` of tile `n`: none past the row's own position. -/
def kw (X0 : S1x256x128.Idx → ℝ) (X1 : S1x4096x128.Idx → ℝ) (n r k : ℕ) : ℝ :=
  if k ≤ 256 * n + r % 256 then wt X0 X1 r k else 0

/-- The sums over all the keys, cut at the row's own tile. -/
theorem sum_keys (n : ℕ) (hn : n < 16) (r : ℕ) (g : ℕ → ℝ) :
    ∑ k : Fin 4096, kw X0 X1 n r k.val * g k.val = ∑ k ∈ Finset.range (256 * n), wt X0 X1 r k * g k
      + ∑ k : Fin 256, (if k.val ≤ r % 256 then wt X0 X1 r (256 * n + k.val) else 0) * g (256 * n + k.val) := by
  rw [← Finset.sum_range (fun k => kw X0 X1 n r k * g k)]
  have hz : ∑ k ∈ Finset.range (256 * (n + 1)), kw X0 X1 n r k * g k = ∑ k ∈ Finset.range 4096, kw X0 X1 n r k * g k := by
    refine Finset.sum_subset (fun k hk => ?_) fun k _ hk => ?_
    · rw [Finset.mem_range] at hk ⊢; omega
    · rw [Finset.mem_range] at hk
      have : ¬ k ≤ 256 * n + r % 256 := by omega
      rw [kw, if_neg this, zero_mul]
  rw [← hz, sum_tile]
  congr 1
  · refine Finset.sum_congr rfl fun k hk => ?_
    rw [Finset.mem_range] at hk
    rw [kw, if_pos (by omega)]
  · refine Finset.sum_congr rfl fun k hk => ?_
    simp only [kw, Nat.add_le_add_iff_left]

theorem kw_sum_ne (n : ℕ) (hn : n < 16) (r : ℕ) : ∑ k : Fin 4096, kw X0 X1 n r k.val ≠ 0 := by
  refine ne_of_gt (Finset.sum_pos' (fun k _ => ?_) ⟨⟨256 * n, by omega⟩, Finset.mem_univ _, ?_⟩)
  · unfold kw
    by_cases h : k.val ≤ 256 * n + r % 256
    · rw [if_pos h]; exact (Real.exp_pos _).le
    · rw [if_neg h]
  · rw [kw, if_pos (by show 256 * n ≤ _; omega)]; exact Real.exp_pos _

/-- A stacked row's quotient is the mean of the values by the weights of its keys. -/
theorem quo_at (h0 : ∀ y, x0 y = (X0 y : EReal)) (h1 : ∀ y, x1 y = (X1 y : EReal)) (h2 : ∀ y, x2 y = (X2 y : EReal))
    (n : ℕ) (hn : n < 16) (r : Fin 512) (d : Fin 128) :
    quo (last (stack x0) (tile x1 n) (tile x2 n) (states (stack x0) x1 x2 n)) r d
      = (((∑ k : Fin 4096, kw X0 X1 n r.val k.val * val X2 d k.val) / ∑ k : Fin 4096, kw X0 X1 n r.val k.val : ℝ) : EReal) := by
  have hs : ∀ k, Score (maskRow (stack x0) (tile x1 n) r k) (if k.val ≤ r.val % 256 then wt X0 X1 r.val (256 * n + k.val) else 0) := by
    intro k
    unfold maskRow
    by_cases h : k.val ≤ r.val % 256
    · rw [if_pos h, if_pos h]; exact score_at h0 h1 n r k
    · rw [if_neg h, if_neg h]; exact Or.inr ⟨rfl, rfl⟩
  obtain ⟨M, hM, hl, ha⟩ := tile_step (states_inv h0 h1 h2 r d n) (maskRow (stack x0) (tile x1 n) r) _ (fun k => tile x2 n (ix3 0 k d))
      (fun k => val X2 d (256 * n + k.val)) hs
      ⟨0, by rcases hs 0 with ⟨x, hx, _⟩ | ⟨_, hx⟩
             · rw [hx]; exact EReal.coe_ne_bot x
             · rw [if_pos (show (0 : Fin 256).val ≤ _ from Nat.zero_le _)] at hx; exact absurd hx (Real.exp_ne_zero _)⟩ (fun k => h2 _)
  have h1' := sum_keys (X0 := X0) (X1 := X1) n hn r.val (fun _ => 1)
  simp only [mul_one] at h1'
  unfold quo
  rw [last_l _ _ _ _ r M ((pay27_at _ _ _ r).trans hM), last_a _ _ _ _ r d M ((pay27_at _ _ _ r).trans hM), hl, ha,
    sum_keys n hn r.val (val X2 d), h1']
  exact div_num _ _ _ (h1' ▸ kw_sum_ne n hn r.val)
end
end Cert.KernelIdeal.Body
-- ==== Proof.Ref.lean ====
/-
  The reference's result, stage by stage and read at an index: masked scores, their softmax, the difference of the two
  softmaxes applied to the values, and the normalised output.
-/
module

public import proofs.«01_k».proof.Proof.Gen.ReferenceIdeal.Run
public import proofs.«01_k».proof.Proof.Row
public import Idealize.ShloMosaic.Lib.Pointwise
public import Idealize.ShloMosaic.Lib.WordCmp

@[expose] public section

set_option maxRecDepth 65536
noncomputable section
open Idealize.ShloMosaic Idealize.ShloMosaic.TcCoe Idealize.SL.Sem
namespace Cert.ReferenceIdeal.Stage
open Cert.ReferenceIdeal Cert.ReferenceIdeal.Gen Cert.Row

abbrev Arr := FVec Ideal S8x4096x512 .bf16
abbrev Par := FVec Ideal S1x64 .f32

/-- The masked scores. -/
def scores (Q K : Arr) : FVec Ideal S8x4x2x4096x4096 .f32 :=
  select (broadcastInDim S8x4x2x4096x4096 ![3, 4] bcast_S4096x4096_S8x4x2x4096x4096_3_4 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))
    (Host.dotGeneral dot_S8x4096x4x2x64_S8x4096x4x2x64_S8x4x2x4096x4096_4_4_1_1_023_023 none (shapeCast _ (extf .f32 Q bitsLt_bf16_f32) shapeCasts_S8x4096x512_S8x4096x4x2x64) (shapeCast _ (extf .f32 K bitsLt_bf16_f32) shapeCasts_S8x4096x512_S8x4096x4x2x64))
    (broadcastInDim S8x4x2x4096x4096 ![] bcast_S_S8x4x2x4096x4096 (id (constant S_ .f32 0xFF800000#32)))

/-- Their row maxima. -/
def maxima (S : FVec Ideal S8x4x2x4096x4096 .f32) : FVec Ideal S8x4x2x4096 .f32 :=
  maximumf (broadcastInDim S8x4x2x4096 ![] bcast_S_S8x4x2x4096 (constant S_ .f32 0xFF800000#32)) (Host.reduce FloatOps.maximumf S (constant S_ .f32 0xFF800000#32) reducesTo_S8x4x2x4096x4096_S8x4x2x4096_d4 h_S_)

/-- The exponentials of the scores less their row maxima. -/
def exps (S : FVec Ideal S8x4x2x4096x4096 .f32) : FVec Ideal S8x4x2x4096x4096 .f32 :=
  Host.exp (subf S (broadcastInDim S8x4x2x4096x4096 ![0, 1, 2, 3, 4] bcast_S8x4x2x4096x1_S8x4x2x4096x4096_0_1_2_3_4 (broadcastInDim S8x4x2x4096x1 ![0, 1, 2, 3] bcast_S8x4x2x4096_S8x4x2x4096x1_0_1_2_3 (maxima S))))

/-- The exponentials over their row sums. -/
def probs (E : FVec Ideal S8x4x2x4096x4096 .f32) : FVec Ideal S8x4x2x4096x4096 .f32 :=
  Host.divf E (broadcastInDim S8x4x2x4096x4096 ![0, 1, 2, 3, 4] bcast_S8x4x2x4096x1_S8x4x2x4096x4096_0_1_2_3_4 (broadcastInDim S8x4x2x4096x1 ![0, 1, 2, 3] bcast_S8x4x2x4096_S8x4x2x4096x1_0_1_2_3 (Host.reduceAdd E (constant S_ .f32 0x00000000#32) reducesTo_S8x4x2x4096x4096_S8x4x2x4096_d4 h_S_)))

/-- The weight of the second softmax. -/
def weight (a b c d : Par) : FVec Ideal S_ .f32 :=
  addf (subf (Host.exp (Host.reduceAdd (mulf (shapeCast _ a shapeCasts_S1x64_S64) (shapeCast _ b shapeCasts_S1x64_S64)) (constant S_ .f32 0x00000000#32) reducesTo_S64_S_d0 h_S_)) (Host.exp (Host.reduceAdd (mulf (shapeCast _ c shapeCasts_S1x64_S64) (shapeCast _ d shapeCasts_S1x64_S64)) (constant S_ .f32 0x00000000#32) reducesTo_S64_S_d0 h_S_))) (constant S_ .f32 0x3E4CCCCD#32)

/-- The difference of the two softmaxes. -/
def attn (P : FVec Ideal S8x4x2x4096x4096 .f32) (l : FVec Ideal S_ .f32) : FVec Ideal S8x4x4096x4096 .f32 :=
  subf (shapeCast _ (extractStridedSlice S8x4x1x4096x4096 ![0, 0, 0, 0, 0] P slices_S8x4x2x4096x4096_S8x4x1x4096x4096_0_0_0_0_0) shapeCasts_S8x4x1x4096x4096_S8x4x4096x4096)
    (mulf (broadcastInDim S8x4x4096x4096 ![] bcast_S_S8x4x4096x4096 l) (shapeCast _ (extractStridedSlice S8x4x1x4096x4096 ![0, 0, 1, 0, 0] P slices_S8x4x2x4096x4096_S8x4x1x4096x4096_0_0_1_0_0) shapeCasts_S8x4x1x4096x4096_S8x4x4096x4096))

/-- That difference applied to the values. -/
def mixed (V : Arr) (A : FVec Ideal S8x4x4096x4096 .f32) : FVec Ideal S8x4096x4x128 .f32 :=
  transpose S8x4096x4x128 [0, 3, 1, 2] (Host.dotGeneral dot_S8x4096x4x128_S8x4x4096x4096_S8x4x128x4096_1_3_3_2_02_01 none (shapeCast _ (extf .f32 V bitsLt_bf16_f32) shapeCasts_S8x4096x512_S8x4096x4x128) A) transposes_S8x4x128x4096_S8x4096x4x128_0_3_1_2

/-- The output: the rows normalised, scaled, put side by side. -/
def output (O : FVec Ideal S8x4096x4x128 .f32) (g : FVec Ideal S1x128 .f32) : FVec Ideal S8x4096x512 .bf16 :=
  truncf .bf16 (shapeCast _ (mulf (mulf (mulf O (broadcastInDim S8x4096x4x128 ![0, 1, 2, 3] bcast_S8x4096x4x1_S8x4096x4x128_0_1_2_3 (Host.rsqrt (addf (Host.divf (broadcastInDim S8x4096x4x1 ![0, 1, 2] bcast_S8x4096x4_S8x4096x4x1_0_1_2 (Host.reduceAdd (mulf O O) (constant S_ .f32 0x00000000#32) reducesTo_S8x4096x4x128_S8x4096x4_d3 h_S_)) (broadcastInDim S8x4096x4x1 ![] bcast_S_S8x4096x4x1 (constant S_ .f32 0x43000000#32))) (broadcastInDim S8x4096x4x1 ![] bcast_S_S8x4096x4x1 (constant S_ .f32 0x358637BD#32)))))) (broadcastInDim S8x4096x4x128 ![0, 1, 2, 3] bcast_S1x1x1x128_S8x4096x4x128_0_1_2_3 (broadcastInDim S1x1x1x128 ![3] bcast_S128_S1x1x1x128_3 (shapeCast _ g shapeCasts_S1x128_S128)))) (broadcastInDim S8x4096x4x128 ![] bcast_S_S8x4096x4x128 (constant S_ .f32 0x3F4CCCCD#32))) shapeCasts_S8x4096x4x128_S8x4096x512) bitsLt_bf16_f32

/-- The whole reference. -/
def result (Q K V : Arr) (a b c d : Par) (g : FVec Ideal S1x128 .f32) : FVec Ideal S8x4096x512 .bf16 :=
  output (mixed V (attn (probs (exps (scores Q K))) (weight a b c d))) g

theorem result_eq (m : (ℓ : Loc nD τ sig) → Buf (Elt Ideal) ℓ) (c : Dev nD) :
    Cert.ReferenceIdeal.Value.res_main_v63 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := rfl

/-- A maximum over the last of five axes. -/
theorem reduce_last {n0 n1 n2 n3 n4 : ℕ} (S : FVec Ideal ⟨5, ![n0, n1, n2, n3, n4]⟩ .f32) (v : FVec Ideal S_ .f32) (hu : 0 < S_.numel)
    (h : (⟨5, ![n0, n1, n2, n3, n4]⟩ : Shape).ReducesTo [4] ⟨4, ![n0, n1, n2, n3]⟩) (a : Fin n0) (b : Fin n1) (c : Fin n2) (d : Fin n3) :
    Host.reduce FloatOps.maximumf S v h hu (ix4 a b c d) = Finset.univ.fold max (v (Shape.Idx.first hu)) fun k => S (ix5 a b c d k) := by
  pointwise

theorem max_pair {s : Shape} (x y : FVec Ideal s .f32) (i : s.Idx) : maximumf x y i = max (x i) (y i) := rfl

section
variable (b : Fin 8) (h : Fin 4) (c : Fin 2) (q k : Fin 4096) (d : Fin 128)

/-- Lane `e` of component `c` of head `h`. -/
def at' (h : Fin 4) (c : Fin 2) (e : Fin 64) : Fin 512 := ⟨h.val * 128 + c.val * 64 + e.val, by omega⟩

theorem scores_at (Q K : Arr) : scores Q K (ix5 b h c q k)
    = if k.val ≤ q.val then ∑ e : Fin 64, Q (ix3 b q (at' h c e)) * K (ix3 b k (at' h c e)) else ⊥ := by
  pointwise [scores]
  simp only [id]
  pointwise [negInf]
  word_cmp
  rfl

theorem maxima_at (S : FVec Ideal S8x4x2x4096x4096 .f32) :
    maxima S (ix4 b h c q) = max ⊥ (Finset.univ.fold max ⊥ fun k => S (ix5 b h c q k)) := by
  unfold maxima
  rw [max_pair, reduce_last S (constant S_ .f32 0xFF800000#32) h_S_ reducesTo_S8x4x2x4096x4096_S8x4x2x4096_d4 b h c q]
  pointwise [negInf]

theorem exps_at (S : FVec Ideal S8x4x2x4096x4096 .f32) :
    exps S (ix5 b h c q k) = Ideal.exp (S (ix5 b h c q k) - maxima S (ix4 b h c q)) := by
  pointwise [exps]

theorem probs_at (E : FVec Ideal S8x4x2x4096x4096 .f32) :
    probs E (ix5 b h c q k) = Ideal.div (E (ix5 b h c q k)) (∑ k, E (ix5 b h c q k)) := by
  pointwise [probs]

theorem weight_at (p r s t : Par) (z : S_.Idx) : weight p r s t z
    = lamOf (∑ e : Fin 64, p (ix2 0 e) * r (ix2 0 e)) (∑ e : Fin 64, s (ix2 0 e) * t (ix2 0 e)) := by
  pointwise [weight, lamOf]

theorem attn_at (P : FVec Ideal S8x4x2x4096x4096 .f32) (l : FVec Ideal S_ .f32) (x : EReal) (hl : ∀ z, l z = x) :
    attn P l (ix4 b h q k) = P (ix5 b h 0 q k) - x * P (ix5 b h 1 q k) := by
  pointwise [attn, hl]

theorem mixed_at (V : Arr) (A : FVec Ideal S8x4x4096x4096 .f32) :
    mixed V A (ix4 b q h d) = ∑ k, V (ix3 b k ⟨h.val * 128 + d.val, by omega⟩) * A (ix4 b h q k) := by
  pointwise [mixed]

theorem output_at (O : FVec Ideal S8x4096x4x128 .f32) (g : FVec Ideal S1x128 .f32) (j : Fin 512) :
    output O g (ix3 b q j) = normed (fun x => O (ix4 b q ⟨j.val / 128, by omega⟩ x)) (g (ix2 0 ⟨j.val % 128, by omega⟩)) ⟨j.val % 128, by omega⟩ := by
  pointwise [output, normed]
end

section
variable {Q K V : Arr} {X Y Z : S8x4096x512.Idx → ℝ}

/-- The weight of key `k` for query `q`. -/
def wgt (X Y : S8x4096x512.Idx → ℝ) (b : Fin 8) (h : Fin 4) (c : Fin 2) (q k : Fin 4096) : ℝ :=
  if k.val ≤ q.val then Real.exp (∑ e : Fin 64, X (ix3 b q (at' h c e)) * Y (ix3 b k (at' h c e))) else 0

theorem score_num (hQ : ∀ y, Q y = (X y : EReal)) (hK : ∀ y, K y = (Y y : EReal)) (b : Fin 8) (h : Fin 4) (c : Fin 2) (q k : Fin 4096) :
    Score (scores Q K (ix5 b h c q k)) (wgt X Y b h c q k) := by
  rw [scores_at, wgt]
  by_cases hk : k.val ≤ q.val
  · rw [if_pos hk, if_pos hk]
    refine Or.inl ⟨_, ?_, rfl⟩
    rw [← coe_sum]
    exact Finset.sum_congr rfl fun e _ => by rw [hQ, hK, EReal.coe_mul]
  · rw [if_neg hk, if_neg hk]
    exact Or.inr ⟨rfl, rfl⟩

theorem wgt_sum_ne (b : Fin 8) (h : Fin 4) (c : Fin 2) (q : Fin 4096) : ∑ k, wgt X Y b h c q k ≠ 0 := by
  refine ne_of_gt (Finset.sum_pos' (fun k _ => ?_) ⟨q, Finset.mem_univ _, ?_⟩)
  · unfold wgt
    by_cases hk : k.val ≤ q.val
    · rw [if_pos hk]; exact (Real.exp_pos _).le
    · rw [if_neg hk]
  · rw [wgt, if_pos le_rfl]; exact Real.exp_pos _

/-- A softmax entry is the key's weight over the sum of the weights. -/
theorem probs_num (hQ : ∀ y, Q y = (X y : EReal)) (hK : ∀ y, K y = (Y y : EReal)) (b : Fin 8) (h : Fin 4) (c : Fin 2) (q k : Fin 4096) :
    probs (exps (scores Q K)) (ix5 b h c q k) = ((wgt X Y b h c q k / ∑ j, wgt X Y b h c q j : ℝ) : EReal) := by
  obtain ⟨M, hM⟩ := max_num Finset.univ ⊥ bot_ne_top (fun k => scores Q K (ix5 b h c q k)) _ (fun k => score_num hQ hK b h c q k)
    ⟨q, Finset.mem_univ _, by
      rw [scores_at, if_pos le_rfl]
      rcases score_num hQ hK b h c q q with ⟨x, hx, _⟩ | ⟨_, hx⟩
      · rw [scores_at, if_pos le_rfl] at hx
        rw [hx]; exact EReal.coe_ne_bot x
      · rw [wgt, if_pos le_rfl] at hx; exact absurd hx (Real.exp_ne_zero _)⟩
  have he : ∀ j, exps (scores Q K) (ix5 b h c q j) = ((Real.exp (-M) * wgt X Y b h c q j : ℝ) : EReal) := fun j => by
    rw [exps_at, maxima_at, hM]; exact exp_less (score_num hQ hK b h c q j) M
  rw [probs_at, he, Finset.sum_congr rfl fun j _ => he j, coe_sum, ← Finset.mul_sum]
  exact div_num _ _ _ (wgt_sum_ne b h c q)

/-- The mean of the values by the weights of one component. -/
def mean (X Y Z : S8x4096x512.Idx → ℝ) (b : Fin 8) (h : Fin 4) (c : Fin 2) (q : Fin 4096) (d : Fin 128) : ℝ :=
  (∑ k, wgt X Y b h c q k * Z (ix3 b k ⟨h.val * 128 + d.val, by omega⟩)) / ∑ k, wgt X Y b h c q k

/-- The difference of the softmaxes applied to the values is the difference of the two means. -/
theorem mixed_num (hQ : ∀ y, Q y = (X y : EReal)) (hK : ∀ y, K y = (Y y : EReal)) (hV : ∀ y, V y = (Z y : EReal))
    (l : FVec Ideal S_ .f32) (x : ℝ) (hl : ∀ z, l z = (x : EReal)) (b : Fin 8) (h : Fin 4) (q : Fin 4096) (d : Fin 128) :
    mixed V (attn (probs (exps (scores Q K))) l) (ix4 b q h d)
      = (mean X Y Z b h 0 q d : EReal) - (x : EReal) * (mean X Y Z b h 1 q d : EReal) := by
  rw [mixed_at]
  simp only [attn_at _ _ _ _ _ l x hl, probs_num hQ hK, hV, ← EReal.coe_mul, ← EReal.coe_sub, coe_sum]
  refine congrArg _ ?_
  simp only [mean, Finset.sum_div, Finset.mul_sum, ← Finset.sum_sub_distrib]
  exact Finset.sum_congr rfl fun k _ => by ring

/-- The reference's result at an entry. -/
theorem result_at (hQ : ∀ y, Q y = (X y : EReal)) (hK : ∀ y, K y = (Y y : EReal)) (hV : ∀ y, V y = (Z y : EReal))
    (a a' e e' : Par) (g : FVec Ideal S1x128 .f32) (x : ℝ)
    (hx : lamOf (∑ i : Fin 64, a (ix2 0 i) * a' (ix2 0 i)) (∑ i : Fin 64, e (ix2 0 i) * e' (ix2 0 i)) = x)
    (b : Fin 8) (q : Fin 4096) (j : Fin 512) :
    result Q K V a a' e e' g (ix3 b q j) = normed (fun d => (mean X Y Z b ⟨j.val / 128, by omega⟩ 0 q d : EReal)
        - (x : EReal) * (mean X Y Z b ⟨j.val / 128, by omega⟩ 1 q d : EReal)) (g (ix2 0 ⟨j.val % 128, by omega⟩)) ⟨j.val % 128, by omega⟩ := by
  rw [result, output_at]
  simp only [mixed_num hQ hK hV _ x (fun z => (weight_at a a' e e' z).trans hx)]
end
end Cert.ReferenceIdeal.Stage
-- ==== Proof.Value.lean ====
/-
  The result array of the idealized kernel is the reference's result of the same arrays.
-/
module

public import proofs.«01_k».proof.Proof.Rows
public import proofs.«01_k».proof.Proof.Ref
public import proofs.«01_k».proof.Proof.Gen.KernelIdeal.Value
public import Idealize.ShloMosaic.Lib.Pipeline.ValueKit

@[expose] public section

set_option maxRecDepth 65536
noncomputable section
open Idealize.ShloMosaic Idealize.ShloMosaic.TcCoe Idealize.SL.Sem
open Idealize.ShloMosaic.Pipeline (Dat)
namespace Cert.KernelIdeal.Body
open Cert.KernelIdeal Cert.KernelIdeal.Gen Cert.Row
open Cert.ReferenceIdeal.Stage (result result_at wgt mean at')

/-- The whole array's row of row `r` of query block `n`. -/
def row (n : Fin 16) (r : Fin 256) : Fin 4096 := ⟨n.val * 256 + r.val, by omega⟩

/-- The whole array's column of lane `e` of head `h`. -/
def col (h : Fin 4) (e : Fin 128) : Fin 512 := ⟨h.val * 128 + e.val, by omega⟩

variable {X Y Z : S8x4096x512.Idx → ℝ} {Q K V : FVec Ideal S8x4096x512 .bf16}

/-- The kernel's weight of a key for a stacked row is the reference's for the row's component and position. -/
theorem kw_eq (b : Fin 8) (h : Fin 4) (n : Fin 16) (c : Fin 2) (q : Fin 256) (k : Fin 4096) :
    kw (fun y => X (ix3 b (row n (y 1)) (col h (y 2)))) (fun y => Y (ix3 b (y 1) (col h (y 2)))) n.val (256 * c.val + q.val) k.val
      = wgt X Y b h c (row n q) k := by
  have e1 : (256 * c.val + q.val) % 256 = q.val := by omega
  have e2 : (256 * c.val + q.val) / 256 = c.val := by omega
  have e3 : Fin.ofNat 256 (256 * c.val + q.val) = q := Fin.ext e1
  have e4 : Fin.ofNat 4096 k.val = k := Fin.ext (Nat.mod_eq_of_lt k.isLt)
  have e5 : ∀ e : Fin 64, col h (lane c.val e) = at' h c e := fun e => Fin.ext (by
    show h.val * 128 + (64 * c.val + e.val) % 128 = h.val * 128 + c.val * 64 + e.val
    omega)
  have e6 : 256 * n.val + q.val = (row n q).val := by show _ = n.val * 256 + q.val; omega
  unfold kw wt wgt
  rw [e1, e2, e3, e4, e6]
  refine if_congr Iff.rfl (congrArg Real.exp (Finset.sum_congr rfl fun e _ => ?_)) rfl
  show X (ix3 b (row n q) (col h (lane c.val e))) * Y (ix3 b k (col h (lane c.val e))) = _
  rw [e5]

/-- What the kernel stores at row `q`, lane `d` of a block is the reference's result at the entry the block places there. -/
theorem point (hQ : ∀ y, Q y = (X y : EReal)) (hK : ∀ y, K y = (Y y : EReal)) (hV : ∀ y, V y = (Z y : EReal))
    (a a' e e' : FVec Ideal S1x64 .f32) (g : FVec Ideal S1x128 .f32) (x : ℝ)
    (hx : lamOf (∑ i : Fin 64, a (ix2 0 i) * a' (ix2 0 i)) (∑ i : Fin 64, e (ix2 0 i) * e' (ix2 0 i)) = x)
    (x0 : Vec Ideal S1x256x128 .bf16) (x1 x2 : Vec Ideal S1x4096x128 .bf16) (b : Fin 8) (h : Fin 4) (n : Fin 16)
    (h0 : ∀ y, x0 y = Q (ix3 b (row n (y 1)) (col h (y 2)))) (h1 : ∀ y, x1 y = K (ix3 b (y 1) (col h (y 2))))
    (h2 : ∀ y, x2 y = V (ix3 b (y 1) (col h (y 2)))) (q : Fin 256) (d : Fin 128) :
    emit (last (stack x0) (tile x1 n.val) (tile x2 n.val) (states (stack x0) x1 x2 n.val)) a a' e e' g (ix3 0 q d)
      = result Q K V a a' e e' g (ix3 b (row n q) (col h d)) := by
  have j1 : (⟨(col h d).val / 128, by omega⟩ : Fin 4) = h := Fin.ext (by show (h.val * 128 + d.val) / 128 = _; omega)
  have j2 : (⟨(col h d).val % 128, by omega⟩ : Fin 128) = d := Fin.ext (by show (h.val * 128 + d.val) % 128 = _; omega)
  have hq : ∀ (c : Fin 2) (r : Fin 512) (hr : r.val = 256 * c.val + q.val) (d : Fin 128),
      quo (last (stack x0) (tile x1 n.val) (tile x2 n.val) (states (stack x0) x1 x2 n.val)) r d = (mean X Y Z b h c (row n q) d : EReal) := by
    intro c r hr d
    rw [quo_at (fun y => (h0 y).trans (hQ _)) (fun y => (h1 y).trans (hK _)) (fun y => (h2 y).trans (hV _)) n.val n.isLt r d, hr]
    simp only [kw_eq]
    unfold mean
    have : ∀ k : Fin 4096, val (fun y => Z (ix3 b (y 1) (col h (y 2)))) d k.val = Z (ix3 b k ⟨h.val * 128 + d.val, by omega⟩) := fun k => by
      have e4 : Fin.ofNat 4096 k.val = k := Fin.ext (Nat.mod_eq_of_lt k.isLt)
      unfold val
      rw [e4]; rfl
    simp only [this]
  rw [emit_at, result_at hQ hK hV a a' e e' g x hx b (row n q) (col h d), j1, j2, hx]
  refine congrArg (fun D => normed D _ d) (funext fun d' => ?_)
  rw [hq 0 _ (by simp) d', hq 1 _ (by simp [Nat.add_comm]) d']

variable (m : (ℓ : Loc nD τ sig) → Buf (Elt Ideal) ℓ)

/-- Which block each window stages at each grid point. -/
theorem idx : ∀ t : Fin cfg0.N,
    win0_0.index t = ![(grid0.coords t 0).val, (grid0.coords t 2).val, (grid0.coords t 1).val]
    ∧ win0_1.index t = ![(grid0.coords t 0).val, 0, (grid0.coords t 1).val]
    ∧ win0_2.index t = ![(grid0.coords t 0).val, 0, (grid0.coords t 1).val]
    ∧ win0_3.index t = ![0, 0] ∧ win0_4.index t = ![0, 0] ∧ win0_5.index t = ![0, 0] ∧ win0_6.index t = ![0, 0]
    ∧ win0_7.index t = ![0, 0]
    ∧ win0_8.index t = ![(grid0.coords t 0).val, (grid0.coords t 2).val, (grid0.coords t 1).val] :=
  (by decide +kernel : ∀ t : Fin grid0.N, _)

/-- The kernel's result array is the reference's result of the arguments, when the queries, keys and values are numbers and the
    weight of the second softmax is one. -/
theorem final (c : Dev nD) (hQ : ∀ y, m ((c : Thread nD τ).loc main_arg0) y = (X y : EReal))
    (hK : ∀ y, m ((c : Thread nD τ).loc main_arg1) y = (Y y : EReal)) (hV : ∀ y, m ((c : Thread nD τ).loc main_arg2) y = (Z y : EReal))
    (a a' e e' : FVec Ideal S1x64 .f32) (g : FVec Ideal S1x128 .f32)
    (ha : m ((c : Thread nD τ).loc main_arg3) = a) (ha' : m ((c : Thread nD τ).loc main_arg4) = a')
    (he : m ((c : Thread nD τ).loc main_arg5) = e) (he' : m ((c : Thread nD τ).loc main_arg6) = e')
    (hg : m ((c : Thread nD τ).loc main_arg7) = g) (x : ℝ)
    (hx : lamOf (∑ i : Fin 64, a (ix2 0 i) * a' (ix2 0 i)) (∑ i : Fin 64, e (ix2 0 i) * e' (ix2 0 i)) = x) :
    (dats m 0 c).arrAt 8 cfg0.N = result (m ((c : Thread nD τ).loc main_arg0)) (m ((c : Thread nD τ).loc main_arg1))
      (m ((c : Thread nD τ).loc main_arg2)) a a' e e' g := by
  refine (dats m 0 c).arrAt_eq_of_covers 8 _ (by decide +kernel) fun t hf y => ?_
  blk_simp
  rw [after0_8]
  unfold outsAt0
  rw [out_eq]
  let b : Fin 8 := grid0.coords t 0
  let h : Fin 4 := grid0.coords t 1
  let n : Fin 16 := grid0.coords t 2
  have w0 : ∀ y, (iblk m c 0 t : Vec Ideal S1x256x128 .bf16) y = m ((c : Thread nD τ).loc main_arg0) (ix3 b (row n (y 1)) (col h (y 2))) := fun y => by
    blk_ext! [iblk, V, idx t, b, h, n, row, col]
  have w1 : ∀ y, (iblk m c 1 t : Vec Ideal S1x4096x128 .bf16) y = m ((c : Thread nD τ).loc main_arg1) (ix3 b (y 1) (col h (y 2))) := fun y => by
    blk_ext! [iblk, V, idx t, b, h, n, row, col]
  have w2 : ∀ y, (iblk m c 2 t : Vec Ideal S1x4096x128 .bf16) y = m ((c : Thread nD τ).loc main_arg2) (ix3 b (y 1) (col h (y 2))) := fun y => by
    blk_ext! [iblk, V, idx t, b, h, n, row, col]
  have w3 : iblk m c 3 t = a := by rw [← ha]; blk_ext! [iblk, V, idx t]
  have w4 : iblk m c 4 t = a' := by rw [← ha']; blk_ext! [iblk, V, idx t]
  have w5 : iblk m c 5 t = e := by rw [← he]; blk_ext! [iblk, V, idx t]
  have w6 : iblk m c 6 t = e' := by rw [← he']; blk_ext! [iblk, V, idx t]
  have w7 : iblk m c 7 t = g := by rw [← hg]; blk_ext! [iblk, V, idx t]
  rw [w3, w4, w5, w6, w7]
  have w8 : ((cfg0.win 8).blk t).view.emb y = ix3 b (row n (y 1)) (col h (y 2)) := by blk_ext [idx t, b, h, n, row, col]
  have wy : y = ix3 0 (y 1) (y 2) := by blk_ext []
  rw [w8]
  refine Eq.trans (congrArg _ wy) ?_
  exact point hQ hK hV a a' e e' g x hx _ _ _ b h n w0 w1 w2 (y 1) (y 2)

end Cert.KernelIdeal.Body
end
-- ==== Proof.Num.lean ====
/-
  What the precondition gives: every query, key, value and lambda parameter is a real number.
-/
module

public import proofs.«01_k».proof.Defs
public import proofs.«01_k».proof.Proof.Row
public import Idealize.ShloMosaic.Lib.ReduceAll
public import Idealize.ShloMosaic.Lib.Pointwise

@[expose] public section

set_option maxRecDepth 65536
noncomputable section
open Idealize.ShloMosaic Idealize.ShloMosaic.TcCoe Idealize.SL.Sem
namespace Cert.Num
open Cert.Pre_finite

/-- An extended real whose absolute value compares less than infinity is a real number. -/
theorem real_of_lt (x : EReal) (h : Ideal.cmp .olt (max x (-x)) (Ideal.ofBits .f32 0x7F800000#32) = 1#1) : x = ((x.toReal : ℝ) : EReal) := by
  rw [show Ideal.ofBits .f32 0x7F800000#32 = ⊤ by simp [Ideal.ofBits, Ideal.ieee]] at h
  refine (EReal.coe_toReal ?_ ?_).symm
  · rintro rfl; simp [Ideal.cmp] at h
  · rintro rfl; simp [Ideal.cmp] at h

/-- An array all of whose entries compare less than infinity in absolute value has only real entries. -/
theorem reals {s : Shape} {axes : List (Fin s.rank)} (x : FVec Ideal s .f32) (hb : S_.BroadcastsInDim s (![] : Fin 0 → Fin s.rank))
    (init : S_.Idx → BitVec 1) (hr : s.ReducesTo axes S_) (hu : 0 < S_.numel) (z : S_.Idx)
    (h : Host.reduce IntOp.andi (cmpf .olt (Host.absf x) (broadcastInDim s ![] hb (constant S_ .f32 0x7F800000#32))) init hr hu z = 1#1)
    (y : s.Idx) : x y = ((x y).toReal : EReal) := by
  haveI : Subsingleton S_.Idx := ⟨fun i j => funext fun a => a.elim0⟩
  exact real_of_lt (x y) (Host.reduce_andi_all _ init hr hu z h y)

/-- The side conditions of the precondition's operations. -/
theorem facts : Facts where
  bitsLt_bf16_f32 := by decide
  bcast_S_S8x4096x512 := by decide
  reducesTo_S8x4096x512_S_d0_1_2 := by decide
  h_S_ := by decide
  bcast_S_S1x64 := by decide
  reducesTo_S1x64_S_d0_1 := by decide

variable [Facts] {Q K V : FVec Ideal S8x4096x512 .bf16} {a a' e e' : FVec Ideal S1x64 .f32} {g : FVec Ideal S1x128 .f32}

/-- The precondition at the arguments: each of the seven arrays has only real entries. -/
theorem pre_reals (h : fn (F := Ideal) Q K V a a' e e' g = fun _ => 1#1) :
    (∀ y, Q y = ((Q y).toReal : EReal)) ∧ (∀ y, K y = ((K y).toReal : EReal)) ∧ (∀ y, V y = ((V y).toReal : EReal))
    ∧ (∀ y, a y = ((a y).toReal : EReal)) ∧ (∀ y, a' y = ((a' y).toReal : EReal)) ∧ (∀ y, e y = ((e y).toReal : EReal))
    ∧ (∀ y, e' y = ((e' y).toReal : EReal)) := by
  have h := congrFun h ix0
  unfold fn fn_part1 fn_part2 at h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h1, h2⟩ := IntOp.andi_eq_one.1 h
  exact ⟨reals Q _ _ _ _ _ h1, reals K _ _ _ _ _ h2, reals V _ _ _ _ _ h3, reals a _ _ _ _ _ h4, reals a' _ _ _ _ _ h5,
    reals e _ _ _ _ _ h6, reals e' _ _ _ _ _ h7⟩

/-- A sum of products of real entries is a real number. -/
theorem dot_real (a b : FVec Ideal S1x64 .f32) (ha : ∀ y, a y = ((a y).toReal : EReal)) (hb : ∀ y, b y = ((b y).toReal : EReal)) :
    (∑ i : Fin 64, a (ix2 0 i) * b (ix2 0 i)) = ((∑ i : Fin 64, (a (ix2 0 i)).toReal * (b (ix2 0 i)).toReal : ℝ) : EReal) := by
  rw [← Cert.Row.coe_sum]
  exact Finset.sum_congr rfl fun i _ => by rw [EReal.coe_mul, ← ha, ← hb]

/-- The weight of the second softmax is a real number when the parameters are. -/
theorem lam_real (a b e f : FVec Ideal S1x64 .f32) (ha : ∀ y, a y = ((a y).toReal : EReal)) (hb : ∀ y, b y = ((b y).toReal : EReal))
    (he : ∀ y, e y = ((e y).toReal : EReal)) (hf : ∀ y, f y = ((f y).toReal : EReal)) :
    ∃ x : ℝ, Cert.Row.lamOf (∑ i : Fin 64, a (ix2 0 i) * b (ix2 0 i)) (∑ i : Fin 64, e (ix2 0 i) * f (ix2 0 i)) = x := by
  rw [dot_real a b ha hb, dot_real e f he hf]
  exact Cert.Row.lamOf_num _ _
end Cert.Num
end
-- ==== Proof.OutRef.lean ====
/-
  The reference of the output projection, stage by stage and read at an index: the hidden rows, their normalisation, and
  the scores of both halves of every head's query.
-/
module

public import proofs.«01_k».proof.Proof.Gen.Reference2Ideal.Run
public import Idealize.ShloMosaic.Lib.Pointwise

@[expose] public section

set_option maxRecDepth 65536
noncomputable section
open Idealize.ShloMosaic Idealize.ShloMosaic.TcCoe Idealize.SL.Sem

namespace Cert.OutProj

/-- One entry of a hidden row: the residual plus the gated mixers through their projections and the output matrix. -/
def hid (a b : Fin 512 → EReal) (ga gb : Fin 1024 → EReal) (x : EReal) (pa pb : Fin 512 → Fin 1024 → EReal) (wo : Fin 1024 → EReal) : EReal :=
  x + ∑ k, (ga k * (∑ i, a i * pa i k) + gb k * ∑ i, b i * pb i k) * wo k

/-- One entry of a row divided by its root mean square, with its gain. -/
def nrm (H : Fin 1024 → EReal) (h g : EReal) : EReal :=
  h * Ideal.rsqrt (Ideal.div (∑ n, H n * H n) (Ideal.ofBits .f32 0x44800000#32) + Ideal.ofBits .f32 0x358637BD#32) * g

/-- A key against a part of a query row. -/
def sc (C : Fin 1024 → EReal) (W : Fin 1024 → Fin 128 → EReal) (K : Fin 128 → EReal) : EReal :=
  ∑ e, (∑ n, C n * W n e) * K e

end Cert.OutProj

namespace Cert.Reference2Ideal.Stage
open Cert.Reference2Ideal Cert.Reference2Ideal.Gen Cert.OutProj

/-- The hidden rows. -/
def hidden (A B : FVec Ideal S32768x512 .bf16) (G : FVec Ideal S32768x2048 .bf16) (X : FVec Ideal S32768x1024 .f32)
    (P Q : FVec Ideal S512x1024 .f32) (W : FVec Ideal S1024x1024 .f32) : FVec Ideal S32768x1024 .f32 :=
  addf X (Host.dotGeneral dot_S32768x1024_S1024x1024_S32768x1024_1_0_0_1_n_n none (addf
    (mulf (extractStridedSlice S32768x1024 ![0, 0] (extf .f32 G bitsLt_bf16_f32) slices_S32768x2048_S32768x1024_0_0)
      (Host.dotGeneral (φ₂ := .f32) dot_S32768x512_S512x1024_S32768x1024_1_0_0_1_n_n none (extf .f32 A bitsLt_bf16_f32) P))
    (mulf (extractStridedSlice S32768x1024 ![0, 1024] (extf .f32 G bitsLt_bf16_f32) slices_S32768x2048_S32768x1024_0_1024)
      (Host.dotGeneral (φ₂ := .f32) dot_S32768x512_S512x1024_S32768x1024_1_0_0_1_n_n none (extf .f32 B bitsLt_bf16_f32) Q))) W)

/-- Their normalisation. -/
def normal (H : FVec Ideal S32768x1024 .f32) (g : FVec Ideal S1024 .f32) : FVec Ideal S32768x1024 .f32 :=
  mulf (mulf H (broadcastInDim S32768x1024 ![0, 1] bcast_S32768x1_S32768x1024_0_1 (Host.rsqrt (addf (Host.divf
    (broadcastInDim S32768x1 ![0] bcast_S32768_S32768x1_0 (Host.reduceAdd (mulf H H) (constant S_ .f32 0x00000000#32) reducesTo_S32768x1024_S32768_d1 h_S_))
    (broadcastInDim S32768x1 ![] bcast_S_S32768x1 (constant S_ .f32 0x44800000#32))) (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 g))

/-- The query rows, by head and half. -/
def query (C : FVec Ideal S32768x1024 .f32) (W : FVec Ideal S1024x2048 .f32) : FVec Ideal S32768x8x2x128 .f32 :=
  shapeCast _ (Host.dotGeneral (φ₁ := .f32) (φ₂ := .f32) dot_S32768x1024_S1024x2048_S32768x2048_1_0_0_1_n_n none C W) shapeCasts_S32768x2048_S32768x8x2x128

/-- The keys against the first half. -/
def first (Q : FVec Ideal S32768x8x2x128 .f32) (K : FVec Ideal S128x128 .f32) : FVec Ideal S8x128x32768 .f32 :=
  transpose S8x128x32768 [1, 2, 0] (Host.dotGeneral (φ₁ := .f32) (φ₂ := .f32) dot_S32768x8x128_S128x128_S32768x8x128_2_1_01_0_n_n none
    (shapeCast _ (extractStridedSlice S32768x8x1x128 ![0, 0, 0, 0] Q slices_S32768x8x2x128_S32768x8x1x128_0_0_0_0) shapeCasts_S32768x8x1x128_S32768x8x128) K)
    transposes_S32768x8x128_S8x128x32768_1_2_0

/-- The keys against the second half. -/
def second (Q : FVec Ideal S32768x8x2x128 .f32) (K : FVec Ideal S128x128 .f32) : FVec Ideal S8x128x32768 .f32 :=
  transpose S8x128x32768 [1, 2, 0] (Host.dotGeneral (φ₁ := .f32) (φ₂ := .f32) dot_S32768x8x128_S128x128_S32768x8x128_2_1_01_0_n_n none
    (shapeCast _ (extractStridedSlice S32768x8x1x128 ![0, 0, 1, 0] Q slices_S32768x8x2x128_S32768x8x1x128_0_0_1_0) shapeCasts_S32768x8x1x128_S32768x8x128) K)
    transposes_S32768x8x128_S8x128x32768_1_2_0

/-- Column `e` of half `u` of head `h`'s query. -/
def at' (h : Fin 8) (u : Fin 2) (e : Fin 128) : Fin 2048 := ⟨h.val * 256 + u.val * 128 + e.val, by omega⟩

section
variable (t : Fin 32768) (n : Fin 1024) (h : Fin 8) (u : Fin 2) (e k : Fin 128)

theorem hidden_at (A B : FVec Ideal S32768x512 .bf16) (G : FVec Ideal S32768x2048 .bf16) (X : FVec Ideal S32768x1024 .f32)
    (P Q : FVec Ideal S512x1024 .f32) (W : FVec Ideal S1024x1024 .f32) : hidden A B G X P Q W (ix2 t n)
      = hid (fun i => A (ix2 t i)) (fun i => B (ix2 t i)) (fun k => G (ix2 t ⟨k.val, by omega⟩)) (fun k => G (ix2 t ⟨1024 + k.val, by omega⟩)) (X (ix2 t n))
        (fun i k => P (ix2 i k)) (fun i k => Q (ix2 i k)) fun k => W (ix2 k n) := by
  pointwise [hidden, hid]

theorem normal_at (H : FVec Ideal S32768x1024 .f32) (g : FVec Ideal S1024 .f32) :
    normal H g (ix2 t n) = nrm (fun n => H (ix2 t n)) (H (ix2 t n)) (g (ix1 n)) := by
  pointwise [normal, nrm]

theorem query_at (C : FVec Ideal S32768x1024 .f32) (W : FVec Ideal S1024x2048 .f32) :
    query C W (ix4 t h u e) = ∑ n, C (ix2 t n) * W (ix2 n (at' h u e)) := by
  pointwise [query, at']

theorem first_at (C : FVec Ideal S32768x1024 .f32) (W : FVec Ideal S1024x2048 .f32) (K : FVec Ideal S128x128 .f32) :
    first (query C W) K (ix3 h k t) = sc (fun n => C (ix2 t n)) (fun n e => W (ix2 n (at' h 0 e))) fun e => K (ix2 k e) := by
  pointwise [first, sc]
  simp only [query_at]

theorem second_at (C : FVec Ideal S32768x1024 .f32) (W : FVec Ideal S1024x2048 .f32) (K : FVec Ideal S128x128 .f32) :
    second (query C W) K (ix3 h k t) = sc (fun n => C (ix2 t n)) (fun n e => W (ix2 n (at' h 1 e))) fun e => K (ix2 k e) := by
  pointwise [second, sc]
  simp only [query_at]
end

end Cert.Reference2Ideal.Stage
end
-- ==== Proof.OutValue.lean ====
/-
  The four result arrays of the idealized output projection are the reference's results of the same arrays.
-/
module

public import proofs.«01_k».proof.Proof.OutRef
public import proofs.«01_k».proof.Proof.Gen.Kernel2Ideal.Value
public import Idealize.ShloMosaic.Lib.Pipeline.ValueKit

@[expose] public section

set_option maxRecDepth 65536
noncomputable section
open Idealize.ShloMosaic Idealize.ShloMosaic.TcCoe Idealize.SL.Sem
open Idealize.ShloMosaic.Pipeline (Dat)
namespace Cert.Kernel2Ideal.Body
open Cert.Kernel2Ideal Cert.Kernel2Ideal.Gen Cert.OutProj
open Cert.Reference2Ideal.Stage (hidden normal query first second at' hidden_at normal_at first_at second_at)

/-- The hidden rows of a block. -/
theorem hidden_blk (v0 v4 : Vec Ideal S256x512 .bf16) (v1 v5 : Vec Ideal S512x1024 .bf16) (v8 v11 : Vec Ideal S256x1024 .bf16)
    (v15 : Vec Ideal S256x1024 .f32) (v17 : Vec Ideal S1024x1024 .bf16) (r : Fin 256) (n : Fin 1024) :
    k0_pay5 (F := Ideal) v0 v1 v4 v5 v8 v11 v15 v17 (ix2 r n)
      = hid (fun i => v0 (ix2 r i)) (fun i => v4 (ix2 r i)) (fun k => v8 (ix2 r k)) (fun k => v11 (ix2 r k)) (v15 (ix2 r n))
        (fun i k => v1 (ix2 i k)) (fun i k => v5 (ix2 i k)) fun k => v17 (ix2 k n) := by
  pointwise [k0_pay5, hid]

/-- Their normalisation. -/
theorem normal_blk (v0 v4 : Vec Ideal S256x512 .bf16) (v1 v5 : Vec Ideal S512x1024 .bf16) (v8 v11 : Vec Ideal S256x1024 .bf16)
    (v15 : Vec Ideal S256x1024 .f32) (v17 : Vec Ideal S1024x1024 .bf16) (g : Vec Ideal S1x1024 .f32) (r : Fin 256) (n : Fin 1024) :
    k0_pay8 (F := Ideal) (k0_pay5 v0 v1 v4 v5 v8 v11 v15 v17) (k0_pay6 g) (k0_pay7 v0 v1 v4 v5 v8 v11 v15 v17) (ix2 r n)
      = nrm (fun n => k0_pay5 (F := Ideal) v0 v1 v4 v5 v8 v11 v15 v17 (ix2 r n)) (k0_pay5 (F := Ideal) v0 v1 v4 v5 v8 v11 v15 v17 (ix2 r n)) (g (ix2 0 n)) := by
  pointwise [k0_pay8, k0_pay7, k0_pay6, nrm]

/-- The keys against the first half of a head's query. -/
theorem first_blk (c : FVec Ideal S256x1024 .bf16) (w : Vec Ideal S1024x256 .bf16) (k : Vec Ideal S128x128 .bf16) (a : Fin 128) (r : Fin 256) :
    k0_pay3 (F := Ideal) c w k (ix3 0 a r)
      = sc (fun n => c (ix2 r n)) (fun n e => w (ix2 n ⟨e.val, by omega⟩)) fun e => k (ix2 a e) := by
  pointwise [k0_pay3, k0_pay2, sc]
  exact Finset.sum_congr rfl fun e _ => mul_comm _ _

/-- The keys against the second half. -/
theorem second_blk (c : FVec Ideal S256x1024 .bf16) (w : Vec Ideal S1024x256 .bf16) (k : Vec Ideal S128x128 .bf16) (a : Fin 128) (r : Fin 256) :
    k0_pay4 (F := Ideal) c w k (ix3 0 a r)
      = sc (fun n => c (ix2 r n)) (fun n e => w (ix2 n ⟨128 + e.val, by omega⟩)) fun e => k (ix2 a e) := by
  pointwise [k0_pay4, k0_pay2, sc]
  exact Finset.sum_congr rfl fun e _ => mul_comm _ _

variable (m : (ℓ : Loc nD τ sig) → Buf (Elt Ideal) ℓ)

/-- Which block each window stages at each grid point. -/
theorem idx : ∀ t : Fin cfg0.N,
    win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0]
    ∧ win0_11.index t = ![t.val, 0] ∧ win0_12.index t = ![t.val, 0] ∧ win0_13.index t = ![0, 0, t.val] ∧ win0_14.index t = ![0, 0, t.val] :=
  (by decide +kernel : ∀ t : Fin grid0.N, _)

variable (c : Dev nD)

/-- The reference's hidden rows of the arguments. -/
abbrev refH : FVec Ideal S32768x1024 .f32 := hidden (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))

/-- Its normalised rows. -/
abbrev refC : FVec Ideal S32768x1024 .f32 := normal (refH m c) (m ((c : Thread nD τ).loc main_arg7))

/-- The row of the arrays at row `r` of block `t`. -/
def row (t : Fin cfg0.N) (r : Fin 256) : Fin 32768 := ⟨t.val * 256 + r.val, by
  have : t.val < 128 := t.isLt
  omega⟩

/-- The hidden rows the body computes are the reference's. -/
theorem hidden_eq (t : Fin cfg0.N) (r : Fin 256) (n : Fin 1024) :
    k0_pay33 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix2 r n) = refH m c (ix2 (row t r) n) := by
  unfold k0_pay33
  refine (hidden_blk _ _ _ _ _ _ _ _ r n).trans (Eq.trans ?_ (hidden_at (row t r) n _ _ _ _ _ _ _).symm)
  pointwise [hid]
  blk_point [iblk, V, idx t, row]

/-- So are the normalised rows. -/
theorem normal_eq (t : Fin cfg0.N) (r : Fin 256) (n : Fin 1024) :
    k0_pay36 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix2 r n) = refC m c (ix2 (row t r) n) := by
  refine (normal_blk _ _ _ _ _ _ _ _ _ r n).trans (Eq.trans ?_ (normal_at (row t r) n _ _).symm)
  have e := fun n => hidden_eq m c t r n
  have g : (View.ld (iblk m c 7 t) r0_6 : Vec Ideal S1x1024 .f32) (ix2 0 n) = m ((c : Thread nD τ).loc main_arg7) (ix1 n) := by
    pointwise
    blk_point [iblk, V, idx t]
  unfold nrm
  rw [g]
  exact congrArg₂ (fun (x : Fin 1024 → EReal) y => nrm x y _) (funext e) (e n)

/-- The first result of the kernel is the reference's hidden rows. -/
theorem final_h : (dats m 0 c).arrAt 11 cfg0.N = refH m c := by
  refine (dats m 0 c).arrAt_eq_of_covers 11 _ (by decide +kernel) fun t hf y => ?_
  blk_simp
  rw [after0_11]
  have w : ((cfg0.win 11).blk t).view.emb y = ix2 (row t (y 0)) (y 1) := by blk_ext [idx t, row]
  refine Eq.trans ?_ ((hidden_eq m c t (y 0) (y 1)).trans (congrArg (refH m c) w).symm)
  unfold k0_pay33
  frame_out
  exact congrArg _ (eq_ix2 y)

/-- The second is their normalisation. -/
theorem final_c : (dats m 0 c).arrAt 12 cfg0.N = refC m c := by
  refine (dats m 0 c).arrAt_eq_of_covers 12 _ (by decide +kernel) fun t hf y => ?_
  blk_simp
  rw [after0_12]
  have w : ((cfg0.win 12).blk t).view.emb y = ix2 (row t (y 0)) (y 1) := by blk_ext [idx t, row]
  refine Eq.trans ?_ ((normal_eq m c t (y 0) (y 1)).trans (congrArg (refC m c) w).symm)
  frame_out
  exact congrArg _ (eq_ix2 y)

theorem sc_congr {C C' : Fin 1024 → EReal} {W W' : Fin 1024 → Fin 128 → EReal} {K K' : Fin 128 → EReal}
    (hC : ∀ n, C n = C' n) (hW : ∀ n e, W n e = W' n e) (hK : ∀ e, K e = K' e) : sc C W K = sc C' W' K' := by
  rw [funext hC, funext fun n => funext (hW n), funext hK]

/-- The scores of a block's rows against the keys of the first half, whichever of the eight stores they come from. -/
theorem first_tile (x0 x1 : Vec Ideal S256x512 .bf16) (x2 : Vec Ideal S256x2048 .bf16) (x3 : Vec Ideal S256x1024 .f32) (x4 x5 : Vec Ideal S512x1024 .bf16)
    (x6 : Vec Ideal S1024x1024 .bf16) (x7 : Vec Ideal S1x1024 .f32) (x8 : Vec Ideal S1024x2048 .bf16) (x9 x10 : Vec Ideal S128x128 .bf16)
    (y : S8x128x256.Idx) : out0_13 (F := Ideal) x0 x1 x2 x3 x4 x5 x6 x7 x8 x9 x10 y
      = sc (fun n => k0_pay36 (F := Ideal) x0 x1 x2 x3 x4 x5 x6 x7 x8 x9 x10 (ix2 (y 2) n)) (fun n e => x8 (ix2 n (at' (y 0) 0 e))) fun e => x9 (ix2 (y 1) e) := by
  unfold out0_13
  canon_tiles x h
  all_goals
    have hx : x = ix3 0 (x 1) (x 2) := by blk_ext []
    rw [hx]
    refine (first_blk (k0_pay36 (F := Ideal) x0 x1 x2 x3 x4 x5 x6 x7 x8 x9 x10) _ _ (x 1) (x 2)).trans
      (sc_congr (fun n => ?_) (fun n e => ?_) fun e => ?_)
    · refine congrArg _ ?_
      blk_ext []
    · pointwise
      blk_ext [at']
    · pointwise
      blk_ext []

/-- The scores of a block's rows against the keys of the second half, whichever of the eight stores they come from. -/
theorem second_tile (x0 x1 : Vec Ideal S256x512 .bf16) (x2 : Vec Ideal S256x2048 .bf16) (x3 : Vec Ideal S256x1024 .f32) (x4 x5 : Vec Ideal S512x1024 .bf16)
    (x6 : Vec Ideal S1024x1024 .bf16) (x7 : Vec Ideal S1x1024 .f32) (x8 : Vec Ideal S1024x2048 .bf16) (x9 x10 : Vec Ideal S128x128 .bf16)
    (y : S8x128x256.Idx) : out0_14 (F := Ideal) x0 x1 x2 x3 x4 x5 x6 x7 x8 x9 x10 y
      = sc (fun n => k0_pay36 (F := Ideal) x0 x1 x2 x3 x4 x5 x6 x7 x8 x9 x10 (ix2 (y 2) n)) (fun n e => x8 (ix2 n (at' (y 0) 1 e))) fun e => x10 (ix2 (y 1) e) := by
  unfold out0_14
  canon_tiles x h
  all_goals
    have hx : x = ix3 0 (x 1) (x 2) := by blk_ext []
    rw [hx]
    refine (second_blk (k0_pay36 (F := Ideal) x0 x1 x2 x3 x4 x5 x6 x7 x8 x9 x10) _ _ (x 1) (x 2)).trans
      (sc_congr (fun n => ?_) (fun n e => ?_) fun e => ?_)
    · refine congrArg _ ?_
      blk_ext []
    · pointwise
      blk_ext [at']
    · pointwise
      blk_ext []

/-- The third is the scores of the first halves. -/
theorem final_s1 : (dats m 0 c).arrAt 13 cfg0.N = first (query (refC m c) (m ((c : Thread nD τ).loc main_arg8))) (m ((c : Thread nD τ).loc main_arg9)) := by
  refine (dats m 0 c).arrAt_eq_of_covers 13 _ (by decide +kernel) fun t hf y => ?_
  blk_simp
  rw [after0_13]
  have w : ((cfg0.win 13).blk t).view.emb y = ix3 (y 0) (y 1) (row t (y 2)) := by blk_ext [idx t, row]
  refine (first_tile _ _ _ _ _ _ _ _ _ _ _ y).trans (Eq.trans ?_
    ((first_at (row t (y 2)) (y 0) (y 1) (refC m c) (m ((c : Thread nD τ).loc main_arg8)) (m ((c : Thread nD τ).loc main_arg9))).symm.trans
      (congrArg (first (query (refC m c) (m ((c : Thread nD τ).loc main_arg8))) (m ((c : Thread nD τ).loc main_arg9))) w).symm))
  refine sc_congr (fun n => normal_eq m c t (y 2) n) (fun n e => ?_) fun e => ?_
  · blk_point [iblk, V, idx t]
  · blk_point [iblk, V, idx t]

/-- The fourth is the scores of the second halves. -/
theorem final_s2 : (dats m 0 c).arrAt 14 cfg0.N = second (query (refC m c) (m ((c : Thread nD τ).loc main_arg8))) (m ((c : Thread nD τ).loc main_arg10)) := by
  refine (dats m 0 c).arrAt_eq_of_covers 14 _ (by decide +kernel) fun t hf y => ?_
  blk_simp
  rw [after0_14]
  have w : ((cfg0.win 14).blk t).view.emb y = ix3 (y 0) (y 1) (row t (y 2)) := by blk_ext [idx t, row]
  refine (second_tile _ _ _ _ _ _ _ _ _ _ _ y).trans (Eq.trans ?_
    ((second_at (row t (y 2)) (y 0) (y 1) (refC m c) (m ((c : Thread nD τ).loc main_arg8)) (m ((c : Thread nD τ).loc main_arg10))).symm.trans
      (congrArg (second (query (refC m c) (m ((c : Thread nD τ).loc main_arg8))) (m ((c : Thread nD τ).loc main_arg10))) w).symm))
  refine sc_congr (fun n => normal_eq m c t (y 2) n) (fun n e => ?_) fun e => ?_
  · blk_point [iblk, V, idx t]
  · blk_point [iblk, V, idx t]

end Cert.Kernel2Ideal.Body
end
-- ==== Proof.OutClaim.lean ====
/-
  The output projection: kernel and reference end with the same four arrays.
-/
module

public import proofs.«01_k».proof.Defs
public import proofs.«01_k».proof.Proof.Gen.Kernel2.Frame
public import proofs.«01_k».proof.Proof.OutValue
public import Idealize.ShloMosaic.Lib.Claim
public import Idealize.ShloMosaic.Lib.Quiescent

@[expose] public section

set_option maxRecDepth 65536
noncomputable section
open Idealize.ShloMosaic Idealize.ShloMosaic.TcCoe Idealize.SL.Sem
namespace Cert.OutProj

/-- The reference runs, leaves its arguments unchanged and every semaphore counter at zero. -/
theorem frame_reference : Cert.quiescent_Reference2Ideal (hReference2Ideal := Cert.Reference2Ideal.Gen.facts) := fun m ρ _ =>
  (θ_run Cert.Reference2Ideal.defs _ _).mono
    (fun r h => ⟨fun c => (h c).2.2.2.2, Idealize.ShloMosaic.sem_eq_zero_of_no_sems (by decide) r.2⟩) (Cert.Reference2Ideal.Value.run m ρ)

open Cert.Kernel2Ideal.Body in
/-- Whatever the arguments, the kernel and the reference end with the same hidden rows, normalised rows and scores. -/
theorem algebraic : Cert.algebraic_Kernel2Ideal_Reference2Ideal (hKernel2Ideal := Cert.Kernel2Ideal.Gen.facts)
    (hReference2Ideal := Cert.Reference2Ideal.Gen.facts) := by
  intro m g m' g' _ hagree
  refine ⟨fun c => refH m c, fun c => refC m c,
    fun c => Cert.Reference2Ideal.Stage.first (Cert.Reference2Ideal.Stage.query (refC m c) (m ((c : Thread Cert.Kernel2Ideal.nD Cert.Kernel2Ideal.τ).loc Cert.Kernel2Ideal.main_arg8)))
      (m ((c : Thread Cert.Kernel2Ideal.nD Cert.Kernel2Ideal.τ).loc Cert.Kernel2Ideal.main_arg9)),
    fun c => Cert.Reference2Ideal.Stage.second (Cert.Reference2Ideal.Stage.query (refC m c) (m ((c : Thread Cert.Kernel2Ideal.nD Cert.Kernel2Ideal.τ).loc Cert.Kernel2Ideal.main_arg8)))
      (m ((c : Thread Cert.Kernel2Ideal.nD Cert.Kernel2Ideal.τ).loc Cert.Kernel2Ideal.main_arg10)),
    (θ_run _ _ _).mono (fun r h c => ?_) (Cert.Kernel2Ideal.Value.run_blocks m g),
    (θ_run _ _ _).mono (fun r h c => ?_) (Cert.Reference2Ideal.Value.run m' g')⟩
  · obtain ⟨h0, h1, h2, h3, h4⟩ := h c
    exact ⟨h0.trans (final_h m c), h1.trans (final_c m c), h2.trans (final_s1 m c), h3.trans (final_s2 m c), h4⟩
  · obtain ⟨h0, h1, h2, h3, h4⟩ := h c
    obtain ⟨g0, g1, g2, g3, g4, g5, g6, g7, g8, g9, g10⟩ := hagree c
    rw [g0, g1, g2, g3, g4, g5, g6] at h0
    rw [g0, g1, g2, g3, g4, g5, g6, g7] at h1
    rw [g0, g1, g2, g3, g4, g5, g6, g7, g8, g9] at h2
    rw [g0, g1, g2, g3, g4, g5, g6, g7, g8, g10] at h3
    exact ⟨h0, h1, h2, h3, h4⟩

end Cert.OutProj
end
-- ==== Proof.InRef.lean ====
/-
  The reference of the input projection, stage by stage and read at an index: the normalised rows through the weight, the
  rotation of every head, and the seven results.
-/
module

public import proofs.«01_k».proof.Proof.Gen.Reference3Ideal.Run
public import proofs.«01_k».proof.Proof.OutRef
public import Idealize.ShloMosaic.Lib.Pointwise

@[expose] public section

set_option maxRecDepth 65536
noncomputable section
open Idealize.ShloMosaic Idealize.ShloMosaic.TcCoe Idealize.SL.Sem

namespace Cert.InProj

/-- One lane of a head after the rotation by the angles of cosines `c` and sines `s`: the first eight lanes with the next
    eight are turned, the others stay. -/
def rp (z : Fin 64 → EReal) (c s : Fin 8 → EReal) (e : Fin 64) : EReal :=
  if h : e.val < 8 then z e * c ⟨e.val, h⟩ - z ⟨e.val + 8, by omega⟩ * s ⟨e.val, h⟩
  else if h' : e.val < 16 then z e * c ⟨e.val - 8, by omega⟩ + z ⟨e.val - 8, by omega⟩ * s ⟨e.val - 8, by omega⟩
  else z e

/-- A rotation read off three pieces along a row of heads, at one lane of the row. -/
theorem rp_read {n : ℕ} (hn : n % 64 = 0) (y : Fin n → EReal) (c s : Fin 8 → EReal) (j : Fin n) :
    (if h : j.val % 64 < 8 then y j * c ⟨j.val % 64, h⟩ - y ⟨j.val / 64 * 64 + (8 + j.val % 64), by omega⟩ * s ⟨j.val % 64, h⟩
      else if h : j.val % 64 - 8 < 8 then
        y ⟨j.val / 64 * 64 + (8 + (j.val % 64 - 8)), by omega⟩ * c ⟨j.val % 64 - 8, h⟩ + y ⟨j.val / 64 * 64 + (j.val % 64 - 8), by omega⟩ * s ⟨j.val % 64 - 8, h⟩
      else y ⟨j.val / 64 * 64 + (16 + (j.val % 64 - 8 - 8)), by omega⟩)
      = rp (fun e => y ⟨j.val / 64 * 64 + e.val, by omega⟩) c s ⟨j.val % 64, by omega⟩ := by
  have e : ∀ (p q : ℕ) (hp : p < n) (hq : q < n), p = q → y ⟨p, hp⟩ = y ⟨q, hq⟩ := by rintro p _ _ _ rfl; rfl
  unfold rp
  by_cases h : j.val % 64 < 8
  · rw [dif_pos h, dif_pos h]
    exact congrArg₂ (· - ·) (congrArg (· * _) (e j.val _ j.isLt _ (by simp only; omega))) (congrArg (· * _) (e _ _ _ _ (by simp only; omega)))
  · by_cases h' : j.val % 64 < 16
    · rw [dif_neg h, dif_neg h, dif_pos h', dif_pos (by omega)]
      exact congrArg (fun v => v * _ + _) (e _ _ _ _ (by simp only; omega))
    · rw [dif_neg h, dif_neg h, dif_neg h', dif_neg (by omega)]
      exact e _ _ _ _ (by simp only; omega)

/-- A conditional on two conditions, one of which holds. -/
theorem if_and {p q : Prop} [Decidable p] [Decidable q] (f : p ∧ q → EReal) (g : q → EReal) {v : EReal} (hp : p)
    (hf : ∀ h h', f h = g h') (hv : v = 0) : (if h : p ∧ q then f h else v) = if h : q then g h else 0 := by
  by_cases h : q
  · rw [dif_pos h, dif_pos ⟨hp, h⟩, hf _ h]
  · rw [dif_neg h, dif_neg fun h' => h h'.2, hv]

theorem sitofp_zero : (FloatOps.sitofp (F := Ideal) .f32 (0#32 : BitVec 32) : EReal) = 0 := by
  show (((BitVec.toInt (0#32) : ℤ) : ℝ) : EReal) = 0
  simp

/-- A value read off six pieces of 128 lanes is the value every piece has at its lane. -/
theorem six (j : Fin 768) (f0 f1 f2 f3 f4 f5 : (l : ℕ) → l < 128 → EReal) {v : EReal}
    (h0 : ∀ l h, j.val = 0 + l → f0 l h = v) (h1 : ∀ l h, j.val = 128 + l → f1 l h = v) (h2 : ∀ l h, j.val = 256 + l → f2 l h = v)
    (h3 : ∀ l h, j.val = 384 + l → f3 l h = v) (h4 : ∀ l h, j.val = 512 + l → f4 l h = v) (h5 : ∀ l h, j.val = 640 + l → f5 l h = v) :
    (if h : j.val < 128 then f0 j.val h else if h : j.val - 128 < 128 then f1 (j.val - 128) h else if h : j.val - 128 - 128 < 128 then f2 (j.val - 128 - 128) h
      else if h : j.val - 128 - 128 - 128 < 128 then f3 (j.val - 128 - 128 - 128) h
      else if h : j.val - 128 - 128 - 128 - 128 < 128 then f4 (j.val - 128 - 128 - 128 - 128) h
      else f5 (j.val - 128 - 128 - 128 - 128 - 128) (by omega)) = v := by
  split
  · exact h0 _ _ (by omega)
  split
  · exact h1 _ _ (by omega)
  split
  · exact h2 _ _ (by omega)
  split
  · exact h3 _ _ (by omega)
  split
  · exact h4 _ _ (by omega)
  · exact h5 _ _ (by omega)

/-- A rotated lane of one piece as the lane of the whole row it is. -/
theorem kv_rot (z : Fin 4888 → EReal) (c s : Fin 8 → EReal) (o l : ℕ) (h : l < 128) (ho : o ≤ 640) (ho' : o % 64 = 0) :
    rp (fun e => z ⟨2048 + o + (l / 64 * 64 + e.val), by omega⟩) c s ⟨l % 64, by omega⟩
      = rp (fun e => z ⟨2048 + ((o + l) / 64 * 64 + e.val), by omega⟩) c s ⟨(o + l) % 64, by omega⟩ := by
  have a : l % 64 = (o + l) % 64 := by omega
  refine Eq.trans (congrArg (fun w => rp w c s _) (funext fun e => congrArg z (Fin.ext ?_))) (congrArg (rp _ c s) (Fin.ext a))
  simp only
  omega

theorem kv_keep (z : Fin 4888 → EReal) (p q q' : ℕ) (hp : p + q < 4888) (hq : 2048 + q' < 4888) (h : p + q = 2048 + q') :
    z ⟨p + q, hp⟩ = z ⟨2048 + q', hq⟩ := congrArg z (Fin.ext h)

/-- The logistic function. -/
def sg (z : EReal) : EReal := Ideal.div 1 (1 + Ideal.exp (-z))

end Cert.InProj

namespace Cert.Reference3Ideal.Stage
open Cert.Reference3Ideal Cert.Reference3Ideal.Gen Cert.InProj
open Cert.OutProj (nrm)

/-- The normalised rows. -/
def normal (X : FVec Ideal S8x4096x1024 .f32) (g : FVec Ideal S1024 .f32) : FVec Ideal S8x4096x1024 .f32 :=
  mulf (mulf X (broadcastInDim S8x4096x1024 ![0, 1, 2] bcast_S8x4096x1_S8x4096x1024_0_1_2 (Host.rsqrt (addf (Host.divf
    (broadcastInDim S8x4096x1 ![0, 1] bcast_S8x4096_S8x4096x1_0_1 (Host.reduceAdd (mulf X X) (constant S_ .f32 0x00000000#32) reducesTo_S8x4096x1024_S8x4096_d2 h_S_))
    (broadcastInDim S8x4096x1 ![] bcast_S_S8x4096x1 (constant S_ .f32 0x44800000#32))) (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 g))

/-- Those rows through the weight. -/
def proj (A : FVec Ideal S8x4096x1024 .f32) (W : FVec Ideal S1024x4888 .f32) : FVec Ideal S8x4096x4888 .f32 :=
  Host.dotGeneral (φ₁ := .f32) (φ₂ := .f32) dot_S8x4096x1024_S1024x4888_S8x4096x4888_2_0_01_1_n_n none A W

/-- The angle of each position and lane pair. -/
def ang : FVec Ideal S4096x8 .f32 :=
  mulf (broadcastInDim S4096x8 ![0, 1] bcast_S4096x1_S4096x8_0_1 (broadcastInDim S4096x1 ![0] bcast_S4096_S4096x1_0 (sitofp .f32 (iotaInDim S4096 32 0))))
    (broadcastInDim S4096x8 ![0, 1] bcast_S1x8_S4096x8_0_1 (broadcastInDim S1x8 ![1] bcast_S8_S1x8_1 (Host.powf
      (broadcastInDim S8 ![] bcast_S_S8 (constant S_ .f32 0x48F42400#32)) (Host.divf (mulf (Host.negf (sitofp .f32 (iotaInDim S8 32 0)))
        (broadcastInDim S8 ![] bcast_S_S8 (constant S_ .f32 0x40000000#32))) (broadcastInDim S8 ![] bcast_S_S8 (constant S_ .f32 0x41800000#32))))))

/-- Their cosines and sines, along the batch and head axes. -/
def cosT : FVec Ideal S1x4096x1x8 .f32 := broadcastInDim S1x4096x1x8 ![1, 3] bcast_S4096x8_S1x4096x1x8_1_3 (Host.cos ang)
def sinT : FVec Ideal S1x4096x1x8 .f32 := broadcastInDim S1x4096x1x8 ![1, 3] bcast_S4096x8_S1x4096x1x8_1_3 (Host.sin ang)

/-- The rotation of eight heads side by side. -/
def rope8 (Y : FVec Ideal S8x4096x512 .f32) : FVec Ideal S8x4096x512 .f32 :=
  let H : FVec Ideal S8x4096x8x64 .f32 := shapeCast _ Y shapeCasts_S8x4096x512_S8x4096x8x64
  let P : FVec Ideal S8x4096x8x8 .f32 := extractStridedSlice S8x4096x8x8 ![0, 0, 0, 0] H slices_S8x4096x8x64_S8x4096x8x8_0_0_0_0
  let Q : FVec Ideal S8x4096x8x8 .f32 := extractStridedSlice S8x4096x8x8 ![0, 0, 0, 8] H slices_S8x4096x8x64_S8x4096x8x8_0_0_0_8
  let C : FVec Ideal S8x4096x8x8 .f32 := broadcastInDim S8x4096x8x8 ![0, 1, 2, 3] bcast_S1x4096x1x8_S8x4096x8x8_0_1_2_3 cosT
  let S : FVec Ideal S8x4096x8x8 .f32 := broadcastInDim S8x4096x8x8 ![0, 1, 2, 3] bcast_S1x4096x1x8_S8x4096x8x8_0_1_2_3 sinT
  shapeCast _ (concatenate S8x4096x8x64 3 [⟨S8x4096x8x8, subf (mulf P C) (mulf Q S)⟩, ⟨S8x4096x8x8, addf (mulf Q C) (mulf P S)⟩,
    ⟨S8x4096x8x48, extractStridedSlice S8x4096x8x48 ![0, 0, 0, 16] H slices_S8x4096x8x64_S8x4096x8x48_0_0_0_16⟩]
    concatenates_S8x4096x8x8_S8x4096x8x8_S8x4096x8x48_S8x4096x8x64_d3) shapeCasts_S8x4096x8x64_S8x4096x512

/-- The rotation of two heads side by side. -/
def rope2 (Y : FVec Ideal S8x4096x128 .f32) : FVec Ideal S8x4096x128 .f32 :=
  let H : FVec Ideal S8x4096x2x64 .f32 := shapeCast _ Y shapeCasts_S8x4096x128_S8x4096x2x64
  let P : FVec Ideal S8x4096x2x8 .f32 := extractStridedSlice S8x4096x2x8 ![0, 0, 0, 0] H slices_S8x4096x2x64_S8x4096x2x8_0_0_0_0
  let Q : FVec Ideal S8x4096x2x8 .f32 := extractStridedSlice S8x4096x2x8 ![0, 0, 0, 8] H slices_S8x4096x2x64_S8x4096x2x8_0_0_0_8
  let C : FVec Ideal S8x4096x2x8 .f32 := broadcastInDim S8x4096x2x8 ![0, 1, 2, 3] bcast_S1x4096x1x8_S8x4096x2x8_0_1_2_3 cosT
  let S : FVec Ideal S8x4096x2x8 .f32 := broadcastInDim S8x4096x2x8 ![0, 1, 2, 3] bcast_S1x4096x1x8_S8x4096x2x8_0_1_2_3 sinT
  shapeCast _ (concatenate S8x4096x2x64 3 [⟨S8x4096x2x8, subf (mulf P C) (mulf Q S)⟩, ⟨S8x4096x2x8, addf (mulf Q C) (mulf P S)⟩,
    ⟨S8x4096x2x48, extractStridedSlice S8x4096x2x48 ![0, 0, 0, 16] H slices_S8x4096x2x64_S8x4096x2x48_0_0_0_16⟩]
    concatenates_S8x4096x2x8_S8x4096x2x8_S8x4096x2x48_S8x4096x2x64_d3) shapeCasts_S8x4096x2x64_S8x4096x128

/-- The queries of the differential attention, the keys and values, and the queries of the other mixer. -/
def qda (Z : FVec Ideal S8x4096x4888 .f32) : FVec Ideal S32768x512 .bf16 :=
  truncf .bf16 (shapeCast S32768x512 (mulf (rope8 (extractStridedSlice S8x4096x512 ![0, 0, 0] Z slices_S8x4096x4888_S8x4096x512_0_0_0))
    (broadcastInDim S8x4096x512 ![] bcast_S_S8x4096x512 (constant S_ .f32 0x3E000000#32))) shapeCasts_S8x4096x512_S32768x512) bitsLt_bf16_f32
def kda (Z : FVec Ideal S8x4096x4888 .f32) : FVec Ideal S32768x512 .bf16 :=
  truncf .bf16 (shapeCast S32768x512 (rope8 (extractStridedSlice S8x4096x512 ![0, 0, 512] Z slices_S8x4096x4888_S8x4096x512_0_0_512))
    shapeCasts_S8x4096x512_S32768x512) bitsLt_bf16_f32
def vda (Z : FVec Ideal S8x4096x4888 .f32) : FVec Ideal S32768x512 .bf16 :=
  truncf .bf16 (shapeCast S32768x512 (extractStridedSlice S8x4096x512 ![0, 0, 1024] Z slices_S8x4096x4888_S8x4096x512_0_0_1024)
    shapeCasts_S8x4096x512_S32768x512) bitsLt_bf16_f32
def qn (Z : FVec Ideal S8x4096x4888 .f32) : FVec Ideal S32768x512 .bf16 :=
  truncf .bf16 (shapeCast S32768x512 (mulf (rope8 (extractStridedSlice S8x4096x512 ![0, 0, 1536] Z slices_S8x4096x4888_S8x4096x512_0_0_1536))
    (broadcastInDim S8x4096x512 ![] bcast_S_S8x4096x512 (constant S_ .f32 0x3E000000#32))) shapeCasts_S8x4096x512_S32768x512) bitsLt_bf16_f32

/-- The other mixer's keys and values of its three branches, side by side. -/
def kvn (Z : FVec Ideal S8x4096x4888 .f32) : FVec Ideal S32768x768 .bf16 :=
  truncf .bf16 (shapeCast S32768x768 (concatenate S8x4096x768 2
    [⟨S8x4096x128, rope2 (extractStridedSlice S8x4096x128 ![0, 0, 2048] Z slices_S8x4096x4888_S8x4096x128_0_0_2048)⟩,
      ⟨S8x4096x128, extractStridedSlice S8x4096x128 ![0, 0, 2176] Z slices_S8x4096x4888_S8x4096x128_0_0_2176⟩,
      ⟨S8x4096x128, rope2 (extractStridedSlice S8x4096x128 ![0, 0, 2304] Z slices_S8x4096x4888_S8x4096x128_0_0_2304)⟩,
      ⟨S8x4096x128, extractStridedSlice S8x4096x128 ![0, 0, 2432] Z slices_S8x4096x4888_S8x4096x128_0_0_2432⟩,
      ⟨S8x4096x128, rope2 (extractStridedSlice S8x4096x128 ![0, 0, 2560] Z slices_S8x4096x4888_S8x4096x128_0_0_2560)⟩,
      ⟨S8x4096x128, extractStridedSlice S8x4096x128 ![0, 0, 2688] Z slices_S8x4096x4888_S8x4096x128_0_0_2688⟩]
    concatenates_S8x4096x128_S8x4096x128_S8x4096x128_S8x4096x128_S8x4096x128_S8x4096x128_S8x4096x768_d2) shapeCasts_S8x4096x768_S32768x768) bitsLt_bf16_f32

/-- The merge gates and the branch gates. -/
def gm (Z : FVec Ideal S8x4096x4888 .f32) : FVec Ideal S32768x2048 .bf16 :=
  truncf .bf16 (shapeCast S32768x2048 (Host.divf (broadcastInDim S8x4096x2048 ![] bcast_S_S8x4096x2048 (constant S_ .f32 0x3F800000#32))
    (addf (broadcastInDim S8x4096x2048 ![] bcast_S_S8x4096x2048 (constant S_ .f32 0x3F800000#32)) (Host.exp (Host.negf
      (extractStridedSlice S8x4096x2048 ![0, 0, 2840] Z slices_S8x4096x4888_S8x4096x2048_0_0_2840))))) shapeCasts_S8x4096x2048_S32768x2048) bitsLt_bf16_f32
def gn (Z : FVec Ideal S8x4096x4888 .f32) : FVec Ideal S32768x256 .f32 :=
  shapeCast S32768x256 (Host.divf (broadcastInDim S32768x2x128 ![] bcast_S_S32768x2x128 (constant S_ .f32 0x3F800000#32))
    (addf (broadcastInDim S32768x2x128 ![] bcast_S_S32768x2x128 (constant S_ .f32 0x3F800000#32)) (Host.exp (Host.negf
      (pad S32768x2x128 ![0, 0, 0] ![0, 0, 116] ![0, 0, 0] (shapeCast S32768x2x12 (extractStridedSlice S8x4096x24 ![0, 0, 2816] Z slices_S8x4096x4888_S8x4096x24_0_0_2816)
        shapeCasts_S8x4096x24_S32768x2x12) (sitofp .f32 (constantI S_ 32 0#32)) pads_S32768x2x12_S32768x2x128_000_000_01160 h_S_))))) shapeCasts_S32768x2x128_S32768x256

section
variable (b : Fin 8) (s : Fin 4096) (n : Fin 1024) (c : Fin 4888) (t : Fin 32768)

theorem normal_at (X : FVec Ideal S8x4096x1024 .f32) (g : FVec Ideal S1024 .f32) :
    normal X g (ix3 b s n) = nrm (fun n => X (ix3 b s n)) (X (ix3 b s n)) (g (ix1 n)) := by
  pointwise [normal, nrm]

theorem proj_at (A : FVec Ideal S8x4096x1024 .f32) (W : FVec Ideal S1024x4888 .f32) :
    proj A W (ix3 b s c) = ∑ n, A (ix3 b s n) * W (ix2 n c) := by
  pointwise [proj]

/-- The cosine and sine of a position and lane pair. -/
def co (s : Fin 4096) (j : Fin 8) : EReal := Ideal.cos (ang (ix2 s j))
def si (s : Fin 4096) (j : Fin 8) : EReal := Ideal.sin (ang (ix2 s j))

theorem rope8_at (Y : FVec Ideal S8x4096x512 .f32) (j : Fin 512) :
    rope8 Y (ix3 b s j) = rp (fun e => Y (ix3 b s ⟨j.val / 64 * 64 + e.val, by omega⟩)) (co s) (si s) ⟨j.val % 64, by omega⟩ := by
  pointwise [rope8, cosT, sinT]
  exact rp_read (by decide) (fun i => Y (ix3 b s i)) (co s) (si s) j

theorem rope2_at (Y : FVec Ideal S8x4096x128 .f32) (j : Fin 128) :
    rope2 Y (ix3 b s j) = rp (fun e => Y (ix3 b s ⟨j.val / 64 * 64 + e.val, by omega⟩)) (co s) (si s) ⟨j.val % 64, by omega⟩ := by
  pointwise [rope2, cosT, sinT]
  exact rp_read (by decide) (fun i => Y (ix3 b s i)) (co s) (si s) j

/-- The batch and position of a row. -/
def bat (t : Fin 32768) : Fin 8 := ⟨t.val / 4096, by omega⟩
def pos (t : Fin 32768) : Fin 4096 := ⟨t.val % 4096, by omega⟩

variable (Z : FVec Ideal S8x4096x4888 .f32)

theorem flat_at (Y : FVec Ideal S8x4096x512 .f32) (j : Fin 512) :
    (truncf .bf16 (shapeCast S32768x512 Y shapeCasts_S8x4096x512_S32768x512) bitsLt_bf16_f32 : FVec Ideal _ _) (ix2 t j) = Y (ix3 (bat t) (pos t) j) := by
  pointwise [bat, pos]

theorem scaled_at (Y : FVec Ideal S8x4096x512 .f32) (j : Fin 512) :
    mulf Y (broadcastInDim S8x4096x512 ![] bcast_S_S8x4096x512 (constant S_ .f32 0x3E000000#32)) (ix3 b s j) = Y (ix3 b s j) * Ideal.ofBits .f32 0x3E000000#32 := by
  pointwise

theorem qda_at (j : Fin 512) : qda Z (ix2 t j)
    = rp (fun e => Z (ix3 (bat t) (pos t) ⟨j.val / 64 * 64 + e.val, by omega⟩)) (co (pos t)) (si (pos t)) ⟨j.val % 64, by omega⟩ * Ideal.ofBits .f32 0x3E000000#32 :=
  (flat_at t _ j).trans ((scaled_at _ _ _ j).trans (congrArg (· * _) ((rope8_at _ _ _ j).trans
    (congrArg (fun z => rp z _ _ _) (funext fun e => by pointwise)))))

theorem kda_at (j : Fin 512) : kda Z (ix2 t j)
    = rp (fun e => Z (ix3 (bat t) (pos t) ⟨512 + (j.val / 64 * 64 + e.val), by omega⟩)) (co (pos t)) (si (pos t)) ⟨j.val % 64, by omega⟩ :=
  (flat_at t _ j).trans ((rope8_at _ _ _ j).trans (congrArg (fun z => rp z _ _ _) (funext fun e => by pointwise)))

theorem vda_at (j : Fin 512) : vda Z (ix2 t j) = Z (ix3 (bat t) (pos t) ⟨1024 + j.val, by omega⟩) := by
  pointwise [vda, bat, pos]

theorem qn_at (j : Fin 512) : qn Z (ix2 t j)
    = rp (fun e => Z (ix3 (bat t) (pos t) ⟨1536 + (j.val / 64 * 64 + e.val), by omega⟩)) (co (pos t)) (si (pos t)) ⟨j.val % 64, by omega⟩ * Ideal.ofBits .f32 0x3E000000#32 :=
  (flat_at t _ j).trans ((scaled_at _ _ _ j).trans (congrArg (· * _) ((rope8_at _ _ _ j).trans
    (congrArg (fun z => rp z _ _ _) (funext fun e => by pointwise)))))

theorem gm_at (j : Fin 2048) : gm Z (ix2 t j) = sg (Z (ix3 (bat t) (pos t) ⟨2840 + j.val, by omega⟩)) := by
  pointwise [gm, sg, bat, pos]

theorem gn_at (j : Fin 256) : gn Z (ix2 t j)
    = sg (if h : j.val % 128 < 12 then Z (ix3 (bat t) (pos t) ⟨2816 + (j.val / 128 * 12 + j.val % 128), by omega⟩) else 0) := by
  pointwise [gn, sg, bat, pos]
  exact congrArg (fun w => Ideal.div 1 (1 + Ideal.exp (-w))) (if_and _ _ (by omega) (fun _ _ => rfl) sitofp_zero)

theorem kvn_at (j : Fin 768) : kvn Z (ix2 t j) = if j.val % 256 < 128 then
      rp (fun e => Z (ix3 (bat t) (pos t) ⟨2048 + (j.val / 64 * 64 + e.val), by omega⟩)) (co (pos t)) (si (pos t)) ⟨j.val % 64, by omega⟩
    else Z (ix3 (bat t) (pos t) ⟨2048 + j.val, by omega⟩) := by
  refine Eq.trans (by pointwise [kvn, bat, pos]) (six j
    (fun l h => rope2 (extractStridedSlice S8x4096x128 ![0, 0, 2048] Z slices_S8x4096x4888_S8x4096x128_0_0_2048) (ix3 (bat t) (pos t) ⟨l, h⟩))
    (fun l h => extractStridedSlice S8x4096x128 ![0, 0, 2176] Z slices_S8x4096x4888_S8x4096x128_0_0_2176 (ix3 (bat t) (pos t) ⟨l, h⟩))
    (fun l h => rope2 (extractStridedSlice S8x4096x128 ![0, 0, 2304] Z slices_S8x4096x4888_S8x4096x128_0_0_2304) (ix3 (bat t) (pos t) ⟨l, h⟩))
    (fun l h => extractStridedSlice S8x4096x128 ![0, 0, 2432] Z slices_S8x4096x4888_S8x4096x128_0_0_2432 (ix3 (bat t) (pos t) ⟨l, h⟩))
    (fun l h => rope2 (extractStridedSlice S8x4096x128 ![0, 0, 2560] Z slices_S8x4096x4888_S8x4096x128_0_0_2560) (ix3 (bat t) (pos t) ⟨l, h⟩))
    (fun l h => extractStridedSlice S8x4096x128 ![0, 0, 2688] Z slices_S8x4096x4888_S8x4096x128_0_0_2688 (ix3 (bat t) (pos t) ⟨l, h⟩))
    ?_ ?_ ?_ ?_ ?_ ?_)
  all_goals
    intro l h e
    obtain ⟨j, hj⟩ := j
    change j = _ at e
    subst e
    first | rw [if_pos (by simp only; omega)] | rw [if_neg (by simp only; omega)]
    first
      | exact ((rope2_at _ _ _ ⟨l, h⟩).trans (congrArg (fun z => rp z _ _ _) (funext fun e => by pointwise))).trans
          (kv_rot (fun i => Z (ix3 (bat t) (pos t) i)) (co (pos t)) (si (pos t)) _ l h (by decide) (by decide))
      | pointwise
        exact kv_keep (fun i => Z (ix3 (bat t) (pos t) i)) _ l _ (by omega) (by omega) (by omega)
end

end Cert.Reference3Ideal.Stage
end
-- ==== Proof.InBody.lean ====
/-
  What the idealized input projection's body computes, read at an index: the normalised rows of a block, the rotation of a head by the
  three tables, and each result's block as one expression, whichever store a lane comes from.
-/
module

public import proofs.«01_k».proof.Proof.InRef
public import proofs.«01_k».proof.Proof.Gen.Kernel3Ideal.Value
public import Idealize.ShloMosaic.Lib.Pipeline.ValueKit

@[expose] public section

set_option maxRecDepth 65536
noncomputable section
open Idealize.ShloMosaic Idealize.ShloMosaic.TcCoe Idealize.SL.Sem

namespace Cert.InProj
open Cert.Reference3Ideal.Stage (co si)

/-- The three tables at a position: the factors of a lane itself, of the lane eight below and of the lane eight above. -/
def tc (s : Fin 4096) (l : Fin 128) : EReal :=
  if h : l.val % 64 < 8 then co s ⟨l.val % 64, h⟩ else if h' : l.val % 64 < 16 then co s ⟨l.val % 64 - 8, by omega⟩ else 1
def tlo (s : Fin 4096) (l : Fin 128) : EReal :=
  if h : l.val % 64 < 8 then 0 else if h' : l.val % 64 < 16 then si s ⟨l.val % 64 - 8, by omega⟩ else 0
def thi (s : Fin 4096) (l : Fin 128) : EReal :=
  if h : l.val % 64 < 8 then -si s ⟨l.val % 64, h⟩ else 0

/-- One lane of two heads turned by three tables. -/
def turn (z C S T : Fin 128 → EReal) (l : Fin 128) : EReal :=
  z l * C l + z ⟨(l.val + 128 - 8) % 128, Nat.mod_lt _ (by decide)⟩ * S l + z ⟨(l.val + 128 - 120) % 128, Nat.mod_lt _ (by decide)⟩ * T l

/-- Turned by the three tables of a position, a lane is the rotated lane of its head. -/
theorem turn_rp (z : Fin 128 → EReal) (s : Fin 4096) (l : Fin 128) :
    turn z (tc s) (tlo s) (thi s) l = rp (fun e => z ⟨l.val / 64 * 64 + e.val, by omega⟩) (co s) (si s) ⟨l.val % 64, by omega⟩ := by
  have e : ∀ (p q : ℕ) (hp : p < 128) (hq : q < 128), p = q → z ⟨p, hp⟩ = z ⟨q, hq⟩ := by rintro p _ _ _ rfl; rfl
  unfold turn tc tlo thi rp
  by_cases h : l.val % 64 < 8
  · rw [dif_pos h, dif_pos h, dif_pos h, dif_pos h, mul_zero, add_zero, mul_neg, ← sub_eq_add_neg]
    exact congrArg₂ (· - ·) (congrArg (· * _) (e l.val _ l.isLt _ (by simp only; omega))) (congrArg (· * _) (e _ _ _ _ (by simp only; omega)))
  · by_cases h' : l.val % 64 < 16
    · rw [dif_neg h, dif_neg h, dif_neg h, dif_neg h, dif_pos h', dif_pos h', dif_pos h', mul_zero, add_zero]
      exact congrArg₂ (· + ·) (congrArg (· * _) (e l.val _ l.isLt _ (by simp only; omega))) (congrArg (· * _) (e _ _ _ _ (by simp only; omega)))
    · rw [dif_neg h, dif_neg h, dif_neg h, dif_neg h, dif_neg h', dif_neg h', dif_neg h', mul_zero, mul_zero, add_zero, add_zero, mul_one]
      exact e l.val _ l.isLt _ (by simp only; omega)

/-- The same for four heads, turned two by two. -/
theorem turn_two (z : Fin 256 → EReal) (s : Fin 4096) (j : Fin 256) :
    (if h : j.val < 128 then turn (fun l => z ⟨l.val, by omega⟩) (tc s) (tlo s) (thi s) ⟨j.val, h⟩
      else turn (fun l => z ⟨128 + l.val, by omega⟩) (tc s) (tlo s) (thi s) ⟨j.val - 128, by omega⟩)
      = rp (fun e => z ⟨j.val / 64 * 64 + e.val, by omega⟩) (co s) (si s) ⟨j.val % 64, by omega⟩ := by
  have c : ∀ (p q p' q' : ℕ) (hp : p + 63 < 256) (hq : q + 63 < 256) (hp' : p' < 64) (hq' : q' < 64), p = q → p' = q' →
      rp (fun e => z ⟨p + e.val, by omega⟩) (co s) (si s) ⟨p', hp'⟩ = rp (fun e => z ⟨q + e.val, by omega⟩) (co s) (si s) ⟨q', hq'⟩ := by
    rintro p _ p' _ _ _ _ _ rfl rfl; rfl
  by_cases h : j.val < 128
  · rw [dif_pos h]
    exact turn_rp (fun l => z ⟨l.val, by omega⟩) s ⟨j.val, h⟩
  · rw [dif_neg h]
    refine (turn_rp (fun l => z ⟨128 + l.val, by omega⟩) s ⟨j.val - 128, by omega⟩).trans ?_
    simp only [← Nat.add_assoc]
    exact c _ _ _ _ (by omega) (by omega) _ _ (by omega) (by omega)

/-- One entry of rows through the packed weight. -/
def zcol (a : Fin 1024 → EReal) (W : Fin 1024 → Fin 5120 → EReal) (c : Fin 5120) : EReal := ∑ n, a n * W n c

theorem zcol_congr {a a' : Fin 1024 → EReal} {w : Fin 1024 → EReal} {W : Fin 1024 → Fin 5120 → EReal} {c : Fin 5120}
    (ha : ∀ n, a n = a' n) (hw : ∀ n, w n = W n c) : ∑ n, a n * w n = zcol a' W c := by
  rw [funext ha, funext hw]
  rfl

/-- The column `o` places after `j`. -/
def add {k : ℕ} (o : ℕ) (h : o + k ≤ 5120) (j : Fin k) : Fin 5120 := ⟨o + j.val, by omega⟩

/-- A lane of the heads that start at column `o`, rotated at a position. -/
def rot {k : ℕ} (o : ℕ) (h : o + k ≤ 5120) (h' : k % 64 = 0) (a : Fin 1024 → EReal) (W : Fin 1024 → Fin 5120 → EReal) (s : Fin 4096) (j : Fin k) : EReal :=
  rp (fun e => zcol a W ⟨o + (j.val / 64 * 64 + e.val), by omega⟩) (co s) (si s) ⟨j.val % 64, by omega⟩

theorem rp_congr {z z' : Fin 64 → EReal} {c s : Fin 8 → EReal} {e e' : Fin 64} (hz : ∀ i, z i = z' i) (he : e = e') : rp z c s e = rp z' c s e' := by
  rw [funext hz, he]

end Cert.InProj

namespace Cert.Kernel3Ideal.Body
open Cert.Kernel3Ideal Cert.Kernel3Ideal.Gen Cert.OutProj Cert.InProj
open Cert.Reference3Ideal.Stage (co si)

/-- The normalised rows of a block. -/
theorem normal_blk (x : Vec Ideal S512x1024 .f32) (g : Vec Ideal S1x1024 .f32) (r : Fin 512) (n : Fin 1024) :
    k0_pay1 (F := Ideal) x g (ix2 r n) = nrm (fun n => x (ix2 r n)) (x (ix2 r n)) (g (ix2 0 n)) := by
  pointwise [k0_pay1, nrm]

variable (a : FVec Ideal S512x1024 .bf16) (C S T : FVec Ideal S512x128 .f32) (w : Vec Ideal S1024x256 .bf16) (r : Fin 512)

theorem rope_raw (j : Fin 256) : k0_pay10 (F := Ideal) a C S T w (ix2 r j)
    = if h : j.val < 128 then turn (fun l => ∑ n, a (ix2 r n) * w (ix2 n ⟨l.val, by omega⟩)) (fun l => C (ix2 r l)) (fun l => S (ix2 r l)) (fun l => T (ix2 r l)) ⟨j.val, h⟩
      else turn (fun l => ∑ n, a (ix2 r n) * w (ix2 n ⟨128 + l.val, by omega⟩)) (fun l => C (ix2 r l)) (fun l => S (ix2 r l)) (fun l => T (ix2 r l)) ⟨j.val - 128, by omega⟩ := by
  pointwise [k0_pay10, turn]

/-- Where the three tables are a position's, the lanes are the rotated lanes of their heads. -/
theorem rope_blk (s : Fin 4096) (hC : ∀ l, C (ix2 r l) = tc s l) (hS : ∀ l, S (ix2 r l) = tlo s l) (hT : ∀ l, T (ix2 r l) = thi s l) (j : Fin 256) :
    k0_pay10 (F := Ideal) a C S T w (ix2 r j)
      = rp (fun e => ∑ n, a (ix2 r n) * w (ix2 n ⟨j.val / 64 * 64 + e.val, by omega⟩)) (co s) (si s) ⟨j.val % 64, by omega⟩ := by
  refine (rope_raw a C S T w r j).trans (Eq.trans ?_ (turn_two (fun l => ∑ n, a (ix2 r n) * w (ix2 n l)) s j))
  rw [funext hC, funext hS, funext hT]

theorem scaled_raw (j : Fin 256) : k0_pay13 (F := Ideal) a C S T (k0_pay12 w) (constant S512x256 .f32 0x00000000#32) (ix2 r j)
    = k0_pay10 (F := Ideal) a C S T w (ix2 r j) * Ideal.ofBits .f32 0x3E000000#32 := by
  pointwise [k0_pay13, k0_pay12, k0_pay10]

theorem pair_raw (l : Fin 128) : k0_pay23 (F := Ideal) a C S T w (ix2 r l)
    = turn (fun l => ∑ n, a (ix2 r n) * w (ix2 n ⟨l.val, by omega⟩)) (fun l => C (ix2 r l)) (fun l => S (ix2 r l)) (fun l => T (ix2 r l)) l := by
  pointwise [k0_pay23, k0_pay22, turn]

theorem plain_blk (j : Fin 256) : k0_pay11 (F := Ideal) a w (ix2 r j) = ∑ n, a (ix2 r n) * w (ix2 n j) := by
  pointwise [k0_pay11]

theorem upper_blk (l : Fin 128) : k0_pay24 (F := Ideal) a w (ix2 r l) = ∑ n, a (ix2 r n) * w (ix2 n ⟨128 + l.val, by omega⟩) := by
  pointwise [k0_pay24, k0_pay22]

theorem gate_blk (j : Fin 256) : k0_pay36 (F := Ideal) a w (ix2 r j) = sg (∑ n, a (ix2 r n) * w (ix2 n j)) := by
  pointwise [k0_pay36, sg]
  rw [zero_sub]

theorem branch_blk (j : Fin 256) : k0_pay45 (F := Ideal) a w (ix2 r j) = sg (∑ n, a (ix2 r n) * w (ix2 n j)) := by
  pointwise [k0_pay45, sg]
  rw [zero_sub]

/-- Stores spelt in several steps, or at another place, are the same function of their operands. -/
theorem same_15 : k0_pay15 (F := Ideal) (k0_pay14 a C S T w) = k0_pay13 a C S T (k0_pay12 w) (constant S512x256 .f32 0x00000000#32) := rfl
theorem same_21 : k0_pay21 (F := Ideal) C S T (k0_pay18 a w) (k0_pay19 a w) (k0_pay20 a C S w) = k0_pay13 a C S T (k0_pay12 w) (constant S512x256 .f32 0x00000000#32) := rfl
theorem same_29 : k0_pay29 (F := Ideal) S T (k0_pay26 a w) (k0_pay27 a C w) (k0_pay28 a w) = k0_pay23 a C S T w := rfl
theorem same_32 : k0_pay32 (F := Ideal) a C S T w = k0_pay23 a C S T w := rfl
theorem same_30 : k0_pay30 (F := Ideal) (k0_pay25 a w) = k0_pay24 a w := rfl
theorem same_33 : k0_pay33 (F := Ideal) a w = k0_pay24 a w := rfl

section
variable (x0 : Vec Ideal S512x1024 .f32) (x1 : Vec Ideal S1x1024 .f32) (x2 : Vec Ideal S1024x5120 .bf16) (x3 x4 x5 : Vec Ideal S512x128 .f32)
  (p : Fin 512 → Fin 4096) (hC : ∀ r l, x3 (ix2 r l) = tc (p r) l) (hS : ∀ r l, x4 (ix2 r l) = tlo (p r) l) (hT : ∀ r l, x5 (ix2 r l) = thi (p r) l)

/-- The normalised rows of the staged block. -/
abbrev rowsOf (r : Fin 512) (n : Fin 1024) : EReal := k0_pay46 (F := Ideal) x0 x1 x2 x3 x4 x5 (ix2 r n)

/-- Its packed weight. -/
abbrev colsOf (n : Fin 1024) (c : Fin 5120) : EReal := x2 (ix2 n c)

theorem shift {y j d o e : ℕ} (h : y = d + j) (e' : o + d = e) : e + j = o + y := by omega

theorem shift_upper {y j d' o e : ℕ} (d : ℕ) (h : y = d' + j) (f : d + 128 = d') (e' : o + d = e) : e + (128 + j) = o + y := by omega

theorem col_eq (n : Fin 1024) (a b : ℕ) (ha : a < 5120) (hb : b < 5120) (h : a = b) : x2 (ix2 n ⟨a, ha⟩) = x2 (ix2 n ⟨b, hb⟩) := by
  subst h
  rfl

theorem tab_c (r : Fin 512) (l : Fin 128) : k0_pay47 (F := Ideal) x0 x1 x2 x3 x4 x5 (ix2 r l) = x3 (ix2 r l) := by
  pointwise [k0_pay47, k0_pay2]
  blk_ext []
theorem tab_s (r : Fin 512) (l : Fin 128) : k0_pay48 (F := Ideal) x0 x1 x2 x3 x4 x5 (ix2 r l) = x4 (ix2 r l) := by
  pointwise [k0_pay48, k0_pay3]
  blk_ext []
theorem tab_t (r : Fin 512) (l : Fin 128) : k0_pay49 (F := Ideal) x0 x1 x2 x3 x4 x5 (ix2 r l) = x5 (ix2 r l) := by
  pointwise [k0_pay49, k0_pay4]
  blk_ext []

/-- The first store spells out the tables and rows it shares with the others. -/
theorem same_9 : k0_pay9 (F := Ideal) (k0_pay49 (F := Ideal) x0 x1 x2 x3 x4 x5) (k0_pay6 (View.ld x0 r0_0) (View.ld x1 r0_1) (View.ld x3 r0_2) (View.ld x4 r0_2) (View.ld x5 r0_2) w)
      (k0_pay7 (View.ld x0 r0_0) (View.ld x1 r0_1) w) (k0_pay8 (View.ld x0 r0_0) (View.ld x1 r0_1) (View.ld x3 r0_2) (View.ld x4 r0_2) w) 120#32
    = k0_pay13 (k0_pay46 (F := Ideal) x0 x1 x2 x3 x4 x5) (k0_pay47 (F := Ideal) x0 x1 x2 x3 x4 x5) (k0_pay48 (F := Ideal) x0 x1 x2 x3 x4 x5) (k0_pay49 (F := Ideal) x0 x1 x2 x3 x4 x5) (k0_pay12 w) (constant S512x256 .f32 0x00000000#32) := rfl

include hC hS hT

/-- A store of rotated heads: lane `j` of the piece is lane `y` of the result, and the piece's weight columns start at the result's
    first column plus their distance. -/
theorem rope_piece {k : ℕ} (o : ℕ) (h : o + k ≤ 5120) (h' : k % 64 = 0) (w : Vec Ideal S1024x256 .bf16) (r r' : Fin 512) (j : Fin 256) (y : Fin k)
    (hr : r'.val = r.val) (d : ℕ) (hj : y.val = d + j.val) (hd : d % 64 = 0) (hb : d + 256 ≤ k)
    (hw : ∀ n (l : Fin 256), w (ix2 n l) = x2 (ix2 n ⟨o + (d + l.val), by omega⟩)) :
    k0_pay10 (F := Ideal) (k0_pay46 x0 x1 x2 x3 x4 x5) (k0_pay47 x0 x1 x2 x3 x4 x5) (k0_pay48 x0 x1 x2 x3 x4 x5) (k0_pay49 x0 x1 x2 x3 x4 x5) w (ix2 r j)
      = rot o h h' (rowsOf x0 x1 x2 x3 x4 x5 r') (colsOf x2) (p r') y := by
  obtain rfl : r' = r := Fin.ext hr
  refine (rope_blk _ _ _ _ w r' (p r') (fun l => (tab_c x0 x1 x2 x3 x4 x5 r' l).trans (hC r' l)) (fun l => (tab_s x0 x1 x2 x3 x4 x5 r' l).trans (hS r' l))
    (fun l => (tab_t x0 x1 x2 x3 x4 x5 r' l).trans (hT r' l)) j).trans
    (rp_congr (fun i => Finset.sum_congr rfl fun n _ => congrArg (_ * ·) ((hw n _).trans (congrArg (fun c => x2 (ix2 n c)) (Fin.ext ?_)))) (Fin.ext ?_))
  · simp only
    omega
  · simp only
    omega

/-- The same for a store of two heads. -/
theorem pair_piece {k : ℕ} (o : ℕ) (h : o + k ≤ 5120) (h' : k % 64 = 0) (w : Vec Ideal S1024x256 .bf16) (r r' : Fin 512) (j : Fin 128) (y : Fin k)
    (hr : r'.val = r.val) (d : ℕ) (hj : y.val = d + j.val) (hd : d % 64 = 0) (hb : d + 256 ≤ k)
    (hw : ∀ n (l : Fin 256), w (ix2 n l) = x2 (ix2 n ⟨o + (d + l.val), by omega⟩)) :
    k0_pay23 (F := Ideal) (k0_pay46 x0 x1 x2 x3 x4 x5) (k0_pay47 x0 x1 x2 x3 x4 x5) (k0_pay48 x0 x1 x2 x3 x4 x5) (k0_pay49 x0 x1 x2 x3 x4 x5) w (ix2 r j)
      = rot o h h' (rowsOf x0 x1 x2 x3 x4 x5 r') (colsOf x2) (p r') y := by
  obtain rfl : r' = r := Fin.ext hr
  refine (pair_raw _ _ _ _ w r' j).trans ?_
  rw [funext fun l => (tab_c x0 x1 x2 x3 x4 x5 r' l).trans (hC r' l), funext fun l => (tab_s x0 x1 x2 x3 x4 x5 r' l).trans (hS r' l),
    funext fun l => (tab_t x0 x1 x2 x3 x4 x5 r' l).trans (hT r' l)]
  refine (turn_rp _ (p r') j).trans
    (rp_congr (fun i => Finset.sum_congr rfl fun n _ => congrArg (_ * ·) ((hw n _).trans (congrArg (fun c => x2 (ix2 n c)) (Fin.ext ?_)))) (Fin.ext ?_))
  · simp only
    omega
  · simp only
    omega

/-- The keys of the differential attention, whichever store they come from. -/
theorem kda_tile (y : S512x512.Idx) : out0_7 (F := Ideal) x0 x1 x2 x3 x4 x5 y
    = rot 512 (k := 512) (by decide) (by decide) (rowsOf x0 x1 x2 x3 x4 x5 (y 0)) (colsOf x2) (p (y 0)) (y 1) := by
  unfold out0_7
  canon_tiles x h
  all_goals
    rw [eq_ix2 x]
    refine rope_piece (k := 512) x0 x1 x2 x3 x4 x5 p hC hS hT 512 _ _ _ (x 0) (y 0) (x 1) (y 1) h0 _ (by first | exact h1 | exact h1.trans (Nat.zero_add _).symm) (by decide) (by decide) fun n l => ?_
    pointwise
    all_goals exact col_eq x2 n _ _ _ _ (by clear h0 h1 x0_lt x1_lt; omega)

/-- The scaled queries of the differential attention. -/
theorem qda_tile (y : S512x512.Idx) : out0_6 (F := Ideal) x0 x1 x2 x3 x4 x5 y
    = rot 0 (k := 512) (by decide) (by decide) (rowsOf x0 x1 x2 x3 x4 x5 (y 0)) (colsOf x2) (p (y 0)) (y 1) * Ideal.ofBits .f32 0x3E000000#32 := by
  unfold out0_6
  canon_tiles x h
  all_goals
    rw [eq_ix2 x]
    first | rw [same_15] | rw [same_9]
    refine (scaled_raw (k0_pay46 (F := Ideal) x0 x1 x2 x3 x4 x5) (k0_pay47 (F := Ideal) x0 x1 x2 x3 x4 x5) (k0_pay48 (F := Ideal) x0 x1 x2 x3 x4 x5) (k0_pay49 (F := Ideal) x0 x1 x2 x3 x4 x5) _ (x 0) (x 1)).trans (congrArg (· * _)
      (rope_piece (k := 512) x0 x1 x2 x3 x4 x5 p hC hS hT 0 _ _ _ (x 0) (y 0) (x 1) (y 1) h0 _ (by first | exact h1 | exact h1.trans (Nat.zero_add _).symm) (by decide) (by decide) fun n l => ?_))
    pointwise
    all_goals exact col_eq x2 n _ _ _ _ (by clear h0 h1 x0_lt x1_lt; omega)

/-- The scaled queries of the other mixer. -/
theorem qn_tile (y : S512x512.Idx) : out0_9 (F := Ideal) x0 x1 x2 x3 x4 x5 y
    = rot 1536 (k := 512) (by decide) (by decide) (rowsOf x0 x1 x2 x3 x4 x5 (y 0)) (colsOf x2) (p (y 0)) (y 1) * Ideal.ofBits .f32 0x3E000000#32 := by
  unfold out0_9
  canon_tiles x h
  all_goals
    rw [eq_ix2 x]
    try rw [same_21]
    refine (scaled_raw (k0_pay46 (F := Ideal) x0 x1 x2 x3 x4 x5) (k0_pay47 (F := Ideal) x0 x1 x2 x3 x4 x5) (k0_pay48 (F := Ideal) x0 x1 x2 x3 x4 x5) (k0_pay49 (F := Ideal) x0 x1 x2 x3 x4 x5) _ (x 0) (x 1)).trans (congrArg (· * _)
      (rope_piece (k := 512) x0 x1 x2 x3 x4 x5 p hC hS hT 1536 _ _ _ (x 0) (y 0) (x 1) (y 1) h0 _ (by first | exact h1 | exact h1.trans (Nat.zero_add _).symm) (by decide) (by decide) fun n l => ?_))
    pointwise
    all_goals exact col_eq x2 n _ _ _ _ (by clear h0 h1 x0_lt x1_lt; omega)

/-- The other mixer's keys and values. -/
theorem kvn_tile (y : S512x768.Idx) : out0_10 (F := Ideal) x0 x1 x2 x3 x4 x5 y
    = if (y 1).val % 256 < 128 then rot 2048 (k := 768) (by decide) (by decide) (rowsOf x0 x1 x2 x3 x4 x5 (y 0)) (colsOf x2) (p (y 0)) (y 1)
      else zcol (rowsOf x0 x1 x2 x3 x4 x5 (y 0)) (colsOf x2) (add 2048 (k := 768) (by decide) (y 1)) := by
  unfold out0_10
  canon_tiles x h
  all_goals
    rw [eq_ix2 x]
    first
      | rw [same_29]
      | rw [same_32]
      | rw [same_30]
      | rw [same_33]
      | skip
    first
      | refine Eq.trans ?_ (if_pos (by omega)).symm
        refine pair_piece (k := 768) x0 x1 x2 x3 x4 x5 p hC hS hT 2048 _ _ _ (x 0) (y 0) (x 1) (y 1) h0 _ (by first | exact h1 | exact h1.trans (Nat.zero_add _).symm) (by decide) (by decide) fun n l => ?_
        pointwise
        all_goals exact col_eq x2 n _ _ _ _ (by clear h0 h1 x0_lt x1_lt; omega)
      | refine Eq.trans ?_ (if_neg (by omega)).symm
        refine (upper_blk (k0_pay46 (F := Ideal) x0 x1 x2 x3 x4 x5) _ (x 0) (x 1)).trans (zcol_congr (fun n => ?_) fun n => ?_)
        · exact congrArg (rowsOf x0 x1 x2 x3 x4 x5 · n) (Fin.ext h0.symm)
        · pointwise [add]
          exact col_eq x2 n _ _ _ _ (by first | exact shift_upper 512 h1 rfl rfl | exact shift_upper 256 h1 rfl rfl | exact shift_upper 0 h1 rfl rfl)

omit hC hS hT

/-- The values of the differential attention. -/
theorem vda_tile (y : S512x512.Idx) : out0_8 (F := Ideal) x0 x1 x2 x3 x4 x5 y
    = zcol (rowsOf x0 x1 x2 x3 x4 x5 (y 0)) (colsOf x2) (add 1024 (k := 512) (by decide) (y 1)) := by
  unfold out0_8
  canon_tiles x h
  all_goals
    rw [eq_ix2 x]
    refine (plain_blk _ _ (x 0) (x 1)).trans (zcol_congr (fun n => ?_) fun n => ?_)
    · exact congrArg (rowsOf x0 x1 x2 x3 x4 x5 · n) (Fin.ext h0.symm)
    · pointwise [add]
      all_goals first | exact col_eq x2 n _ _ _ _ (shift h1 rfl) | exact col_eq x2 n _ _ _ _ (congrArg (_ + ·) h1.symm)

/-- The merge gates. -/
theorem gm_tile (y : S512x2048.Idx) : out0_11 (F := Ideal) x0 x1 x2 x3 x4 x5 y
    = sg (zcol (rowsOf x0 x1 x2 x3 x4 x5 (y 0)) (colsOf x2) (add 2816 (k := 2048) (by decide) (y 1))) := by
  unfold out0_11
  canon_tiles x h
  all_goals
    rw [eq_ix2 x]
    refine (gate_blk (k0_pay46 x0 x1 x2 x3 x4 x5) _ (x 0) (x 1)).trans (congrArg sg (zcol_congr (fun n => ?_) fun n => ?_))
    · exact congrArg (rowsOf x0 x1 x2 x3 x4 x5 · n) (Fin.ext h0.symm)
    · pointwise [add]
      all_goals first | exact col_eq x2 n _ _ _ _ (shift h1 rfl) | exact col_eq x2 n _ _ _ _ (congrArg (_ + ·) h1.symm)

/-- The branch gates. -/
theorem gn_tile (y : S512x256.Idx) : out0_12 (F := Ideal) x0 x1 x2 x3 x4 x5 y
    = sg (zcol (rowsOf x0 x1 x2 x3 x4 x5 (y 0)) (colsOf x2) (add 4864 (k := 256) (by decide) (y 1))) := by
  unfold out0_12
  frame_out
  rw [eq_ix2 y]
  refine (branch_blk (k0_pay46 x0 x1 x2 x3 x4 x5) _ (y 0) (y 1)).trans (congrArg sg (zcol_congr (fun n => rfl) fun n => ?_))
  pointwise
  blk_ext [add]

end

end Cert.Kernel3Ideal.Body
end
-- ==== Proof.InHost.lean ====
/-
  What the idealized input projection's region finds in its operands: the packed weight and the rotation tables, built from the
  arguments before it starts, read at an index.
-/
module

public import proofs.«01_k».proof.Proof.InBody

@[expose] public section

set_option maxRecDepth 65536
noncomputable section
open Idealize.ShloMosaic Idealize.ShloMosaic.TcCoe Idealize.SL.Sem
open Idealize.ShloMosaic.Pipeline (Dat)
namespace Cert.Kernel3Ideal.Body
open Cert.Kernel3Ideal Cert.Kernel3Ideal.Gen Cert.OutProj Cert.InProj
open Cert.Reference3Ideal.Stage (ang co si)

variable (m : (ℓ : Loc nD τ sig) → Buf (Elt Ideal) ℓ) (c : Dev nD)

/-- Which block each window stages at each grid point. -/
theorem idx : ∀ t : Fin cfg0.N,
    win0_0.index t = ![t.val, 0] ∧ win0_1.index t = ![0, 0] ∧ win0_2.index t = ![0, 0] ∧ win0_3.index t = ![t.val % 8, 0]
    ∧ win0_4.index t = ![t.val % 8, 0] ∧ win0_5.index t = ![t.val % 8, 0] ∧ win0_6.index t = ![t.val, 0] ∧ win0_7.index t = ![t.val, 0]
    ∧ win0_8.index t = ![t.val, 0] ∧ win0_9.index t = ![t.val, 0] ∧ win0_10.index t = ![t.val, 0]
    ∧ win0_11.index t = ![t.val, 0] ∧ win0_12.index t = ![t.val, 0] :=
  (by decide +kernel : ∀ t : Fin grid0.N, _)

/-- The packed weight: the query, key and value columns, the merge gates' columns, and the branch gates' two groups of twelve, each
    followed by zero columns. -/
def pack (W : FVec Ideal S1024x4888 .f32) : FVec Ideal S1024x5120 .bf16 :=
  let G : FVec Ideal S1024x24 .f32 := extractStridedSlice S1024x24 ![0, 2816] W slices_S1024x4888_S1024x24_0_2816
  let Z : FVec Ideal S1024x116 .f32 := broadcastInDim S1024x116 ![] bcast_S_S1024x116 (constant S_ .f32 0x00000000#32)
  truncf .bf16 (concatenate S1024x5120 1 [⟨S1024x2816, extractStridedSlice S1024x2816 ![0, 0] W slices_S1024x4888_S1024x2816_0_0⟩,
    ⟨S1024x2048, extractStridedSlice S1024x2048 ![0, 2840] W slices_S1024x4888_S1024x2048_0_2840⟩,
    ⟨S1024x12, extractStridedSlice S1024x12 ![0, 0] G slices_S1024x24_S1024x12_0_0⟩, ⟨S1024x116, Z⟩,
    ⟨S1024x12, extractStridedSlice S1024x12 ![0, 12] G slices_S1024x24_S1024x12_0_12⟩, ⟨S1024x116, Z⟩]
    concatenates_S1024x2816_S1024x2048_S1024x12_S1024x116_S1024x12_S1024x116_S1024x5120_d1) bitsLt_bf16_f32

/-- Two copies of three pieces side by side: how each table is laid out. -/
def table (a b : FVec Ideal S4096x8 .f32) (d : FVec Ideal S4096x48 .f32) : FVec Ideal S4096x128 .f32 :=
  let T : FVec Ideal S4096x64 .f32 := concatenate S4096x64 1 [⟨S4096x8, a⟩, ⟨S4096x8, b⟩, ⟨S4096x48, d⟩] concatenates_S4096x8_S4096x8_S4096x48_S4096x64_d1
  concatenate S4096x128 1 [⟨S4096x64, T⟩, ⟨S4096x64, T⟩] concatenates_S4096x64_S4096x64_S4096x128_d1

/-- The constant pieces. -/
def zero8 : FVec Ideal S4096x8 .f32 := broadcastInDim S4096x8 ![] bcast_S_S4096x8 (constant S_ .f32 0x00000000#32)
def fill (v : BitVec 32) : FVec Ideal S4096x48 .f32 := broadcastInDim S4096x48 ![] bcast_S_S4096x48 (constant S_ .f32 v)

/-- A choice is a value when each branch that can be taken is. -/
theorem either {p : Prop} [Decidable p] {f : p → EReal} {g : ¬p → EReal} {v : EReal} (hf : ∀ h, f h = v) (hg : ∀ h, g h = v) :
    (if h : p then f h else g h) = v := by
  split
  · exact hf _
  · exact hg _

/-- Reads at equal lanes are equal. -/
theorem lane_read {r k : ℕ} {t : FTy} (W : FVec Ideal ⟨2, ![r, k]⟩ t) (n : Fin r) (a b : ℕ) (ha : a < k) (hb : b < k) (h : a = b) :
    W (ix2 n ⟨a, ha⟩) = W (ix2 n ⟨b, hb⟩) := by
  subst h
  rfl

section
variable (W : FVec Ideal S1024x4888 .f32) (n : Fin 1024)

/-- The packed weight's columns below 2816 are the weight's. -/
theorem pack_low (j : Fin 2816) : pack W (ix2 n ⟨j.val, by omega⟩) = W (ix2 n ⟨j.val, by omega⟩) := by
  pointwise [pack]

/-- The next 2048 are the weight's last. -/
theorem pack_mid (j : Fin 2048) : pack W (ix2 n ⟨2816 + j.val, by omega⟩) = W (ix2 n ⟨2840 + j.val, by omega⟩) := by
  pointwise [pack]

/-- The last 256 are the weight's columns from 2816, twelve and twelve, among zeros. -/
theorem pack_high (j : Fin 256) : pack W (ix2 n ⟨4864 + j.val, by omega⟩)
    = if h : j.val % 128 < 12 then W (ix2 n ⟨2816 + (j.val / 128 * 12 + j.val % 128), by omega⟩) else 0 := by
  pointwise [pack]
  by_cases q : j.val % 128 < 12
  · refine Eq.trans ?_ (dif_pos q).symm
    repeat' refine either (fun q' => ?_) fun q' => ?_
    all_goals first | exact lane_read W n _ _ _ _ (by omega) | (exfalso; omega)
  · refine Eq.trans ?_ (dif_neg q).symm
    repeat' refine either (fun q' => ?_) fun q' => ?_
    all_goals first | rfl | (exfalso; omega)

/-- A table at an index: the first piece, the second or the third, by the lane of the head. -/
theorem table_at (a b : FVec Ideal S4096x8 .f32) (d : FVec Ideal S4096x48 .f32) (s : Fin 4096) (l : Fin 128) : table a b d (ix2 s l)
    = if h : l.val % 64 < 8 then a (ix2 s ⟨l.val % 64, h⟩) else if h' : l.val % 64 < 16 then b (ix2 s ⟨l.val % 64 - 8, by omega⟩)
      else d (ix2 s ⟨l.val % 64 - 16, by omega⟩) := by
  pointwise [table]
  by_cases q : l.val % 64 < 8
  · refine Eq.trans ?_ (dif_pos q).symm
    repeat' refine either (fun q' => ?_) fun q' => ?_
    all_goals first | exact lane_read a s _ _ _ _ (by omega) | (exfalso; omega)
  · refine Eq.trans ?_ (dif_neg q).symm
    by_cases r : l.val % 64 < 16
    · refine Eq.trans ?_ (dif_pos r).symm
      repeat' refine either (fun q' => ?_) fun q' => ?_
      all_goals first | exact lane_read b s _ _ _ _ (by omega) | (exfalso; omega)
    · refine Eq.trans ?_ (dif_neg r).symm
      repeat' refine either (fun q' => ?_) fun q' => ?_
      all_goals first | exact lane_read d s _ _ _ _ (by omega) | (exfalso; omega)
end

theorem entry_x : V m c main_v0 = shapeCast _ (m ((c : Thread nD τ).loc main_arg0)) shapeCasts_S8x4096x1024_S32768x1024 := by
  with_unfolding_all rfl
theorem entry_g : V m c main_v1 = shapeCast _ (m ((c : Thread nD τ).loc main_arg1)) shapeCasts_S1024_S1x1024 := by
  with_unfolding_all rfl
theorem entry_w : V m c main_v9 = pack (m ((c : Thread nD τ).loc main_arg2)) := by
  with_unfolding_all rfl
theorem entry_c : V m c main_v33 = table (Host.cos ang) (Host.cos ang) (fill 0x3F800000#32) := by
  with_unfolding_all rfl
theorem entry_s : V m c main_v34 = table zero8 (Host.sin ang) (fill 0x00000000#32) := by
  with_unfolding_all rfl
theorem entry_t : V m c main_v35 = table (Host.negf (Host.sin ang)) zero8 (fill 0x00000000#32) := by
  with_unfolding_all rfl

end Cert.Kernel3Ideal.Body
end
-- ==== Proof.InValue.lean ====
/-
  The seven result arrays of the idealized input projection are the reference's results of the same arrays.
-/
module

public import proofs.«01_k».proof.Proof.InHost

@[expose] public section

set_option maxRecDepth 65536
noncomputable section
open Idealize.ShloMosaic Idealize.ShloMosaic.TcCoe Idealize.SL.Sem
open Idealize.ShloMosaic.Pipeline (Dat)
namespace Cert.Kernel3Ideal.Body
open Cert.Kernel3Ideal Cert.Kernel3Ideal.Gen Cert.OutProj Cert.InProj
open Cert.Reference3Ideal.Stage (ang co si bat pos normal proj normal_at proj_at qda kda vda qn kvn gm gn qda_at kda_at vda_at qn_at kvn_at gm_at gn_at)

variable (m : (ℓ : Loc nD τ sig) → Buf (Elt Ideal) ℓ) (c : Dev nD)

/-- The reference's projection of the arguments. -/
abbrev refZ : FVec Ideal Cert.Reference3Ideal.S8x4096x4888 .f32 := proj (normal (m ((c : Thread nD τ).loc main_arg0)) (m ((c : Thread nD τ).loc main_arg1))) (m ((c : Thread nD τ).loc main_arg2))

/-- The row of the arrays at row `r` of block `t`. -/
def row (t : Fin cfg0.N) (r : Fin 512) : Fin 32768 := ⟨t.val * 512 + r.val, by
  have : t.val < 64 := t.isLt
  omega⟩

variable (t : Fin cfg0.N)

theorem flat_x (X : FVec Ideal S8x4096x1024 .f32) (t : Fin 32768) (n : Fin 1024) :
    shapeCast S32768x1024 X shapeCasts_S8x4096x1024_S32768x1024 (ix2 t n) = X (ix3 (bat t) (pos t) n) := by
  pointwise [bat, pos]

theorem flat_g (g : FVec Ideal S1024 .f32) (n : Fin 1024) : shapeCast S1x1024 g shapeCasts_S1024_S1x1024 (ix2 0 n) = g (ix1 n) := by
  pointwise

theorem read_x (r : Fin 512) (n : Fin 1024) :
    iblk m c 0 t (ix2 r n) = m ((c : Thread nD τ).loc main_arg0) (ix3 (bat (row t r)) (pos (row t r)) n) := by
  have w : ((cfg0.win 0).blk t).view.emb (ix2 r n) = ix2 (row t r) n := by blk_ext [idx t, row]
  exact (congrArg (V m c main_v0) w).trans ((congrFun (entry_x m c) _).trans (flat_x _ _ _))

theorem read_g (n : Fin 1024) : iblk m c 1 t (ix2 0 n) = m ((c : Thread nD τ).loc main_arg1) (ix1 n) := by
  have w : ((cfg0.win 1).blk t).view.emb (ix2 0 n) = ix2 0 n := by blk_ext [idx t]
  exact (congrArg (V m c main_v1) w).trans ((congrFun (entry_g m c) _).trans (flat_g _ _))

theorem read_w (n : Fin 1024) (j : Fin 5120) : iblk m c 2 t (ix2 n j) = pack (m ((c : Thread nD τ).loc main_arg2)) (ix2 n j) := by
  have w : ((cfg0.win 2).blk t).view.emb (ix2 n j) = ix2 n j := by blk_ext [idx t]
  exact (congrArg (V m c main_v9) w).trans (congrFun (entry_w m c) _)

theorem read_c (r : Fin 512) (l : Fin 128) : iblk m c 3 t (ix2 r l) = tc (pos (row t r)) l := by
  have w : ((cfg0.win 3).blk t).view.emb (ix2 r l) = ix2 (pos (row t r)) l := by blk_ext [idx t, row, pos]
  exact (congrArg (V m c main_v33) w).trans ((congrFun (entry_c m c) _).trans ((table_at _ _ _ _ _).trans (by pointwise [tc, co, fill])))

theorem read_s (r : Fin 512) (l : Fin 128) : iblk m c 4 t (ix2 r l) = tlo (pos (row t r)) l := by
  have w : ((cfg0.win 4).blk t).view.emb (ix2 r l) = ix2 (pos (row t r)) l := by blk_ext [idx t, row, pos]
  exact (congrArg (V m c main_v34) w).trans ((congrFun (entry_s m c) _).trans ((table_at _ _ _ _ _).trans (by pointwise [tlo, si, fill, zero8])))

theorem read_t (r : Fin 512) (l : Fin 128) : iblk m c 5 t (ix2 r l) = thi (pos (row t r)) l := by
  have w : ((cfg0.win 5).blk t).view.emb (ix2 r l) = ix2 (pos (row t r)) l := by blk_ext [idx t, row, pos]
  exact (congrArg (V m c main_v35) w).trans ((congrFun (entry_t m c) _).trans ((table_at _ _ _ _ _).trans (by
    pointwise [thi, si, fill, zero8]
    simp only [dite_eq_ite, ite_self])))

/-- The rows and the weight the body works on. -/
abbrev rows (r : Fin 512) : Fin 1024 → EReal :=
  rowsOf (iblk m c 0 t) (iblk m c 1 t) (iblk m c 2 t) (iblk m c 3 t) (iblk m c 4 t) (iblk m c 5 t) r
abbrev cols : Fin 1024 → Fin 5120 → EReal := colsOf (iblk m c 2 t)

/-- The rows are the reference's normalised rows. -/
theorem rows_eq (r : Fin 512) (n : Fin 1024) : rows m c t r n
    = normal (m ((c : Thread nD τ).loc main_arg0)) (m ((c : Thread nD τ).loc main_arg1)) (ix3 (bat (row t r)) (pos (row t r)) n) := by
  refine (normal_blk _ _ r n).trans (Eq.trans ?_ (normal_at _ _ n _ _).symm)
  have hx : ∀ n, (View.ld (iblk m c 0 t) r0_0 : Vec Ideal S512x1024 .f32) (ix2 r n)
      = m ((c : Thread nD τ).loc main_arg0) (ix3 (bat (row t r)) (pos (row t r)) n) := fun n => by
    refine Eq.trans ?_ (read_x m c t r n)
    pointwise
    blk_ext []
  have hg : (View.ld (iblk m c 1 t) r0_1 : Vec Ideal S1x1024 .f32) (ix2 0 n) = m ((c : Thread nD τ).loc main_arg1) (ix1 n) := by
    refine Eq.trans ?_ (read_g m c t n)
    pointwise
    blk_ext []
  rw [hg, hx n, funext hx]

/-- A packed column that is one of the weight's gives the reference's projection. -/
theorem zcol_eq (r : Fin 512) (j : Fin 5120) (k : Fin 4888) (h : ∀ W n, pack W (ix2 n j) = W (ix2 n k)) :
    zcol (rows m c t r) (cols m c t) j = refZ m c (ix3 (bat (row t r)) (pos (row t r)) k) := by
  refine Eq.trans ?_ (proj_at _ _ _ _ _).symm
  refine Finset.sum_congr rfl fun n _ => ?_
  rw [rows_eq]
  exact congrArg (_ * ·) ((read_w m c t n j).trans (h _ n))

/-- A zero column gives zero. -/
theorem zcol_zero (r : Fin 512) (j : Fin 5120) (h : ∀ W n, pack W (ix2 n j) = 0) : zcol (rows m c t r) (cols m c t) j = 0 := by
  refine Finset.sum_eq_zero fun n _ => ?_
  exact (congrArg (_ * ·) ((read_w m c t n j).trans (h _ n))).trans (mul_zero _)

/-- A run of rotated columns is the reference's rotated heads. -/
theorem rot_eq {k : ℕ} (o : ℕ) (h : o + k ≤ 5120) (ho : o + k ≤ 2816) (h' : k % 64 = 0) (r : Fin 512) (j : Fin k) :
    rot o h h' (rows m c t r) (cols m c t) (pos (row t r)) j
      = rp (fun e => refZ m c (ix3 (bat (row t r)) (pos (row t r)) ⟨o + (j.val / 64 * 64 + e.val), by omega⟩)) (co (pos (row t r))) (si (pos (row t r)))
        ⟨j.val % 64, by omega⟩ :=
  rp_congr (fun e => zcol_eq m c t r _ _ fun W n => pack_low W n ⟨o + (j.val / 64 * 64 + e.val), by omega⟩) rfl

/-- The branch gates' columns: twelve and twelve of the projection's, among zeros. -/
theorem gate_eq (r : Fin 512) (j : Fin 256) : zcol (rows m c t r) (cols m c t) (add 4864 (k := 256) (by decide) j)
    = if h : j.val % 128 < 12 then refZ m c (ix3 (bat (row t r)) (pos (row t r)) ⟨2816 + (j.val / 128 * 12 + j.val % 128), by omega⟩) else 0 := by
  by_cases q : j.val % 128 < 12
  · rw [dif_pos q]
    exact zcol_eq m c t r _ _ fun W n => (pack_high W n j).trans (dif_pos q)
  · rw [dif_neg q]
    exact zcol_zero m c t r _ fun W n => (pack_high W n j).trans (dif_neg q)

theorem final_qda : (dats m 0 c).arrAt 6 cfg0.N = qda (refZ m c) := by
  refine (dats m 0 c).arrAt_eq_of_covers 6 _ (by decide +kernel) fun t hf y => ?_
  blk_simp
  rw [after0_6]
  have w : ((cfg0.win 6).blk t).view.emb y = ix2 (row t (y 0)) (y 1) := by blk_ext [idx t, row]
  refine (qda_tile _ _ _ _ _ _ (fun r => pos (row t r)) (read_c m c t) (read_s m c t) (read_t m c t) y).trans
    (Eq.trans ?_ ((qda_at (row t (y 0)) (refZ m c) (y 1)).symm.trans (congrArg (qda (refZ m c)) w).symm))
  refine congrArg (· * _) ((rot_eq m c t 0 (k := 512) _ (by decide) _ (y 0) (y 1)).trans (rp_congr (fun e => ?_) rfl))
  blk_ext []

theorem final_kda : (dats m 0 c).arrAt 7 cfg0.N = kda (refZ m c) := by
  refine (dats m 0 c).arrAt_eq_of_covers 7 _ (by decide +kernel) fun t hf y => ?_
  blk_simp
  rw [after0_7]
  have w : ((cfg0.win 7).blk t).view.emb y = ix2 (row t (y 0)) (y 1) := by blk_ext [idx t, row]
  refine (kda_tile _ _ _ _ _ _ (fun r => pos (row t r)) (read_c m c t) (read_s m c t) (read_t m c t) y).trans
    (Eq.trans ?_ ((kda_at (row t (y 0)) (refZ m c) (y 1)).symm.trans (congrArg (kda (refZ m c)) w).symm))
  exact rot_eq m c t 512 (k := 512) _ (by decide) _ (y 0) (y 1)

theorem final_vda : (dats m 0 c).arrAt 8 cfg0.N = vda (refZ m c) := by
  refine (dats m 0 c).arrAt_eq_of_covers 8 _ (by decide +kernel) fun t hf y => ?_
  blk_simp
  rw [after0_8]
  have w : ((cfg0.win 8).blk t).view.emb y = ix2 (row t (y 0)) (y 1) := by blk_ext [idx t, row]
  refine (vda_tile _ _ _ _ _ _ y).trans
    (Eq.trans ?_ ((vda_at (row t (y 0)) (refZ m c) (y 1)).symm.trans (congrArg (vda (refZ m c)) w).symm))
  have b : (y 1).val < 512 := (y 1).isLt
  exact zcol_eq m c t (y 0) _ _ fun W n => pack_low W n ⟨1024 + (y 1).val, Nat.lt_of_lt_of_le (Nat.add_lt_add_left b 1024) (by decide)⟩

theorem final_qn : (dats m 0 c).arrAt 9 cfg0.N = qn (refZ m c) := by
  refine (dats m 0 c).arrAt_eq_of_covers 9 _ (by decide +kernel) fun t hf y => ?_
  blk_simp
  rw [after0_9]
  have w : ((cfg0.win 9).blk t).view.emb y = ix2 (row t (y 0)) (y 1) := by blk_ext [idx t, row]
  refine (qn_tile _ _ _ _ _ _ (fun r => pos (row t r)) (read_c m c t) (read_s m c t) (read_t m c t) y).trans
    (Eq.trans ?_ ((qn_at (row t (y 0)) (refZ m c) (y 1)).symm.trans (congrArg (qn (refZ m c)) w).symm))
  exact congrArg (· * _) (rot_eq m c t 1536 (k := 512) _ (by decide) _ (y 0) (y 1))

theorem final_kvn : (dats m 0 c).arrAt 10 cfg0.N = kvn (refZ m c) := by
  refine (dats m 0 c).arrAt_eq_of_covers 10 _ (by decide +kernel) fun t hf y => ?_
  blk_simp
  rw [after0_10]
  have w : ((cfg0.win 10).blk t).view.emb y = ix2 (row t (y 0)) (y 1) := by blk_ext [idx t, row]
  refine (kvn_tile _ _ _ _ _ _ (fun r => pos (row t r)) (read_c m c t) (read_s m c t) (read_t m c t) y).trans
    (Eq.trans ?_ ((kvn_at (row t (y 0)) (refZ m c) (y 1)).symm.trans (congrArg (kvn (refZ m c)) w).symm))
  refine if_congr Iff.rfl (rot_eq m c t 2048 (k := 768) _ (by decide) _ (y 0) (y 1)) ?_
  have b : (y 1).val < 768 := (y 1).isLt
  exact zcol_eq m c t (y 0) _ _ fun W n => pack_low W n ⟨2048 + (y 1).val, Nat.lt_of_lt_of_le (Nat.add_lt_add_left b 2048) (by decide)⟩

theorem final_gm : (dats m 0 c).arrAt 11 cfg0.N = gm (refZ m c) := by
  refine (dats m 0 c).arrAt_eq_of_covers 11 _ (by decide +kernel) fun t hf y => ?_
  blk_simp
  rw [after0_11]
  have w : ((cfg0.win 11).blk t).view.emb y = ix2 (row t (y 0)) (y 1) := by blk_ext [idx t, row]
  refine (gm_tile _ _ _ _ _ _ y).trans
    (Eq.trans ?_ ((gm_at (row t (y 0)) (refZ m c) (y 1)).symm.trans (congrArg (gm (refZ m c)) w).symm))
  exact congrArg sg (zcol_eq m c t (y 0) _ _ fun W n => pack_mid W n (y 1))

theorem final_gn : (dats m 0 c).arrAt 12 cfg0.N = gn (refZ m c) := by
  refine (dats m 0 c).arrAt_eq_of_covers 12 _ (by decide +kernel) fun t hf y => ?_
  blk_simp
  rw [after0_12]
  have w : ((cfg0.win 12).blk t).view.emb y = ix2 (row t (y 0)) (y 1) := by blk_ext [idx t, row]
  refine (gn_tile _ _ _ _ _ _ y).trans
    (Eq.trans ?_ ((gn_at (row t (y 0)) (refZ m c) (y 1)).symm.trans (congrArg (gn (refZ m c)) w).symm))
  exact congrArg sg (gate_eq m c t (y 0) (y 1))

end Cert.Kernel3Ideal.Body
end
-- ==== Proof.InClaim.lean ====
/-
  The input projection: kernel and reference end with the same seven arrays.
-/
module

public import proofs.«01_k».proof.Defs
public import proofs.«01_k».proof.Proof.Gen.Kernel3.Frame
public import proofs.«01_k».proof.Proof.Gen.Reference3Ideal.Run
public import proofs.«01_k».proof.Proof.InValue
public import Idealize.ShloMosaic.Lib.Claim
public import Idealize.ShloMosaic.Lib.Quiescent

@[expose] public section

set_option maxRecDepth 65536
noncomputable section
open Idealize.ShloMosaic Idealize.ShloMosaic.TcCoe Idealize.SL.Sem
namespace Cert.InProj

/-- The reference runs, leaves its arguments unchanged and every semaphore counter at zero. -/
theorem frame_reference : Cert.quiescent_Reference3Ideal (hReference3Ideal := Cert.Reference3Ideal.Gen.facts) := fun m ρ _ =>
  (θ_run Cert.Reference3Ideal.defs _ _).mono
    (fun r h => ⟨fun c => (h c).2.2.2.2.2.2.2, Idealize.ShloMosaic.sem_eq_zero_of_no_sems (by decide) r.2⟩) (Cert.Reference3Ideal.Value.run m ρ)

section
open Cert.Reference3Ideal Cert.Reference3Ideal.Stage

variable (m : (ℓ : Loc nD τ sig) → Buf (Elt Ideal) ℓ) (c : Dev nD)

/-- The projection of the reference's own arguments. -/
abbrev ownZ : FVec Ideal S8x4096x4888 .f32 := proj (normal (m ((c : Thread nD τ).loc main_arg0)) (m ((c : Thread nD τ).loc main_arg1))) (m ((c : Thread nD τ).loc main_arg2))

/-- What the reference's run ends with, as the stages of its arguments. -/
theorem run_stages (ρ : Dev nD → PrngReg) :
    θ_run (defs (F := Ideal)) (onTc (τ := τ) (main (F := Ideal))) ⟨m, fun _ => 0, ρ⟩ fun r => ∀ c : Dev nD,
      r.2.mem ((c.tc : Thread nD τ).loc main_v172) = qda (ownZ m c) ∧ r.2.mem ((c.tc : Thread nD τ).loc main_v209) = kda (ownZ m c)
      ∧ r.2.mem ((c.tc : Thread nD τ).loc main_v211) = vda (ownZ m c) ∧ r.2.mem ((c.tc : Thread nD τ).loc main_v250) = qn (ownZ m c)
      ∧ r.2.mem ((c.tc : Thread nD τ).loc main_v252) = kvn (ownZ m c) ∧ r.2.mem ((c.tc : Thread nD τ).loc main_v260) = gm (ownZ m c)
      ∧ r.2.mem ((c.tc : Thread nD τ).loc main_v267) = gn (ownZ m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run _ _ _).mono (fun r h c => ?_) (Cert.Reference3Ideal.Value.run m ρ)
  obtain ⟨h0, h1, h2, h3, h4, h5, h6, h7⟩ := h c
  refine ⟨h0.trans ?_, h1.trans ?_, h2.trans ?_, h3.trans ?_, h4.trans ?_, h5.trans ?_, h6.trans ?_, h7⟩
  all_goals with_unfolding_all rfl
end

open Cert.Kernel3Ideal.Body Cert.Reference3Ideal.Stage in
/-- Whatever the arguments, the kernel and the reference end with the same queries, keys, values and gates. -/
theorem algebraic : Cert.algebraic_Kernel3Ideal_Reference3Ideal (hKernel3Ideal := Cert.Kernel3Ideal.Gen.facts)
    (hReference3Ideal := Cert.Reference3Ideal.Gen.facts) := by
  intro m g m' g' _ hagree
  refine ⟨fun c => qda (refZ m c), fun c => kda (refZ m c), fun c => vda (refZ m c), fun c => qn (refZ m c), fun c => kvn (refZ m c),
    fun c => gm (refZ m c), fun c => gn (refZ m c),
    (θ_run _ _ _).mono (fun r h c => ?_) (Cert.Kernel3Ideal.Value.run_blocks m g), (θ_run _ _ _).mono (fun r h c => ?_) (run_stages m' g')⟩
  · obtain ⟨h0, h1, h2, h3, h4, h5, h6, h7⟩ := h c
    exact ⟨h0.trans (final_qda m c), h1.trans (final_kda m c), h2.trans (final_vda m c), h3.trans (final_qn m c), h4.trans (final_kvn m c),
      h5.trans (final_gm m c), h6.trans (final_gn m c), h7⟩
  · obtain ⟨h0, h1, h2, h3, h4, h5, h6, h7⟩ := h c
    obtain ⟨g0, g1, g2⟩ := hagree c
    have e : ownZ m' c = refZ m c := by
      unfold ownZ refZ
      rw [g0, g1, g2]
    exact ⟨h0.trans (congrArg qda e), h1.trans (congrArg kda e), h2.trans (congrArg vda e), h3.trans (congrArg qn e), h4.trans (congrArg kvn e),
      h5.trans (congrArg gm e), h6.trans (congrArg gn e), h7⟩

end Cert.InProj
end
-- ==== Proof.SelBody.lean ====
/-
  What one grid point's body leaves in the output tile, as a function of its input blocks alone: the running
  maximum, the running sum and the weighted sum of the values go through the selected key tiles and the masked
  diagonal tile, start afresh for the window and go through its tiles; the output mixes both results with the
  compressed one by the gates.
-/
module

public import proofs.«01_k».proof.Proof.Gen.Kernel4Ideal.Value
public import Idealize.ShloMosaic.Lib.Pipeline.ValueKit
public import Idealize.ShloMosaic.Lib.Pipeline.ReadBack
public import Idealize.ShloMosaic.Lib.VecWindow

@[expose] public section

set_option maxRecDepth 65536
set_option maxHeartbeats 3000000
noncomputable section
open Idealize.ShloMosaic Idealize.ShloMosaic.TcCoe Idealize.SL.Sem
open Idealize.ShloMosaic.Pipeline (Dat)
namespace Cert.Kernel4Ideal.Body
open Cert.Kernel4Ideal Cert.Kernel4Ideal.Gen
variable {F : FTy → Type} [FloatOps F] [Named F]

/-- What the three running buffers hold: the row maxima, the row sums and the weighted sums of the values. -/
abbrev St (F : FTy → Type) := Vec F S1024x1 .f32 × Vec F S1024x1 .f32 × Vec F S1024x64 .f32

/-- The column numbers of a tile of scores. -/
abbrev cols : IVec S1024x256 32 := iota .tc S1024x256 32 [1] iota_S1024x256_d1_w32

/-- One selected tile before the diagonal: `Q` the stacked queries with the biases, `K`, `V` the tile's keys and values. -/
def step (Q : FVec F S1024x128 .bf16) (K : Vec F S1x1x256x128 .bf16) (V : Vec F S1x1x256x64 .bf16) (s : St F) : St F :=
  (k0_pay39 (k0_pay3 Q K s.1), k0_pay6 Q K s.1 s.2.1, k0_pay38 (k0_pay7 Q K V s.1 s.2.2))

/-- The selected tile of the diagonal: as `step`, over the scores with the causal mask applied. -/
def last (w : BitVec 32) (p : IVec S1024x256 32) (Q : FVec F S1024x128 .bf16) (K : Vec F S1x1x256x128 .bf16) (V : Vec F S1x1x256x64 .bf16) (s : St F) : St F :=
  (k0_pay49 (k0_pay44 w Q cols p K s.1), k0_pay47 w Q cols p K s.1 s.2.1,
    k0_pay48 (k0_pay43 V) (k0_pay45 w Q cols p K s.1) (k0_pay46 w Q cols p K s.1) s.2.2)

/-- One tile of the window, `w` the number of the tile, `p` the positions of the rows. -/
def win (w : BitVec 32) (p : IVec S1024x256 32) (Q : FVec F S1024x128 .bf16) (K : Vec F S1x1x256x128 .bf16) (V : Vec F S1x1x256x64 .bf16) (s : St F) : St F :=
  (k0_pay62 (k0_pay28 Q cols p w K s.1), k0_pay60 (k0_pay31 Q cols p w K s.1 s.2.1),
    k0_pay61 (k0_pay27 V) (k0_pay29 Q cols p w K s.1) (k0_pay30 Q cols p w K s.1) s.2.2)

/-- Rows `256 n` to `256 n + 255` of the 4096 keys. -/
def tile (X : Vec F S1x1x4096x128 .bf16) (n : ℕ) : Vec F S1x1x256x128 .bf16 :=
  fun y => X (ix4 0 0 (Fin.ofNat 4096 (256 * n + (y 2).val)) (y 3))

/-- Rows `256 n` to `256 n + 255` of the 4096 values. -/
def vtile (X : Vec F S1x1x4096x64 .bf16) (n : ℕ) : Vec F S1x1x256x64 .bf16 :=
  fun y => X (ix4 0 0 (Fin.ofNat 4096 (256 * n + (y 2).val)) (y 3))

/-- The three buffers at their resets. -/
def start : St F := (k0_pay35, k0_pay36, k0_pay37)

/-- The three buffers after the first `n` selected tiles. -/
def states (Q : FVec F S1024x128 .bf16) (X : Vec F S1x1x4096x128 .bf16) (Y : Vec F S1x1x4096x64 .bf16) : ℕ → St F
  | 0 => start
  | n + 1 => step Q (tile X n) (vtile Y n) (states Q X Y n)

/-- The three buffers after the selected tiles of the query tile `n`. -/
def selected (n : ℕ) (p : IVec S1024x256 32) (Q : FVec F S1024x128 .bf16) (X : Vec F S1x1x4096x128 .bf16) (Y : Vec F S1x1x4096x64 .bf16) : St F :=
  last (BitVec.ofNat 32 n) p Q (tile X n) (vtile Y n) (states Q X Y n)

/-- The three buffers after window tile `n`, `b` tiles before the diagonal. -/
def wtile (n b : ℕ) (p : IVec S1024x256 32) (Q : FVec F S1024x128 .bf16) (X : Vec F S1x1x4096x128 .bf16) (Y : Vec F S1x1x4096x64 .bf16) (s : St F) : St F :=
  win (Scalar.subi (BitVec.ofNat 32 n) (BitVec.ofNat 32 b)) p Q (tile X (n - b)) (vtile Y (n - b)) s

/-- The three buffers after the window's tiles of the query tile `n`. -/
def windowed (n : ℕ) (p : IVec S1024x256 32) (Q : FVec F S1024x128 .bf16) (X : Vec F S1x1x4096x128 .bf16) (Y : Vec F S1x1x4096x64 .bf16) : St F :=
  wtile n 0 p Q X Y (if 1 ≤ n then wtile n 1 p Q X Y (if 2 ≤ n then wtile n 2 p Q X Y start else start) else start)

/-- The compressed result of head `h` of the group. -/
def head (x : Vec F S1x1x4x256x64 .f32) (h : Fin 4) : Vec F S1x1x1x256x64 .f32 := fun y => x (ix5 0 0 h (y 3) (y 4))

/-- The output tile from what the three buffers end at after the selected tiles and after the window. -/
def emit (s w : St F) (x6 : Vec F S1x1x4x256x64 .f32) (x7 : Vec F S1x256x128 .f32) : Vec F S1x1x4x256x64 .bf16 := fun y =>
  let z : S1x1x1x256x64.Idx := ix5 0 0 0 (y 3) (y 4)
  if (y 2).val = 0 then k0_pay65 (k0_pay50 s.2.2 s.2.1) w.2.2 w.2.1 x7 (head x6 0) z
  else if (y 2).val = 1 then k0_pay67 (k0_pay50 s.2.2 s.2.1) (k0_pay63 w.2.2 w.2.1) (k0_pay64 x7) (k0_pay66 x7) (head x6 1) z
  else if (y 2).val = 2 then k0_pay68 (k0_pay50 s.2.2 s.2.1) (k0_pay63 w.2.2 w.2.1) (k0_pay64 x7) (head x6 2) z
  else k0_pay1 (k0_pay50 s.2.2 s.2.1) (k0_pay63 w.2.2 w.2.1) (k0_pay64 x7) (k0_pay69 (k0_pay64 x7)) (head x6 3) z

/-- The loop runs once for each key tile before the diagonal. -/
theorem trips_one (i : grid0.Coords) : Scf.trips (k0_t1_loop i).lb (k0_t1_loop i).ub (k0_t1_loop i).st = (i 2).val :=
  (by decide +kernel : ∀ j : Fin 16, Scf.trips (0#32) (Scalar.addi 0#32 (Scalar.muli (Scalar.divsi
    (Scalar.subi (BitVec.ofNat 32 j.val) 0#32) 1#32) 1#32)) (1#32) = j.val) (i 2)

/-- What is left of the loop after unrolling by one never runs. -/
theorem trips_two (i : grid0.Coords) : Scf.trips (k0_t2_loop i).lb (k0_t2_loop i).ub (k0_t2_loop i).st = 0 :=
  Nat.le_zero.mp (k0_t2_abs i).2.1

theorem word (b : BitVec 32) (hb : b = 1#32 ∨ b = 2#32) : ∀ j : Fin 16, b.toNat ≤ j.val →
    (Scalar.indexCast (Scalar.muli (Scalar.maxsi (Scalar.subi (BitVec.ofNat 32 j.val) b) 0#32) 256#32)).toNat = 256 * (j.val - b.toNat) := by
  rcases hb with rfl | rfl <;> decide +kernel

theorem off_two (i : grid0.Coords) (h : 2 ≤ (i 2).val) : k0_off7 i = ![0, 0, 256 * ((i 2).val - 2), 0] := by
  have := word 2#32 (Or.inr rfl) (i 2) h
  funext a
  fin_cases a
  · rfl
  · rfl
  · exact this
  · rfl

theorem off_two' (i : grid0.Coords) (h : 2 ≤ (i 2).val) : k0_off8 i = ![0, 0, 256 * ((i 2).val - 2), 0] := off_two i h

theorem off_one (i : grid0.Coords) (h : 1 ≤ (i 2).val) : k0_off9 i = ![0, 0, 256 * ((i 2).val - 1), 0] := by
  have := word 1#32 (Or.inl rfl) (i 2) h
  funext a
  fin_cases a
  · rfl
  · rfl
  · exact this
  · rfl

theorem off_one' (i : grid0.Coords) (h : 1 ≤ (i 2).val) : k0_off10 i = ![0, 0, 256 * ((i 2).val - 1), 0] := off_one i h

/-- Where the tiles of the window two and one before the diagonal are read. -/
theorem cond_two (i : grid0.Coords) : k0_cond1 i = 1#1 ↔ 2 ≤ (i 2).val :=
  (by decide +kernel : ∀ j : Fin 16, Scalar.cmpi .ne (Scalar.extui (Scalar.cmpi .sge (Scalar.subi (BitVec.ofNat 32 j.val) 2#32) 0#32) : BitVec 32) 0#32 = 1#1 ↔ 2 ≤ j.val) (i 2)
theorem cond_one (i : grid0.Coords) : k0_cond2 i = 1#1 ↔ 1 ≤ (i 2).val :=
  (by decide +kernel : ∀ j : Fin 16, Scalar.cmpi .ne (Scalar.extui (Scalar.cmpi .sge (Scalar.subi (BitVec.ofNat 32 j.val) 1#32) 0#32) : BitVec 32) 0#32 = 1#1 ↔ 1 ≤ j.val) (i 2)

theorem tile_of_load (v : View sig .tc .vmem S1x1x4096x128 .bf16) (f : v.ty.Contents (Elt F)) (n : ℕ) (hn : n < 16)
    {off : Fin 4 → ℕ} (h : off = ![0, 0, 256 * n, 0]) (inb : ∀ a, off a + S1x1x256x128.size a ≤ S1x1x4096x128.size a) :
    v.readAt (Elt F) (Rect.unit (s := S1x1x4096x128) off ![1, 1, 256, 128] inb).toLoadRect f = tile (v.read (Elt F) f) n := by
  subst h
  funext y
  refine congrArg (v.read (Elt F) f) (funext fun a => Fin.ext ?_)
  have h1 : (y 2).val < 256 := (y 2).isLt
  match a with
  | ⟨0, _⟩ => have h0 : (y 0).val < 1 := (y 0).isLt
              show 0 + 1 * (y 0).val = 0; omega
  | ⟨1, _⟩ => have h0 : (y 1).val < 1 := (y 1).isLt
              show 0 + 1 * (y 1).val = 0; omega
  | ⟨2, _⟩ => show 256 * n + 1 * (y 2).val = (256 * n + (y 2).val) % 4096
              rw [Nat.mod_eq_of_lt (by omega)]; omega
  | ⟨3, _⟩ => show 0 + 1 * (y 3).val = (y 3).val; omega

theorem vtile_of_load (v : View sig .tc .vmem S1x1x4096x64 .bf16) (f : v.ty.Contents (Elt F)) (n : ℕ) (hn : n < 16)
    {off : Fin 4 → ℕ} (h : off = ![0, 0, 256 * n, 0]) (inb : ∀ a, off a + S1x1x256x64.size a ≤ S1x1x4096x64.size a) :
    v.readAt (Elt F) (Rect.unit (s := S1x1x4096x64) off ![1, 1, 256, 64] inb).toLoadRect f = vtile (v.read (Elt F) f) n := by
  subst h
  funext y
  refine congrArg (v.read (Elt F) f) (funext fun a => Fin.ext ?_)
  have h1 : (y 2).val < 256 := (y 2).isLt
  match a with
  | ⟨0, _⟩ => have h0 : (y 0).val < 1 := (y 0).isLt
              show 0 + 1 * (y 0).val = 0; omega
  | ⟨1, _⟩ => have h0 : (y 1).val < 1 := (y 1).isLt
              show 0 + 1 * (y 1).val = 0; omega
  | ⟨2, _⟩ => show 256 * n + 1 * (y 2).val = (256 * n + (y 2).val) % 4096
              rw [Nat.mod_eq_of_lt (by omega)]; omega
  | ⟨3, _⟩ => show 0 + 1 * (y 3).val = (y 3).val; omega

theorem head_of_load (v : View sig .tc .vmem S1x1x4x256x64 .f32) (f : v.ty.Contents (Elt F)) (n : Fin 4)
    (inb : ∀ a, (![0, 0, n.val, 0, 0] : Fin 5 → ℕ) a + S1x1x1x256x64.size a ≤ S1x1x4x256x64.size a) :
    v.readAt (Elt F) (Rect.unit (s := S1x1x4x256x64) ![0, 0, n.val, 0, 0] ![1, 1, 1, 256, 64] inb).toLoadRect f = head (v.read (Elt F) f) n := by
  funext y
  refine congrArg (v.read (Elt F) f) (funext fun a => Fin.ext ?_)
  match a with
  | ⟨0, _⟩ => have h0 : (y 0).val < 1 := (y 0).isLt
              show 0 + 1 * (y 0).val = 0; omega
  | ⟨1, _⟩ => have h0 : (y 1).val < 1 := (y 1).isLt
              show 0 + 1 * (y 1).val = 0; omega
  | ⟨2, _⟩ => have h0 : (y 2).val < 1 := (y 2).isLt
              show n.val + 1 * (y 2).val = n.val; omega
  | ⟨3, _⟩ => show 0 + 1 * (y 3).val = (y 3).val; omega
  | ⟨4, _⟩ => show 0 + 1 * (y 4).val = (y 4).val; omega

theorem head_0 (v : View sig .tc .vmem S1x1x4x256x64 .f32) (f : v.ty.Contents (Elt F)) (inb) :
    v.readAt (Elt F) (Rect.unit (s := S1x1x4x256x64) ![0, 0, 0, 0, 0] ![1, 1, 1, 256, 64] inb).toLoadRect f = head (v.read (Elt F) f) 0 := head_of_load v f 0 inb

theorem head_1 (v : View sig .tc .vmem S1x1x4x256x64 .f32) (f : v.ty.Contents (Elt F)) (inb) :
    v.readAt (Elt F) (Rect.unit (s := S1x1x4x256x64) ![0, 0, 1, 0, 0] ![1, 1, 1, 256, 64] inb).toLoadRect f = head (v.read (Elt F) f) 1 := head_of_load v f 1 inb

theorem head_2 (v : View sig .tc .vmem S1x1x4x256x64 .f32) (f : v.ty.Contents (Elt F)) (inb) :
    v.readAt (Elt F) (Rect.unit (s := S1x1x4x256x64) ![0, 0, 2, 0, 0] ![1, 1, 1, 256, 64] inb).toLoadRect f = head (v.read (Elt F) f) 2 := head_of_load v f 2 inb

theorem head_3 (v : View sig .tc .vmem S1x1x4x256x64 .f32) (f : v.ty.Contents (Elt F)) (inb) :
    v.readAt (Elt F) (Rect.unit (s := S1x1x4x256x64) ![0, 0, 3, 0, 0] ![1, 1, 1, 256, 64] inb).toLoadRect f = head (v.read (Elt F) f) 3 := head_of_load v f 3 inb

/-! Copies of the same payloads. -/
section
theorem copy_14 : @k0_pay14 = @k0_pay26 := rfl
theorem copy_15 : @k0_pay15 = @k0_pay27 := rfl
theorem copy_16 : @k0_pay16 = @k0_pay28 := rfl
theorem copy_17 : @k0_pay17 = @k0_pay29 := rfl
theorem copy_18 : @k0_pay18 = @k0_pay30 := rfl
theorem copy_19 : @k0_pay19 = @k0_pay31 := rfl
theorem copy_54 : @k0_pay54 = @k0_pay60 := rfl
theorem copy_55 : @k0_pay55 = @k0_pay61 := rfl
theorem copy_56 : @k0_pay56 = @k0_pay62 := rfl
theorem copy_20 : @k0_pay20 = @k0_pay26 := rfl
theorem copy_21 : @k0_pay21 = @k0_pay27 := rfl
theorem copy_22 : @k0_pay22 = @k0_pay28 := rfl
theorem copy_23 : @k0_pay23 = @k0_pay29 := rfl
theorem copy_24 : @k0_pay24 = @k0_pay30 := rfl
theorem copy_25 : @k0_pay25 = @k0_pay31 := rfl
theorem copy_57 : @k0_pay57 = @k0_pay60 := rfl
theorem copy_58 : @k0_pay58 = @k0_pay61 := rfl
theorem copy_59 : @k0_pay59 = @k0_pay62 := rfl
theorem copy_51 : @k0_pay51 = @k0_pay35 := rfl
theorem copy_52 : @k0_pay52 = @k0_pay36 := rfl
theorem copy_53 : @k0_pay53 = @k0_pay37 := rfl
end

/-- The four stores of the output, one for each head, read back. -/
theorem emit_reads (v : View sig .tc .vmem S1x1x4x256x64 .bf16) (f : v.ty.Contents (Elt F)) (a0 a1 a2 a3 : Vec F S1x1x1x256x64 .bf16) (i0 i1 i2 i3)
    (y : S1x1x4x256x64.Idx) :
    v.read (Elt F) (v.writes (Elt F) f
      [⟨Rect.unit (s := S1x1x4x256x64) ![0, 0, 3, 0, 0] ![1, 1, 1, 256, 64] i3, a3⟩, ⟨Rect.unit (s := S1x1x4x256x64) ![0, 0, 2, 0, 0] ![1, 1, 1, 256, 64] i2, a2⟩,
       ⟨Rect.unit (s := S1x1x4x256x64) ![0, 0, 1, 0, 0] ![1, 1, 1, 256, 64] i1, a1⟩, ⟨Rect.unit (s := S1x1x4x256x64) ![0, 0, 0, 0, 0] ![1, 1, 1, 256, 64] i0, a0⟩]) y
      = if (y 2).val = 0 then a0 (ix5 0 0 0 (y 3) (y 4)) else if (y 2).val = 1 then a1 (ix5 0 0 0 (y 3) (y 4))
        else if (y 2).val = 2 then a2 (ix5 0 0 0 (y 3) (y 4)) else a3 (ix5 0 0 0 (y 3) (y 4)) := by
  have h0 : (y 0).val < 1 := (y 0).isLt
  have h1 : (y 1).val < 1 := (y 1).isLt
  have h2 : (y 2).val < 4 := (y 2).isLt
  have hit : ∀ (n : ℕ) (hn : (y 2).val = n) (inb) (w : Vec F S1x1x1x256x64 .bf16) (L),
      v.read (Elt F) (v.writes (Elt F) f (⟨Rect.unit (s := S1x1x4x256x64) ![0, 0, n, 0, 0] ![1, 1, 1, 256, 64] inb, w⟩ :: L)) y = w (ix5 0 0 0 (y 3) (y 4)) := by
    intro n hn inb w L
    have hx : ∀ a, (y a).val = (Rect.unit (s := S1x1x4x256x64) ![0, 0, n, 0, 0] ![1, 1, 1, 256, 64] inb).off a
        + (Rect.unit (s := S1x1x4x256x64) ![0, 0, n, 0, 0] ![1, 1, 1, 256, 64] inb).stride a
          * ((ix5 0 0 0 (y 3) (y 4) : S1x1x1x256x64.Idx) a).val := by
      intro a
      fin_cases a
      · show (y 0).val = 0 + 1 * 0; omega
      · show (y 1).val = 0 + 1 * 0; omega
      · show (y 2).val = n + 1 * 0; omega
      · show (y 3).val = 0 + 1 * (y 3).val; omega
      · show (y 4).val = 0 + 1 * (y 4).val; omega
    exact View.read_writes_cons_hit_of_coords (Val := Elt F) v f (Rect.unit (s := S1x1x4x256x64) ![0, 0, n, 0, 0] ![1, 1, 1, 256, 64] inb) w L
      (ix5 0 0 0 (y 3) (y 4) : S1x1x1x256x64.Idx) y hx
  have miss : ∀ (n : ℕ) (hn : (y 2).val < n ∨ n + 1 ≤ (y 2).val) (inb) (w : Vec F S1x1x1x256x64 .bf16) (L),
      v.read (Elt F) (v.writes (Elt F) f (⟨Rect.unit (s := S1x1x4x256x64) ![0, 0, n, 0, 0] ![1, 1, 1, 256, 64] inb, w⟩ :: L)) y = v.read (Elt F) (v.writes (Elt F) f L) y :=
    fun n hn inb w L => View.read_writes_cons_miss_of_axis v f _ L y 2 n 1 rfl rfl rfl hn
  by_cases e0 : (y 2).val = 0
  · rw [if_pos e0, miss 3 (by omega), miss 2 (by omega), miss 1 (by omega), hit 0 e0]
  rw [if_neg e0]
  by_cases e1 : (y 2).val = 1
  · rw [if_pos e1, miss 3 (by omega), miss 2 (by omega), hit 1 e1]
  rw [if_neg e1]
  by_cases e2 : (y 2).val = 2
  · rw [if_pos e2, miss 3 (by omega), hit 2 e2]
  rw [if_neg e2, hit 3 (by omega)]

section
variable {e : EltTy}
theorem whole_a (v : View sig .tc .vmem S1024x1 e) (f : v.ty.Contents (Elt F)) (inb) :
    v.readAt (Elt F) (Rect.unit (s := S1024x1) ![0, 0] ![1024, 1] inb).toLoadRect f = v.read (Elt F) f := View.readAt_full v f inb
theorem whole_b (v : View sig .tc .vmem S1024x64 e) (f : v.ty.Contents (Elt F)) (inb) :
    v.readAt (Elt F) (Rect.unit (s := S1024x64) ![0, 0] ![1024, 64] inb).toLoadRect f = v.read (Elt F) f := View.readAt_full v f inb
theorem whole_c (v : View sig .tc .vmem S1x1x4x256x128 e) (f : v.ty.Contents (Elt F)) (inb) :
    v.readAt (Elt F) (Rect.unit (s := S1x1x4x256x128) ![0, 0, 0, 0, 0] ![1, 1, 4, 256, 128] inb).toLoadRect f = v.read (Elt F) f := View.readAt_full v f inb
theorem whole_d (v : View sig .tc .vmem S1x1x256x128 e) (f : v.ty.Contents (Elt F)) (inb) :
    v.readAt (Elt F) (Rect.unit (s := S1x1x256x128) ![0, 0, 0, 0] ![1, 1, 256, 128] inb).toLoadRect f = v.read (Elt F) f := View.readAt_full v f inb
theorem whole_e (v : View sig .tc .vmem S1x256x128 e) (f : v.ty.Contents (Elt F)) (inb) :
    v.readAt (Elt F) (Rect.unit (s := S1x256x128) ![0, 0, 0] ![1, 256, 128] inb).toLoadRect f = v.read (Elt F) f := View.readAt_full v f inb
theorem over_a (v : View sig .tc .vmem S1024x1 e) (f : v.ty.Contents (Elt F)) (inb) (w : Vec F S1024x1 e) (L) :
    v.read (Elt F) (v.writes (Elt F) f (⟨Rect.unit (s := S1024x1) ![0, 0] ![1024, 1] inb, w⟩ :: L)) = w := View.read_writes_full v f inb w L
theorem over_b (v : View sig .tc .vmem S1024x64 e) (f : v.ty.Contents (Elt F)) (inb) (w : Vec F S1024x64 e) (L) :
    v.read (Elt F) (v.writes (Elt F) f (⟨Rect.unit (s := S1024x64) ![0, 0] ![1024, 64] inb, w⟩ :: L)) = w := View.read_writes_full v f inb w L
end

section
variable (c : Dev nD) (i : grid0.Coords)
  (arg3 : Memref sig .tc .vmem S1x1x4x256x128 .bf16) (harg3 : arg3.IsWhole)
  (arg4 : Memref sig .tc .vmem S1x1x256x128 .bf16) (harg4 : arg4.IsWhole)
  (arg5 : Memref sig .tc .vmem S1x1x4096x128 .bf16) (harg5 : arg5.IsWhole)
  (arg6 : Memref sig .tc .vmem S1x1x4096x64 .bf16) (harg6 : arg6.IsWhole)
  (arg7 : Memref sig .tc .vmem S1x1x4096x128 .bf16) (harg7 : arg7.IsWhole)
  (arg8 : Memref sig .tc .vmem S1x1x4096x64 .bf16) (harg8 : arg8.IsWhole)
  (arg9 : Memref sig .tc .vmem S1x1x4x256x64 .f32) (harg9 : arg9.IsWhole)
  (arg10 : Memref sig .tc .vmem S1x256x128 .f32) (harg10 : arg10.IsWhole)
  (arg11 : Memref sig .tc .vmem S1x1x4x256x64 .bf16) (harg11 : arg11.IsWhole)
  (arg12 : Memref sig .tc .vmem S1024x1 .f32) (harg12 : arg12.IsWhole)
  (arg13 : Memref sig .tc .vmem S1024x1 .f32) (harg13 : arg13.IsWhole)
  (arg14 : Memref sig .tc .vmem S1024x64 .f32) (harg14 : arg14.IsWhole)
section
variable (𝒱 : Variants) (bd : Option 𝒱.V) (a2 : BitVec 32) (Q : FVec F S1024x128 .bf16) (co po : IVec S1024x256 32) (z n : BitVec 32) (X5 : BufTy.Contents (Elt F) arg5.view.ty)
  (X6 : BufTy.Contents (Elt F) arg6.view.ty)

/-- One trip of the loop takes what the three buffers hold to `step` of it. -/
theorem trip_reads (k : Fin (k0_t1_loop i).trips)
    (f12 : BufTy.Contents (Elt F) arg12.view.ty) (f13 : BufTy.Contents (Elt F) arg13.view.ty) (f14 : BufTy.Contents (Elt F) arg14.view.ty) :
    ((arg12.view.read (Elt F) (arg12.view.writes (Elt F) f12 (tripL_k0_t1 (F := F) 𝒱 c bd i arg3 harg3 arg4 harg4 arg5 harg5 arg6 harg6 arg7 harg7 arg8 harg8 arg9 harg9 arg10 harg10 arg11 harg11 arg12 harg12 arg13 harg13 arg14 harg14 a2 Q co po z n X5 X6 k f12 f13 f14).1),
      arg13.view.read (Elt F) (arg13.view.writes (Elt F) f13 (tripL_k0_t1 (F := F) 𝒱 c bd i arg3 harg3 arg4 harg4 arg5 harg5 arg6 harg6 arg7 harg7 arg8 harg8 arg9 harg9 arg10 harg10 arg11 harg11 arg12 harg12 arg13 harg13 arg14 harg14 a2 Q co po z n X5 X6 k f12 f13 f14).2.1),
      arg14.view.read (Elt F) (arg14.view.writes (Elt F) f14 (tripL_k0_t1 (F := F) 𝒱 c bd i arg3 harg3 arg4 harg4 arg5 harg5 arg6 harg6 arg7 harg7 arg8 harg8 arg9 harg9 arg10 harg10 arg11 harg11 arg12 harg12 arg13 harg13 arg14 harg14 a2 Q co po z n X5 X6 k f12 f13 f14).2.2)) : St F)
    = step Q (tile (arg5.view.read (Elt F) X5) k.val) (vtile (arg6.view.read (Elt F) X6) k.val)
        (arg12.view.read (Elt F) f12, arg13.view.read (Elt F) f13, arg14.view.read (Elt F) f14) := by
  have hk : k.val < 16 := lt_of_lt_of_le k.isLt (le_trans (k0_t1_abs i).2.1 (by decide))
  rw [← tile_of_load arg5.view X5 k.val hk (k0_off1_eq i k) (k0_off1_inb i k),
    ← vtile_of_load arg6.view X6 k.val hk (k0_off2_eq i k) (k0_off2_inb i k)]
  unfold tripL_k0_t1 trip_k0_t1
  dsimp only
  rw [View.read_writes_full, View.read_writes_full, View.read_writes_full]
  sl_unfold_words
  simp only [whole_a, whole_b]
  rfl

/-- Before trip `t` the three buffers hold the states of that number, if they start at the resets. -/
theorem loop_reads (G12 : BufTy.Contents (Elt F) arg12.view.ty) (G13 : BufTy.Contents (Elt F) arg13.view.ty)
    (G14 : BufTy.Contents (Elt F) arg14.view.ty)
    (h0 : ((arg12.view.read (Elt F) G12, arg13.view.read (Elt F) G13, arg14.view.read (Elt F) G14) : St F) = start)
    (t : ℕ) (ht : t ≤ (k0_t1_loop i).trips) :
    ((arg12.view.read (Elt F) (arg12.view.writes (Elt F) G12 (pb_k0_t1 (F := F) 𝒱 c bd i arg3 harg3 arg4 harg4 arg5 harg5 arg6 harg6 arg7 harg7 arg8 harg8 arg9 harg9 arg10 harg10 arg11 harg11 arg12 harg12 arg13 harg13 arg14 harg14 a2 Q co po z n X5 X6 G12 G13 G14 t).1),
      arg13.view.read (Elt F) (arg13.view.writes (Elt F) G13 (pb_k0_t1 (F := F) 𝒱 c bd i arg3 harg3 arg4 harg4 arg5 harg5 arg6 harg6 arg7 harg7 arg8 harg8 arg9 harg9 arg10 harg10 arg11 harg11 arg12 harg12 arg13 harg13 arg14 harg14 a2 Q co po z n X5 X6 G12 G13 G14 t).2.1),
      arg14.view.read (Elt F) (arg14.view.writes (Elt F) G14 (pb_k0_t1 (F := F) 𝒱 c bd i arg3 harg3 arg4 harg4 arg5 harg5 arg6 harg6 arg7 harg7 arg8 harg8 arg9 harg9 arg10 harg10 arg11 harg11 arg12 harg12 arg13 harg13 arg14 harg14 a2 Q co po z n X5 X6 G12 G13 G14 t).2.2)) : St F)
    = states Q (arg5.view.read (Elt F) X5) (arg6.view.read (Elt F) X6) t := by
  induction t with
  | zero => exact h0
  | succ t ih =>
    have hs := pb_k0_t1_succ (F := F) 𝒱 c bd i arg3 harg3 arg4 harg4 arg5 harg5 arg6 harg6 arg7 harg7 arg8 harg8 arg9 harg9 arg10 harg10 arg11 harg11 arg12 harg12 arg13 harg13 arg14 harg14 a2 Q co po z n X5 X6 G12 G13 G14 ⟨t, ht⟩
    dsimp only at hs
    rw [hs]
    dsimp only
    rw [View.writes_append, View.writes_append, View.writes_append]
    refine (trip_reads c i arg3 harg3 arg4 harg4 arg5 harg5 arg6 harg6 arg7 harg7 arg8 harg8 arg9 harg9 arg10 harg10 arg11 harg11 arg12 harg12 arg13 harg13 arg14 harg14 𝒱 bd a2 Q co po z n X5 X6 ⟨t, ht⟩ _ _ _).trans ?_
    rw [ih (Nat.le_of_succ_le ht)]
    rfl
end

end
end Cert.Kernel4Ideal.Body
-- ==== Proof.SelRow.lean ====
/-
  The running softmax of one row over tiles in which every key may be masked, and the masks' words.
-/
module

public import proofs.«01_k».proof.Proof.Row
public import Idealize.ShloMosaic.Lib.Pointwise
public import Idealize.ShloMosaic.Lib.WordCmp

@[expose] public section

noncomputable section
open Idealize.ShloMosaic
namespace Cert.Row

/-- The largest of masks only. -/
theorem fold_bot {ι : Type*} (u : Finset ι) (s : ι → EReal) (h : ∀ k, s k = ⊥) : u.fold max ⊥ s = ⊥ := by
  classical
  induction u using Finset.induction_on with
  | empty => simp
  | insert a u ha ih => rw [Finset.fold_insert ha, ih, h a, max_self]

/-- One tile of keys keeps the invariant, whether or not it has an unmasked key. -/
theorem tile_any {n : ℕ} {m l a m' : EReal} {L A : ℝ} (h : Inv m l a L A) (s : Fin n → EReal) (w : Fin n → ℝ) (v : Fin n → EReal)
    (ν : Fin n → ℝ) (hs : ∀ k, Score (s k) (w k)) (hv : ∀ k, v k = ν k) (hm : max m (Finset.univ.fold max ⊥ s) = m') :
    Inv m' (Ideal.exp (m - m') * l + ∑ k, Ideal.exp (s k - m')) (Ideal.exp (m - m') * a + ∑ k, Ideal.exp (s k - m') * v k)
      (L + ∑ k, w k) (A + ∑ k, w k * ν k) := by
  by_cases hne : ∃ k, s k ≠ ⊥
  · obtain ⟨M, hM, hl, ha⟩ := tile_step h s w v ν hs hne hv
    rw [← hm, hM]
    exact Or.inr ⟨M, rfl, hl, ha⟩
  · have hb : ∀ k, s k = ⊥ := fun k => by_contra fun e => hne ⟨k, e⟩
    have hw : ∀ k, w k = 0 := fun k => by
      rcases hs k with ⟨x, hx, _⟩ | ⟨_, hx⟩
      · rw [hb k] at hx; exact absurd hx.symm (EReal.coe_ne_bot x)
      · exact hx
    rw [fold_bot _ _ hb, max_eq_left bot_le] at hm
    subst hm
    simp only [hb, hw, zero_mul, Finset.sum_const_zero, add_zero, EReal.bot_sub, Ideal.exp_bot]
    rcases h with ⟨rfl, rfl, rfl, rfl, rfl⟩ | ⟨M, rfl, rfl, rfl⟩
    · exact Or.inl ⟨rfl, by rw [mul_zero], by rw [mul_zero], rfl, rfl⟩
    · refine Or.inr ⟨M, rfl, ?_, ?_⟩ <;>
        rw [← EReal.coe_sub, sub_self, Ideal.exp_coe, Real.exp_zero, EReal.coe_one, one_mul]

/-- The quotient of the weighted sum and the sum. -/
theorem inv_div {m l a : EReal} {L A : ℝ} (h : Inv m l a L A) (hL : L ≠ 0) : Ideal.div a l = ((A / L : ℝ) : EReal) := by
  rcases h with ⟨_, _, _, h, _⟩ | ⟨M, _, rfl, rfl⟩
  · exact absurd h hL
  · exact div_num M A L hL

/-- The mean of values by weights. -/
def mean (w ν : Fin 4096 → ℝ) : ℝ := (∑ k, w k * ν k) / ∑ k, w k

/-- A key's weight: the exponential of its score, or none. -/
def weigh (p : Prop) [Decidable p] (x : ℝ) : ℝ := if p then Real.exp x else 0

theorem weigh_score (p : Prop) [Decidable p] (x : ℝ) : Score (if p then (x : EReal) else ⊥) (weigh p x) := by
  unfold weigh
  by_cases h : p
  · rw [if_pos h, if_pos h]; exact Or.inl ⟨x, rfl, rfl⟩
  · rw [if_neg h, if_neg h]; exact Or.inr ⟨rfl, rfl⟩

/-- Weights do not cancel. -/
theorem sum_weigh {ι : Type*} [Fintype ι] (p : ι → Prop) [DecidablePred p] (x : ι → ℝ) (i : ι) (h : p i) :
    ∑ k, weigh (p k) (x k) ≠ 0 := by
  refine ne_of_gt (Finset.sum_pos' (fun k _ => ?_) ⟨i, Finset.mem_univ _, ?_⟩)
  · unfold weigh
    by_cases hk : p k
    · rw [if_pos hk]; exact (Real.exp_pos _).le
    · rw [if_neg hk]
  · rw [weigh, if_pos h]; exact Real.exp_pos _

/-- The window's lower bound, as the words compare it. -/
theorem after_word (p k : ℕ) (hp : p < 4096) (hk : k < 4096) :
    IntOp.cmpi .sgt (BitVec.ofNat 32 k) (IntOp.subi (BitVec.ofNat 32 p) 512#32) = if p < k + 512 then 1#1 else 0#1 := by
  have e : IntOp.cmpi .sgt (BitVec.ofNat 32 k) (IntOp.subi (BitVec.ofNat 32 p) 512#32)
      = BitVec.ofBool ((BitVec.ofNat 32 p - 512#32).slt (BitVec.ofNat 32 k)) := rfl
  rw [e, BitVec.slt_eq_decide, BitVec.toInt_sub, show (512#32).toInt = 512 from rfl]
  have e1 : (BitVec.ofNat 32 p).toInt = p := by rw [BitVec.toInt_eq_toNat_cond, BitVec.toNat_ofNat, Nat.mod_eq_of_lt (by omega), if_pos (by omega)]
  have e2 : (BitVec.ofNat 32 k).toInt = k := by rw [BitVec.toInt_eq_toNat_cond, BitVec.toNat_ofNat, Nat.mod_eq_of_lt (by omega), if_pos (by omega)]
  rw [e1, e2]
  have e4 : ((p : ℤ) - 512).bmod (2 ^ 32) = p - 512 := by
    rw [Int.bmod_eq_of_le] <;> omega
  rw [e4]
  by_cases h : p < k + 512
  · rw [if_pos h, decide_eq_true (by omega)]; rfl
  · rw [if_neg h, decide_eq_false (by omega)]; rfl

end Cert.Row
-- ==== Proof.SelRows.lean ====
/-
  The body's values at the ideal instance, read row by row: each row's three running values go through the selected
  tiles and through the window's tiles by the row recurrence, and end at the means of the values by the weights.
-/
module

public import proofs.«01_k».proof.Proof.SelBody
public import proofs.«01_k».proof.Proof.SelRow
public import Idealize.ShloMosaic.Lib.Pointwise
public import Idealize.ShloMosaic.Lib.WordCmp

@[expose] public section

set_option maxRecDepth 65536
noncomputable section
open Idealize.ShloMosaic Idealize.ShloMosaic.TcCoe Idealize.SL.Sem
namespace Cert.Kernel4Ideal.Body
open Cert.Kernel4Ideal Cert.Kernel4Ideal.Gen Cert.Row

/-- The score of stacked row `r` against key `k` of a tile. -/
def dotRow (Q : FVec Ideal S1024x128 .bf16) (K : Vec Ideal S1x1x256x128 .bf16) (r : Fin 1024) (k : Fin 256) : EReal :=
  ∑ e : Fin 128, Q (ix2 r e) * K (ix4 0 0 k e)

theorem mask_val : (Named.named (F := Ideal) κ "mask" 0xF149F2CA#32 : Ideal .f32) = ⊥ :=
  IdealRules.named_const.ideal_named_scalar _ _ _ _ rfl

section
variable (Q : FVec Ideal S1024x128 .bf16) (K : Vec Ideal S1x1x256x128 .bf16) (V : Vec Ideal S1x1x256x64 .bf16) (s : St Ideal)
  (w : BitVec 32) (p : IVec S1024x256 32) (r : Fin 1024) (k : Fin 256) (d : Fin 64) (M : EReal)

theorem plain_at : k0_pay2 (F := Ideal) Q K (ix2 r k) = dotRow Q K r k := by
  pointwise [k0_pay2, dotRow]

theorem diag_at : k0_pay42 (F := Ideal) w Q cols p K (ix2 r k)
    = Scalar.select (IntOp.cmpi .sle (IntOp.addi (IntOp.muli w 256#32) (BitVec.ofNat 32 k.val)) (p (ix2 r k))) (dotRow Q K r k) ⊥ := by
  pointwise [k0_pay42, dotRow, cols, mask_val]
  rfl

theorem wind_at : k0_pay26 (F := Ideal) Q cols p w K (ix2 r k)
    = Scalar.select (IntOp.andi (IntOp.cmpi .sle (IntOp.addi (IntOp.muli w 256#32) (BitVec.ofNat 32 k.val)) (p (ix2 r k)))
        (IntOp.cmpi .sgt (IntOp.addi (IntOp.muli w 256#32) (BitVec.ofNat 32 k.val)) (IntOp.subi (p (ix2 r k)) 512#32))) (dotRow Q K r k) ⊥ := by
  pointwise [k0_pay26, dotRow, cols, mask_val]
  rfl

theorem pay3_at (m : Vec Ideal S1024x1 .f32) : k0_pay3 (F := Ideal) Q K m (ix2 r 0)
    = max (m (ix2 r 0)) (Finset.univ.fold max ⊥ fun k => k0_pay2 (F := Ideal) Q K (ix2 r k)) := by
  pointwise [k0_pay3]
  rw [negInf]

theorem pay44_at (m : Vec Ideal S1024x1 .f32) : k0_pay44 (F := Ideal) w Q cols p K m (ix2 r 0)
    = max (m (ix2 r 0)) (Finset.univ.fold max ⊥ fun k => k0_pay42 (F := Ideal) w Q cols p K (ix2 r k)) := by
  pointwise [k0_pay44]
  rw [negInf]

theorem pay28_at (m : Vec Ideal S1024x1 .f32) : k0_pay28 (F := Ideal) Q cols p w K m (ix2 r 0)
    = max (m (ix2 r 0)) (Finset.univ.fold max ⊥ fun k => k0_pay26 (F := Ideal) Q cols p w K (ix2 r k)) := by
  pointwise [k0_pay28]
  rw [negInf]

theorem step_m : (step Q K V s).1 (ix2 r 0) = k0_pay3 (F := Ideal) Q K s.1 (ix2 r 0) := by
  pointwise [step, k0_pay39]

theorem step_l (h : k0_pay3 (F := Ideal) Q K s.1 (ix2 r 0) = M) : (step Q K V s).2.1 (ix2 r 0)
    = Ideal.exp (s.1 (ix2 r 0) - M) * s.2.1 (ix2 r 0) + ∑ k, Ideal.exp (k0_pay2 (F := Ideal) Q K (ix2 r k) - M) := by
  pointwise [step, k0_pay6, k0_pay4, k0_pay5, h]

theorem step_a (h : k0_pay3 (F := Ideal) Q K s.1 (ix2 r 0) = M) : (step Q K V s).2.2 (ix2 r d)
    = Ideal.exp (s.1 (ix2 r 0) - M) * s.2.2 (ix2 r d) + ∑ k, Ideal.exp (k0_pay2 (F := Ideal) Q K (ix2 r k) - M) * V (ix4 0 0 k d) := by
  pointwise [step, k0_pay38, k0_pay7, k0_pay4, k0_pay5, h]

theorem last_m : (last w p Q K V s).1 (ix2 r 0) = k0_pay44 (F := Ideal) w Q cols p K s.1 (ix2 r 0) := by
  pointwise [last, k0_pay49]

theorem last_l (h : k0_pay44 (F := Ideal) w Q cols p K s.1 (ix2 r 0) = M) : (last w p Q K V s).2.1 (ix2 r 0)
    = Ideal.exp (s.1 (ix2 r 0) - M) * s.2.1 (ix2 r 0) + ∑ k, Ideal.exp (k0_pay42 (F := Ideal) w Q cols p K (ix2 r k) - M) := by
  pointwise [last, k0_pay47, k0_pay45, k0_pay46, h]

theorem last_a (h : k0_pay44 (F := Ideal) w Q cols p K s.1 (ix2 r 0) = M) : (last w p Q K V s).2.2 (ix2 r d)
    = Ideal.exp (s.1 (ix2 r 0) - M) * s.2.2 (ix2 r d) + ∑ k, Ideal.exp (k0_pay42 (F := Ideal) w Q cols p K (ix2 r k) - M) * V (ix4 0 0 k d) := by
  pointwise [last, k0_pay48, k0_pay43, k0_pay45, k0_pay46, h]

theorem win_m : (win w p Q K V s).1 (ix2 r 0) = k0_pay28 (F := Ideal) Q cols p w K s.1 (ix2 r 0) := by
  pointwise [win, k0_pay62]

theorem win_l (h : k0_pay28 (F := Ideal) Q cols p w K s.1 (ix2 r 0) = M) : (win w p Q K V s).2.1 (ix2 r 0)
    = Ideal.exp (s.1 (ix2 r 0) - M) * s.2.1 (ix2 r 0) + ∑ k, Ideal.exp (k0_pay26 (F := Ideal) Q cols p w K (ix2 r k) - M) := by
  pointwise [win, k0_pay60, k0_pay31, k0_pay29, k0_pay30, h]

theorem win_a (h : k0_pay28 (F := Ideal) Q cols p w K s.1 (ix2 r 0) = M) : (win w p Q K V s).2.2 (ix2 r d)
    = Ideal.exp (s.1 (ix2 r 0) - M) * s.2.2 (ix2 r d) + ∑ k, Ideal.exp (k0_pay26 (F := Ideal) Q cols p w K (ix2 r k) - M) * V (ix4 0 0 k d) := by
  pointwise [win, k0_pay61, k0_pay27, k0_pay29, k0_pay30, h]
end

/-! The words of the positions. -/

theorem low_word : ∀ r : Fin 1024, IntOp.andi (BitVec.ofNat 32 r.val) 255#32 = BitVec.ofNat 32 (r.val % 256) := by decide +kernel

theorem key_word (n k : ℕ) : IntOp.addi (IntOp.muli (BitVec.ofNat 32 n) 256#32) (BitVec.ofNat 32 k) = BitVec.ofNat 32 (256 * n + k) := by
  show BitVec.ofNat 32 n * BitVec.ofNat 32 256 + BitVec.ofNat 32 k = _
  rw [← BitVec.ofNat_mul, ← BitVec.ofNat_add, mul_comm]

theorem pos_at (i : grid0.Coords) (r : Fin 1024) (k : Fin 256) : k0_pay34 i (ix2 r k) = BitVec.ofNat 32 (256 * (i 2).val + r.val % 256) := by
  rw [← key_word, ← low_word]
  pointwise [k0_pay34]
  rfl

theorem back_word : ∀ (n : Fin 16) (b : Fin 3), b.val ≤ n.val →
    Scalar.subi (BitVec.ofNat 32 n.val) (BitVec.ofNat 32 b.val) = BitVec.ofNat 32 (n.val - b.val) := by decide +kernel

theorem le_word (a b : ℕ) (ha : a < 4096) (hb : b < 4096) : IntOp.cmpi .sle (BitVec.ofNat 32 a) (BitVec.ofNat 32 b) = if a ≤ b then 1#1 else 0#1 := by
  have h1 : a < 2 ^ (32 - 1) := by omega
  have h2 : b < 2 ^ (32 - 1) := by omega
  word_cmp
  by_cases h : a ≤ b <;> simp [h]

theorem sel_bit (p : Prop) [Decidable p] (x y : EReal) : Scalar.select (if p then 1#1 else 0#1) x y = if p then x else y := by
  by_cases h : p
  · rw [if_pos h, if_pos h]; rfl
  · rw [if_neg h, if_neg h]; rfl

theorem both_bits {p p' : Prop} [Decidable p] [Decidable p'] : IntOp.andi (if p then 1#1 else 0#1) (if p' then 1#1 else 0#1) = if p ∧ p' then 1#1 else 0#1 := by
  by_cases h : p <;> by_cases h' : p' <;> simp [h, h'] <;> rfl

section
variable (i : grid0.Coords) (Q : FVec Ideal S1024x128 .bf16) (K : Vec Ideal S1x1x256x128 .bf16) (r : Fin 1024) (k : Fin 256)

theorem diag_if : k0_pay42 (F := Ideal) (BitVec.ofNat 32 (i 2).val) Q cols (k0_pay34 i) K (ix2 r k)
    = if 256 * (i 2).val + k.val ≤ 256 * (i 2).val + r.val % 256 then dotRow Q K r k else ⊥ := by
  have hi : (i 2).val < 16 := (i 2).isLt
  have hk := k.isLt
  rw [diag_at, pos_at, key_word, le_word _ _ (by omega) (by omega), sel_bit]

theorem wind_if (m : ℕ) (hm : m < 16) : k0_pay26 (F := Ideal) Q cols (k0_pay34 i) (BitVec.ofNat 32 m) K (ix2 r k)
    = if 256 * m + k.val ≤ 256 * (i 2).val + r.val % 256 ∧ 256 * (i 2).val + r.val % 256 < 256 * m + k.val + 512 then dotRow Q K r k else ⊥ := by
  have hi : (i 2).val < 16 := (i 2).isLt
  have hk := k.isLt
  rw [wind_at, pos_at, key_word, le_word _ _ (by omega) (by omega), after_word _ _ (by omega) (by omega), both_bits, sel_bit]
end

/-- The head and the query of a stacked row. -/
def hd (r : Fin 1024) : Fin 4 := ⟨r.val / 256, by omega⟩
def qr (r : Fin 1024) : Fin 256 := ⟨r.val % 256, by omega⟩

/-- The two halves of the 128 lanes. -/
def lo (e : Fin 64) : Fin 128 := ⟨e.val, by omega⟩
def hi (e : Fin 64) : Fin 128 := ⟨64 + e.val, by omega⟩

theorem halves (f : Fin 128 → EReal) : ∑ e, f e = ∑ e : Fin 64, f (lo e) + ∑ e : Fin 64, f (hi e) :=
  Fin.sum_univ_two_halves 64 64 rfl f

theorem stack_at (x0 : Vec Ideal S1x1x4x256x128 .bf16) (r : Fin 1024) (e : Fin 128) : k0_pay32 x0 (ix2 r e) = x0 (ix5 0 0 (hd r) (qr r) e) := by
  pointwise [k0_pay32, hd, qr]

theorem four_at (x : FVec Ideal S256x128 .bf16) (r : Fin 1024) (e : Fin 128) :
    concatenate S1024x128 0 [⟨S256x128, x⟩, ⟨S256x128, x⟩, ⟨S256x128, x⟩, ⟨S256x128, x⟩] concatenates_S256x128_S256x128_S256x128_S256x128_S1024x128_d0 (ix2 r e)
      = x (ix2 (qr r) e) := by
  pointwise [qr]
  have hr := r.isLt
  have hx : ∀ (a b : ℕ) (ha : a < 256) (hb : b < 256), a = b → x (ix2 ⟨a, ha⟩ e) = x (ix2 ⟨b, hb⟩ e) := fun a b ha hb h => by subst h; rfl
  split
  · exact hx _ _ _ _ (by omega)
  · split
    · exact hx _ _ _ _ (by omega)
    · split
      · exact hx _ _ _ _ (by omega)
      · exact hx _ _ _ _ (by omega)

theorem stack_bias_at (x0 : Vec Ideal S1x1x4x256x128 .bf16) (x1 : Vec Ideal S1x1x256x128 .bf16) (r : Fin 1024) (e : Fin 128) :
    k0_pay33 x0 x1 (ix2 r e) = x0 (ix5 0 0 (hd r) (qr r) e) + x1 (ix4 0 0 (qr r) e) := by
  pointwise [k0_pay33, four_at, stack_at]

/-- Key `k` among the 4096. -/
abbrev key (k : ℕ) : Fin 4096 := Fin.ofNat 4096 k

/-- A row's three running values after the first `n` tiles of keys. -/
def Run (s : St Ideal) (r : Fin 1024) (d : Fin 64) (w ν : Fin 4096 → ℝ) (n : ℕ) : Prop :=
  Inv (s.1 (ix2 r 0)) (s.2.1 (ix2 r 0)) (s.2.2 (ix2 r d)) (∑ k ∈ Finset.range (256 * n), w (key k)) (∑ k ∈ Finset.range (256 * n), w (key k) * ν (key k))

theorem sum_more (f : ℕ → ℝ) (n : ℕ) :
    ∑ k ∈ Finset.range (256 * (n + 1)), f k = ∑ k ∈ Finset.range (256 * n), f k + ∑ k : Fin 256, f (256 * n + k.val) := by
  rw [mul_add, mul_one, Finset.sum_range_add, Finset.sum_range (fun k => f (256 * n + k))]

section
variable {s : St Ideal} {r : Fin 1024} {d : Fin 64} {w ν : Fin 4096 → ℝ} {n : ℕ}

/-- The resets, the keys of the first `n` tiles having no weight. -/
theorem run_start (h : ∀ k < 256 * n, w (key k) = 0) : Run start r d w ν n := by
  refine Or.inl ⟨?_, ?_, ?_, Finset.sum_eq_zero fun k hk => h k (Finset.mem_range.mp hk),
    Finset.sum_eq_zero fun k hk => by rw [h k (Finset.mem_range.mp hk), zero_mul]⟩ <;> show (_ : EReal) = _
  · pointwise [start, k0_pay35, mask_val]
  · pointwise [start, k0_pay36]
  · pointwise [start, k0_pay37]

theorem run_step {Q : FVec Ideal S1024x128 .bf16} {X : Vec Ideal S1x1x4096x128 .bf16} {Y : Vec Ideal S1x1x4096x64 .bf16}
    (h : Run s r d w ν n) (hs : ∀ k, Score (k0_pay2 (F := Ideal) Q (tile X n) (ix2 r k)) (w (key (256 * n + k.val))))
    (hv : ∀ k, Y (ix4 0 0 k d) = ν k) : Run (step Q (tile X n) (vtile Y n) s) r d w ν (n + 1) := by
  have t := tile_any h _ _ (fun k : Fin 256 => vtile Y n (ix4 0 0 k d)) (fun k => ν (key (256 * n + k.val))) hs (fun k => hv _)
    (pay3_at Q (tile X n) r s.1).symm
  unfold Run
  rw [step_m, step_l _ _ _ _ _ _ rfl, step_a _ _ _ _ _ _ _ rfl, sum_more (fun k => w (key k)), sum_more (fun k => w (key k) * ν (key k))]
  exact t

theorem run_last {v : BitVec 32} {p : IVec S1024x256 32} {Q : FVec Ideal S1024x128 .bf16} {X : Vec Ideal S1x1x4096x128 .bf16} {Y : Vec Ideal S1x1x4096x64 .bf16}
    (h : Run s r d w ν n) (hs : ∀ k, Score (k0_pay42 (F := Ideal) v Q cols p (tile X n) (ix2 r k)) (w (key (256 * n + k.val))))
    (hv : ∀ k, Y (ix4 0 0 k d) = ν k) : Run (last v p Q (tile X n) (vtile Y n) s) r d w ν (n + 1) := by
  have t := tile_any h _ _ (fun k : Fin 256 => vtile Y n (ix4 0 0 k d)) (fun k => ν (key (256 * n + k.val))) hs (fun k => hv _)
    (pay44_at Q (tile X n) v p r s.1).symm
  unfold Run
  rw [last_m, last_l _ _ _ _ _ _ _ _ rfl, last_a _ _ _ _ _ _ _ _ _ rfl, sum_more (fun k => w (key k)), sum_more (fun k => w (key k) * ν (key k))]
  exact t

theorem run_win {v : BitVec 32} {p : IVec S1024x256 32} {Q : FVec Ideal S1024x128 .bf16} {X : Vec Ideal S1x1x4096x128 .bf16} {Y : Vec Ideal S1x1x4096x64 .bf16}
    (h : Run s r d w ν n) (hs : ∀ k, Score (k0_pay26 (F := Ideal) Q cols p v (tile X n) (ix2 r k)) (w (key (256 * n + k.val))))
    (hv : ∀ k, Y (ix4 0 0 k d) = ν k) : Run (win v p Q (tile X n) (vtile Y n) s) r d w ν (n + 1) := by
  have t := tile_any h _ _ (fun k : Fin 256 => vtile Y n (ix4 0 0 k d)) (fun k => ν (key (256 * n + k.val))) hs (fun k => hv _)
    (pay28_at Q (tile X n) v p r s.1).symm
  unfold Run
  rw [win_m, win_l _ _ _ _ _ _ _ _ rfl, win_a _ _ _ _ _ _ _ _ _ rfl, sum_more (fun k => w (key k)), sum_more (fun k => w (key k) * ν (key k))]
  exact t

theorem sum_all (f : Fin 4096 → ℝ) (hn : n < 16) (h : ∀ k : Fin 4096, 256 * (n + 1) ≤ k.val → f k = 0) :
    ∑ k ∈ Finset.range (256 * (n + 1)), f (key k) = ∑ k, f k := by
  have e : ∑ k, f k = ∑ k ∈ Finset.range 4096, f (key k) := by
    rw [Finset.sum_range (fun k => f (key k))]
    exact Finset.sum_congr rfl fun k _ => congrArg f (Fin.ext (Nat.mod_eq_of_lt k.isLt).symm)
  rw [e]
  refine Finset.sum_subset (fun k hk => ?_) fun k hk hk' => ?_
  · rw [Finset.mem_range] at hk ⊢; omega
  · rw [Finset.mem_range] at hk hk'
    refine h _ ?_
    show _ ≤ k % 4096
    omega

/-- The quotient at the end, the keys past the tile `n` having no weight. -/
theorem run_end (h : Run s r d w ν (n + 1)) (hn : n < 16) (hz : ∀ k : Fin 4096, 256 * (n + 1) ≤ k.val → w k = 0) (hne : ∑ k, w k ≠ 0) :
    Ideal.div (s.2.2 (ix2 r d)) (s.2.1 (ix2 r 0)) = (mean w ν : EReal) := by
  unfold Run at h
  rw [sum_all w hn hz, sum_all (fun k => w k * ν k) hn (fun k hk => by rw [hz k hk, zero_mul])] at h
  exact inv_div h hne
end

section
variable {x0 : Vec Ideal S1x1x4x256x128 .bf16} {x1 : Vec Ideal S1x1x256x128 .bf16} {x2 : Vec Ideal S1x1x4096x128 .bf16} {x3 : Vec Ideal S1x1x4096x64 .bf16}
  {X : Fin 4 → Fin 256 → Fin 64 → ℝ} {Y Z : Fin 4096 → Fin 64 → ℝ} {P : Fin 256 → Fin 64 → Prop} [∀ q j, Decidable (P q j)]

/-- The block of a key. -/
def blk (k : Fin 4096) : Fin 64 := ⟨k.val / 64, by omega⟩

/-- The score with the bias of the key's block: minus infinity unless the block is kept. -/
theorem score_bias (h0 : ∀ h q e, x0 (ix5 0 0 h q (lo e)) = (X h q e : EReal)) (h0' : ∀ h q e, x0 (ix5 0 0 h q (hi e)) = 0)
    (h1 : ∀ q e, x1 (ix4 0 0 q (lo e)) = 0) (h1' : ∀ q j, x1 (ix4 0 0 q (hi j)) = if P q j then 0 else ⊥)
    (h2 : ∀ k e, x2 (ix4 0 0 k (lo e)) = (Y k e : EReal)) (h2' : ∀ (k : Fin 4096) (j : Fin 64), x2 (ix4 0 0 k (hi j)) = if k.val / 64 = j.val then 1 else 0)
    (n : ℕ) (r : Fin 1024) (k : Fin 256) :
    dotRow (k0_pay33 x0 x1) (tile x2 n) r k
      = if P (qr r) (blk (key (256 * n + k.val))) then ((∑ e, X (hd r) (qr r) e * Y (key (256 * n + k.val)) e : ℝ) : EReal) else ⊥ := by
  have ht : ∀ e, tile x2 n (ix4 0 0 k e) = x2 (ix4 0 0 (key (256 * n + k.val)) e) := fun e => rfl
  unfold dotRow
  rw [halves]
  simp only [stack_bias_at, ht, h0, h0', h1, h1', h2, h2', add_zero, zero_add, ← EReal.coe_mul, coe_sum]
  have hb : ∑ j : Fin 64, (if P (qr r) j then (0 : EReal) else ⊥) * (if (key (256 * n + k.val)).val / 64 = j.val then 1 else 0)
      = if P (qr r) (blk (key (256 * n + k.val))) then 0 else ⊥ := by
    rw [Finset.sum_eq_single (blk (key (256 * n + k.val))) (fun j _ hj => by
      rw [if_neg (show ¬ (key (256 * n + k.val)).val / 64 = j.val from fun e => hj (Fin.ext e.symm)), mul_zero]) (fun h => absurd (Finset.mem_univ _) h),
      if_pos (show (key (256 * n + k.val)).val / 64 = (blk (key (256 * n + k.val))).val from rfl), mul_one]
  rw [hb]
  by_cases h : P (qr r) (blk (key (256 * n + k.val)))
  · rw [if_pos h, if_pos h, add_zero]
  · rw [if_neg h, if_neg h, EReal.add_bot]

/-- The score of the window: the lanes past the heads' are zero in the queries. -/
theorem score_plain (h0 : ∀ h q e, x0 (ix5 0 0 h q (lo e)) = (X h q e : EReal)) (h0' : ∀ h q e, x0 (ix5 0 0 h q (hi e)) = 0)
    (h2 : ∀ k e, x2 (ix4 0 0 k (lo e)) = (Y k e : EReal)) (n : ℕ) (r : Fin 1024) (k : Fin 256) :
    dotRow (k0_pay32 x0) (tile x2 n) r k = ((∑ e, X (hd r) (qr r) e * Y (key (256 * n + k.val)) e : ℝ) : EReal) := by
  have ht : ∀ e, tile x2 n (ix4 0 0 k e) = x2 (ix4 0 0 (key (256 * n + k.val)) e) := fun e => rfl
  unfold dotRow
  rw [halves]
  simp only [stack_at, ht, h0, h0', h2, zero_mul, Finset.sum_const_zero, add_zero, ← EReal.coe_mul, coe_sum]

theorem score_if {p p' : Prop} [Decidable p] [Decidable p'] {s : EReal} {x : ℝ} (h : s = if p then (x : EReal) else ⊥) (hp : p ↔ p') : Score s (weigh p' x) := by
  subst h
  by_cases hh : p
  · have := weigh_score p' x
    rw [if_pos (hp.mp hh)] at this
    rwa [if_pos hh]
  · have := weigh_score p' x
    rw [if_neg (fun h => hh (hp.mpr h))] at this
    rwa [if_neg hh]

/-- What the selected tiles leave: the mean of the values by the weights of the kept blocks' keys up to the query. -/
theorem selected_at (h0 : ∀ h q e, x0 (ix5 0 0 h q (lo e)) = (X h q e : EReal)) (h0' : ∀ h q e, x0 (ix5 0 0 h q (hi e)) = 0)
    (h1 : ∀ q e, x1 (ix4 0 0 q (lo e)) = 0) (h1' : ∀ q j, x1 (ix4 0 0 q (hi j)) = if P q j then 0 else ⊥)
    (h2 : ∀ k e, x2 (ix4 0 0 k (lo e)) = (Y k e : EReal)) (h2' : ∀ (k : Fin 4096) (j : Fin 64), x2 (ix4 0 0 k (hi j)) = if k.val / 64 = j.val then 1 else 0)
    (h3 : ∀ k d, x3 (ix4 0 0 k d) = (Z k d : EReal)) (i : grid0.Coords) (r : Fin 1024) (d : Fin 64) (hP : P (qr r) 0) :
    Ideal.div ((selected (i 2).val (k0_pay34 i) (k0_pay33 x0 x1) x2 x3).2.2 (ix2 r d)) ((selected (i 2).val (k0_pay34 i) (k0_pay33 x0 x1) x2 x3).2.1 (ix2 r 0))
      = (mean (fun k => weigh (P (qr r) (blk k) ∧ k.val ≤ 256 * (i 2).val + r.val % 256) (∑ e, X (hd r) (qr r) e * Y k e)) (fun k => Z k d) : EReal) := by
  have hi' : (i 2).val < 16 := (i 2).isLt
  have hsc := score_bias (P := P) h0 h0' h1 h1' h2 h2'
  have hkey : ∀ m < 16, ∀ k : Fin 256, (key (256 * m + k.val)).val = 256 * m + k.val := fun m hm k => Nat.mod_eq_of_lt (by omega)
  have hst : ∀ m ≤ (i 2).val, Run (states (k0_pay33 x0 x1) x2 x3 m) r d
      (fun k => weigh (P (qr r) (blk k) ∧ k.val ≤ 256 * (i 2).val + r.val % 256) (∑ e, X (hd r) (qr r) e * Y k e)) (fun k => Z k d) m := by
    intro m
    induction m with
    | zero => exact fun _ => run_start (fun k hk => absurd hk (by omega))
    | succ m ih =>
      intro hm
      refine run_step (ih (Nat.le_of_succ_le hm)) (fun k => ?_) (fun k => h3 k d)
      have hk := hkey m (by omega) k
      refine score_if ((plain_at _ _ _ _).trans (hsc m r k)) ?_
      rw [hk]
      exact ⟨fun h => ⟨h, by omega⟩, fun h => h.1⟩
  refine run_end (run_last (hst _ le_rfl) (fun k => ?_) (fun k => h3 k d)) hi' (fun k hk => ?_) (sum_weigh _ _ 0 ⟨hP, Nat.zero_le _⟩)
  · have hk := hkey (i 2).val hi' k
    refine score_if (p := P (qr r) (blk (key (256 * (i 2).val + k.val))) ∧ 256 * (i 2).val + k.val ≤ 256 * (i 2).val + r.val % 256) ?_ (by rw [hk])
    rw [diag_if, hsc]
    by_cases hp : P (qr r) (blk (key (256 * (i 2).val + k.val))) <;> by_cases hq : 256 * (i 2).val + k.val ≤ 256 * (i 2).val + r.val % 256 <;> simp only [hp, hq, if_true, if_false, and_true, and_false, true_and, false_and]
  · exact if_neg (fun h => absurd h.2 (by omega))

/-- What the window's tiles leave: the mean of the values by the weights of the 512 keys up to the query. -/
theorem windowed_at (h0 : ∀ h q e, x0 (ix5 0 0 h q (lo e)) = (X h q e : EReal)) (h0' : ∀ h q e, x0 (ix5 0 0 h q (hi e)) = 0)
    (h2 : ∀ k e, x2 (ix4 0 0 k (lo e)) = (Y k e : EReal))
    (h3 : ∀ k d, x3 (ix4 0 0 k d) = (Z k d : EReal)) (i : grid0.Coords) (r : Fin 1024) (d : Fin 64) :
    Ideal.div ((windowed (i 2).val (k0_pay34 i) (k0_pay32 x0) x2 x3).2.2 (ix2 r d)) ((windowed (i 2).val (k0_pay34 i) (k0_pay32 x0) x2 x3).2.1 (ix2 r 0))
      = (mean (fun k => weigh (k.val ≤ 256 * (i 2).val + r.val % 256 ∧ 256 * (i 2).val + r.val % 256 < k.val + 512) (∑ e, X (hd r) (qr r) e * Y k e)) (fun k => Z k d) : EReal) := by
  have hi' : (i 2).val < 16 := (i 2).isLt
  have hsc := score_plain h0 h0' h2
  have hkey : ∀ m < 16, ∀ k : Fin 256, (key (256 * m + k.val)).val = 256 * m + k.val := fun m hm k => Nat.mod_eq_of_lt (by omega)
  have hw : ∀ (b : Fin 3) (hb : b.val ≤ (i 2).val) (s : St Ideal), Run s r d
      (fun k => weigh (k.val ≤ 256 * (i 2).val + r.val % 256 ∧ 256 * (i 2).val + r.val % 256 < k.val + 512) (∑ e, X (hd r) (qr r) e * Y k e)) (fun k => Z k d) ((i 2).val - b.val) →
      Run (wtile (i 2).val b.val (k0_pay34 i) (k0_pay32 x0) x2 x3 s) r d
      (fun k => weigh (k.val ≤ 256 * (i 2).val + r.val % 256 ∧ 256 * (i 2).val + r.val % 256 < k.val + 512) (∑ e, X (hd r) (qr r) e * Y k e)) (fun k => Z k d) ((i 2).val - b.val + 1) := by
    intro b hb s hs
    unfold wtile
    rw [back_word (i 2) b hb]
    refine run_win hs (fun k => ?_) (fun k => h3 k d)
    have hk := hkey ((i 2).val - b.val) (by omega) k
    refine score_if (p := 256 * ((i 2).val - b.val) + k.val ≤ 256 * (i 2).val + r.val % 256 ∧ 256 * (i 2).val + r.val % 256 < 256 * ((i 2).val - b.val) + k.val + 512) ?_ (by rw [hk])
    rw [wind_if i _ _ r k _ (by omega), hsc]
  have hz : ∀ m, m = (i 2).val - 2 → ∀ k < 256 * m, weigh ((key k).val ≤ 256 * (i 2).val + r.val % 256 ∧ 256 * (i 2).val + r.val % 256 < (key k).val + 512) (∑ e, X (hd r) (qr r) e * Y (key k) e) = 0 := by
    intro m hm k hk
    have : (key k).val = k := Nat.mod_eq_of_lt (by omega)
    exact if_neg (fun h => absurd h.2 (by omega))
  refine run_end (n := (i 2).val) ?_ hi' (fun k hk => if_neg (fun h => absurd h.1 (by omega))) (sum_weigh _ _ ⟨256 * (i 2).val + r.val % 256, by omega⟩ ⟨le_rfl, by show _ < 256 * (i 2).val + r.val % 256 + 512; omega⟩)
  unfold windowed
  refine hw 0 (Nat.zero_le _) _ ?_
  by_cases g1 : 1 ≤ (i 2).val
  · rw [if_pos g1]
    have e1 : (i 2).val - (0 : Fin 3).val = (i 2).val - (1 : Fin 3).val + 1 := by show (i 2).val - 0 = (i 2).val - 1 + 1; omega
    rw [e1]
    refine hw 1 g1 _ ?_
    by_cases g2 : 2 ≤ (i 2).val
    · rw [if_pos g2]
      have e2 : (i 2).val - (1 : Fin 3).val = (i 2).val - (2 : Fin 3).val + 1 := by show (i 2).val - 1 = (i 2).val - 2 + 1; omega
      rw [e2]
      refine hw 2 g2 _ (run_start (hz _ rfl))
    · rw [if_neg g2]
      exact run_start (hz _ (by show (i 2).val - 1 = _; omega))
  · rw [if_neg g1]
    exact run_start (hz _ (by show (i 2).val - 0 = _; omega))
end

/-- A row's weighted sum over its sum. -/
def quo (s : St Ideal) (r : Fin 1024) (d : Fin 64) : EReal := Ideal.div (s.2.2 (ix2 r d)) (s.2.1 (ix2 r 0))

/-- The stacked row of a head and a query. -/
def row (h : Fin 4) (q : Fin 256) : Fin 1024 := ⟨256 * h.val + q.val, by omega⟩

/-- The output tile's entry: the three results of its row mixed by the gates. -/
theorem emit_at (s w : St Ideal) (x6 : Vec Ideal S1x1x4x256x64 .f32) (x7 : Vec Ideal S1x256x128 .f32) (h : Fin 4) (q : Fin 256) (d : Fin 64) :
    emit s w x6 x7 (ix5 0 0 h q d) = x7 (ix3 0 q ⟨h.val * 3, by omega⟩) * x6 (ix5 0 0 h q d) + x7 (ix3 0 q ⟨h.val * 3 + 1, by omega⟩) * quo s (row h q) d
      + x7 (ix3 0 q ⟨h.val * 3 + 2, by omega⟩) * quo w (row h q) d := by
  show (if h.val = 0 then _ else if h.val = 1 then _ else if h.val = 2 then _ else _) = _
  have hh := h.isLt
  fin_cases h
  · rw [if_pos rfl]
    pointwise [k0_pay65, k0_pay50, k0_pay63, k0_pay64, head, quo, row]
  · rw [if_neg (by decide), if_pos rfl]
    pointwise [k0_pay67, k0_pay66, k0_pay50, k0_pay63, k0_pay64, head, quo, row]
  · rw [if_neg (by decide), if_neg (by decide), if_pos rfl]
    pointwise [k0_pay68, k0_pay50, k0_pay63, k0_pay64, head, quo, row]
  · rw [if_neg (by decide), if_neg (by decide), if_neg (by decide)]
    pointwise [k0_pay1, k0_pay69, k0_pay50, k0_pay63, k0_pay64, head, quo, row]
end Cert.Kernel4Ideal.Body
-- ==== Proof.SelHost.lean ====
/-
  What the region of the selected and window attention finds in its operands: the padded queries and keys, the biases and the keys'
  block lanes, built from the arguments before it starts, read at an index.
-/
module

public import proofs.«01_k».proof.Proof.SelRows

@[expose] public section

set_option maxRecDepth 65536
set_option maxHeartbeats 4000000
noncomputable section
open Idealize.ShloMosaic Idealize.ShloMosaic.TcCoe Idealize.SL.Sem
open Idealize.ShloMosaic.Pipeline (Dat)
namespace Cert.Kernel4Ideal.Body
open Cert.Kernel4Ideal Cert.Kernel4Ideal.Gen Cert.Row

/-- The queries followed by zero lanes. -/
def padQ (Q : FVec Ideal S8x2x4x4096x64 .bf16) : FVec Ideal S8x2x4x4096x128 .bf16 :=
  concatenate S8x2x4x4096x128 4 [⟨S8x2x4x4096x64, Q⟩, ⟨S8x2x4x4096x64, broadcastInDim S8x2x4x4096x64 ![] bcast_S_S8x2x4x4096x64 (constant S_ .bf16 0x0000#16)⟩]
    concatenates_S8x2x4x4096x64_S8x2x4x4096x64_S8x2x4x4096x128_d4

/-- The window's keys followed by zero lanes. -/
def padK (K : FVec Ideal S8x2x4096x64 .bf16) : FVec Ideal S8x2x4096x128 .bf16 :=
  concatenate S8x2x4096x128 3 [⟨S8x2x4096x64, K⟩, ⟨S8x2x4096x64, broadcastInDim S8x2x4096x64 ![] bcast_S_S8x2x4096x64 (constant S_ .bf16 0x0000#16)⟩]
    concatenates_S8x2x4096x64_S8x2x4096x64_S8x2x4096x128_d3

/-- The biases of the blocks, after zero lanes: zero where the block is kept. -/
def bias (W : IVec S8x2x4096x64 32) (l : FVec Ideal S1 .f32) : FVec Ideal S8x2x4096x128 .bf16 :=
  truncf .bf16 (select (cmpi .ne (concatenate S8x2x4096x128 3 [⟨S8x2x4096x64, broadcastInDim S8x2x4096x64 ![] bcast_S_S8x2x4096x64 (constantI S_ 32 1#32)⟩, ⟨S8x2x4096x64, W⟩]
      concatenates_S8x2x4096x64_S8x2x4096x64_S8x2x4096x128_d3) (broadcastInDim S8x2x4096x128 ![] bcast_S_S8x2x4096x128 (constantI S_ 32 0#32)))
    (broadcastInDim S8x2x4096x128 ![] bcast_S_S8x2x4096x128 (constant (F := Ideal) S_ .f32 0x00000000#32))
    (broadcastInDim S8x2x4096x128 ![3] bcast_S1_S8x2x4096x128_3 l)) bitsLt_bf16_f32

/-- The keys' numbers and the block size, in a column. -/
def nums : IVec S4096x1 32 := broadcastInDim S4096x1 ![0] bcast_S4096_S4096x1_0 (iotaInDim S4096 32 0)
def column (v : IVec S_ 32) : IVec S4096x1 32 := broadcastInDim S4096x1 ![] bcast_S_S4096x1 v

/-- The keys' blocks: their numbers over 64, rounded down. -/
def blocks : IVec S4096x1 32 :=
  let s : IVec S_ 32 := constantI S_ 32 64#32
  select (andi (cmpi .ne (signi nums) (column (signi s))) (cmpi .ne (Host.remsi nums (column s)) (column (constantI S_ 32 0#32))))
    (subi (Host.divsi nums (column s)) (column (constantI S_ 32 1#32))) (Host.divsi nums (column s))

/-- A one in the lane of the key's block. -/
def hot : FVec Ideal S4096x64 .bf16 :=
  uitofp .bf16 (cmpi .eq (broadcastInDim S4096x64 ![0, 1] bcast_S4096x1_S4096x64_0_1 blocks)
    (broadcastInDim S4096x64 ![0, 1] bcast_S1x64_S4096x64_0_1 (broadcastInDim S1x64 ![1] bcast_S64_S1x64_1 (iotaInDim S64 32 0))))

/-- The selected keys followed by their blocks' lanes. -/
def keyed (K : FVec Ideal S8x2x4096x64 .bf16) : FVec Ideal S8x2x4096x128 .bf16 :=
  concatenate S8x2x4096x128 3 [⟨S8x2x4096x64, K⟩, ⟨S8x2x4096x64, broadcastInDim S8x2x4096x64 ![2, 3] bcast_S4096x64_S8x2x4096x64_2_3 hot⟩]
    concatenates_S8x2x4096x64_S8x2x4096x64_S8x2x4096x128_d3

section
variable (m : (ℓ : Loc nD τ sig) → Buf (Elt Ideal) ℓ) (c : Dev nD)

theorem entry_q : V m c main_v1 = padQ (m ((c : Thread nD τ).loc main_arg0)) := by with_unfolding_all rfl
theorem entry_b : V m c main_v7 = bias (m ((c : Thread nD τ).loc main_arg1)) (m ((c : Thread nD τ).loc main_arg8)) := by with_unfolding_all rfl
theorem entry_k : V m c main_v18 = keyed (m ((c : Thread nD τ).loc main_arg2)) := by with_unfolding_all rfl
theorem entry_w : V m c main_v20 = padK (m ((c : Thread nD τ).loc main_arg4)) := by with_unfolding_all rfl
theorem entry_3 : V m c main_arg3 = m ((c : Thread nD τ).loc main_arg3) := by with_unfolding_all rfl
theorem entry_5 : V m c main_arg5 = m ((c : Thread nD τ).loc main_arg5) := by with_unfolding_all rfl
theorem entry_6 : V m c main_arg6 = m ((c : Thread nD τ).loc main_arg6) := by with_unfolding_all rfl
theorem entry_7 : V m c main_arg7 = m ((c : Thread nD τ).loc main_arg7) := by with_unfolding_all rfl
end

section
variable (b : Fin 8) (g : Fin 2) (h : Fin 4) (q k : Fin 4096) (e j : Fin 64)

theorem padQ_lo (Q : FVec Ideal S8x2x4x4096x64 .bf16) : padQ Q (ix5 b g h q (lo e)) = Q (ix5 b g h q e) := by
  pointwise [padQ, lo]

theorem padQ_hi (Q : FVec Ideal S8x2x4x4096x64 .bf16) : padQ Q (ix5 b g h q (hi e)) = 0 := by
  pointwise [padQ, hi]

theorem padK_lo (K : FVec Ideal S8x2x4096x64 .bf16) : padK K (ix4 b g k (lo e)) = K (ix4 b g k e) := by
  pointwise [padK, lo]

theorem bias_lo (W : IVec S8x2x4096x64 32) (l : FVec Ideal S1 .f32) : bias W l (ix4 b g q (lo e)) = 0 := by
  pointwise [bias, lo]
  rfl

theorem bias_hi (W : IVec S8x2x4096x64 32) (l : FVec Ideal S1 .f32) : bias W l (ix4 b g q (hi j)) = if W (ix4 b g q j) ≠ 0#32 then 0 else l (ix1 0) := by
  pointwise [bias, hi]
  by_cases h : W (ix4 b g q j) = 0#32
  · rw [h, if_neg (fun e => e rfl)]; rfl
  · rw [if_pos h]
    have e : IntOp.cmpi .ne (W (ix4 b g q j)) 0#32 = 1#1 := by
      show BitVec.ofBool (W (ix4 b g q j) != 0#32) = 1#1
      rw [bne_iff_ne.mpr h]; rfl
    rw [e]; rfl

theorem blocks_at : blocks (ix2 k 0) = BitVec.ofNat 32 (k.val / 64) := by
  pointwise [blocks, nums, column]
  revert k
  decide +kernel

theorem hot_at : hot (ix2 k j) = if k.val / 64 = j.val then 1 else 0 := by
  pointwise [hot, blocks_at]
  have hk := k.isLt
  have hj := j.isLt
  by_cases h : k.val / 64 = j.val
  · rw [if_pos h, h]
    have e : IntOp.cmpi .eq (BitVec.ofNat 32 j.val) (BitVec.ofNat 32 j.val) = 1#1 := by
      show BitVec.ofBool (BitVec.ofNat 32 j.val == BitVec.ofNat 32 j.val) = 1#1
      rw [beq_self_eq_true]; rfl
    rw [e]
    show (((1#1 : BitVec 1).toNat : ℝ) : EReal) = 1
    simp
  · rw [if_neg h]
    have e : IntOp.cmpi .eq (BitVec.ofNat 32 (k.val / 64)) (BitVec.ofNat 32 j.val) = 0#1 := by
      show BitVec.ofBool (BitVec.ofNat 32 (k.val / 64) == BitVec.ofNat 32 j.val) = 0#1
      rw [beq_eq_false_iff_ne.mpr (fun e => h (by
        have := congrArg BitVec.toNat e
        rw [BitVec.toNat_ofNat, BitVec.toNat_ofNat, Nat.mod_eq_of_lt (by omega), Nat.mod_eq_of_lt (by omega)] at this
        exact this))]; rfl
    rw [e]
    show (((0#1 : BitVec 1).toNat : ℝ) : EReal) = 0
    simp

theorem keyed_lo (K : FVec Ideal S8x2x4096x64 .bf16) : keyed K (ix4 b g k (lo e)) = K (ix4 b g k e) := by
  pointwise [keyed, lo]

theorem keyed_hi (K : FVec Ideal S8x2x4096x64 .bf16) : keyed K (ix4 b g k (hi j)) = if k.val / 64 = j.val then 1 else 0 := by
  rw [← hot_at]
  pointwise [keyed, hi]
end
end Cert.Kernel4Ideal.Body
end
-- ==== Proof.SelRef.lean ====
/-
  The reference's result, stage by stage and read at an index: the masks, the masked scores, their softmax applied to
  the values, and the three results mixed by the gates.
-/
module

public import proofs.«01_k».proof.Proof.Gen.Reference4Ideal.Run
public import proofs.«01_k».proof.Proof.SelRow
public import Idealize.ShloMosaic.Lib.Pointwise
public import Idealize.ShloMosaic.Lib.WordCmp

@[expose] public section

set_option maxRecDepth 65536
noncomputable section
open Idealize.ShloMosaic Idealize.ShloMosaic.TcCoe Idealize.SL.Sem
namespace Cert.Reference4Ideal.Stage
open Cert.Reference4Ideal Cert.Reference4Ideal.Gen Cert.Row

abbrev Qry := FVec Ideal S8x2x4x4096x64 .bf16
abbrev Arr := FVec Ideal S8x2x4096x64 .bf16
abbrev Out := FVec Ideal S8x2x4x4096x64 .f32
abbrev Sco := FVec Ideal S8x2x4x4096x4096 .f32
abbrev Msk := IVec S8x2x4x4096x4096 1

/-- The causal mask. -/
def causal : IVec S4096x4096 1 :=
  cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))

/-- The keys of the kept blocks, up to the query. -/
def chosen (W : IVec S8x2x4096x64 32) : Msk :=
  broadcastInDim S8x2x4x4096x4096 ![0, 1, 2, 3, 4] bcast_S8x2x1x4096x4096_S8x2x4x4096x4096_0_1_2_3_4 (andi (broadcastInDim S8x2x1x4096x4096 ![0, 1, 3, 4] bcast_S8x2x4096x4096_S8x2x1x4096x4096_0_1_3_4 (shapeCast _ (broadcastInDim S8x2x4096x64x64 ![0, 1, 2, 3] bcast_S8x2x4096x64_S8x2x4096x64x64_0_1_2_3 (cmpi .ne W (broadcastInDim S8x2x4096x64 ![] bcast_S_S8x2x4096x64 (constantI S_ 32 0#32)))) shapeCasts_S8x2x4096x64x64_S8x2x4096x4096)) (broadcastInDim S8x2x1x4096x4096 ![0, 1, 2, 3, 4] bcast_S1x1x1x4096x4096_S8x2x1x4096x4096_0_1_2_3_4 (broadcastInDim S1x1x1x4096x4096 ![3, 4] bcast_S4096x4096_S1x1x1x4096x4096_3_4 causal)))

/-- The keys of the window. -/
def near : Msk :=
  broadcastInDim S8x2x4x4096x4096 ![3, 4] bcast_S4096x4096_S8x2x4x4096x4096_3_4 (andi causal (cmpi .sgt (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (subi (broadcastInDim S4096x1 ![0] bcast_S4096_S4096x1_0 (iotaInDim S4096 32 0)) (broadcastInDim S4096x1 ![] bcast_S_S4096x1 (constantI S_ 32 512#32))))))

/-- The masked scores. -/
def scores (M : Msk) (Q : Qry) (K : Arr) : Sco :=
  select M (Host.dotGeneral dot_S8x2x4x4096x64_S8x2x4096x64_S8x2x4x4096x4096_4_3_23_2_01_01 none (extf .f32 Q bitsLt_bf16_f32) (extf .f32 K bitsLt_bf16_f32))
    (broadcastInDim S8x2x4x4096x4096 ![] bcast_S_S8x2x4x4096x4096 (id (constant S_ .f32 0xFF800000#32)))

/-- Their row maxima. -/
def maxima (S : Sco) : FVec Ideal S8x2x4x4096 .f32 :=
  maximumf (broadcastInDim S8x2x4x4096 ![] bcast_S_S8x2x4x4096 (constant S_ .f32 0xFF800000#32)) (Host.reduce FloatOps.maximumf S (constant S_ .f32 0xFF800000#32) reducesTo_S8x2x4x4096x4096_S8x2x4x4096_d4 h_S_)

/-- The exponentials of the scores less their row maxima. -/
def exps (S : Sco) : Sco :=
  Host.exp (subf S (broadcastInDim S8x2x4x4096x4096 ![0, 1, 2, 3, 4] bcast_S8x2x4x4096x1_S8x2x4x4096x4096_0_1_2_3_4 (broadcastInDim S8x2x4x4096x1 ![0, 1, 2, 3] bcast_S8x2x4x4096_S8x2x4x4096x1_0_1_2_3 (maxima S))))

/-- The exponentials over their row sums. -/
def probs (E : Sco) : Sco :=
  Host.divf E (broadcastInDim S8x2x4x4096x4096 ![0, 1, 2, 3, 4] bcast_S8x2x4x4096x1_S8x2x4x4096x4096_0_1_2_3_4 (broadcastInDim S8x2x4x4096x1 ![0, 1, 2, 3] bcast_S8x2x4x4096_S8x2x4x4096x1_0_1_2_3 (Host.reduceAdd E (constant S_ .f32 0x00000000#32) reducesTo_S8x2x4x4096x4096_S8x2x4x4096_d4 h_S_)))

/-- The softmax applied to the values. -/
def mixed (P : Sco) (V : Arr) : Out :=
  Host.dotGeneral dot_S8x2x4x4096x4096_S8x2x4096x64_S8x2x4x4096x64_4_2_23_3_01_01 none P (extf .f32 V bitsLt_bf16_f32)

/-- Masked attention. -/
def attend (M : Msk) (Q : Qry) (K V : Arr) : Out := mixed (probs (exps (scores M Q K))) V

/-- The gates of the heads, three each. -/
def gates (G : FVec Ideal S8x4096x256 .f32) : FVec Ideal S8x2x4x4096x3 .f32 :=
  transpose S8x2x4x4096x3 [0, 2, 3, 1, 4] (shapeCast _ (extractStridedSlice S8x4096x2x12 ![0, 0, 0, 0] (shapeCast _ G shapeCasts_S8x4096x256_S8x4096x2x128) slices_S8x4096x2x128_S8x4096x2x12_0_0_0_0) shapeCasts_S8x4096x2x12_S8x4096x2x4x3) transposes_S8x4096x2x4x3_S8x2x4x4096x3_0_2_3_1_4

/-- The three results mixed by the gates. -/
def output (T : FVec Ideal S8x2x4x4096x3 .f32) (C S W : Out) : FVec Ideal S8x2x4x4096x64 .bf16 :=
  truncf .bf16 (addf (addf (mulf (broadcastInDim S8x2x4x4096x64 ![0, 1, 2, 3, 4] bcast_S8x2x4x4096x1_S8x2x4x4096x64_0_1_2_3_4 (extractStridedSlice S8x2x4x4096x1 ![0, 0, 0, 0, 0] T slices_S8x2x4x4096x3_S8x2x4x4096x1_0_0_0_0_0)) C)
    (mulf (broadcastInDim S8x2x4x4096x64 ![0, 1, 2, 3, 4] bcast_S8x2x4x4096x1_S8x2x4x4096x64_0_1_2_3_4 (extractStridedSlice S8x2x4x4096x1 ![0, 0, 0, 0, 1] T slices_S8x2x4x4096x3_S8x2x4x4096x1_0_0_0_0_1)) S))
    (mulf (broadcastInDim S8x2x4x4096x64 ![0, 1, 2, 3, 4] bcast_S8x2x4x4096x1_S8x2x4x4096x64_0_1_2_3_4 (extractStridedSlice S8x2x4x4096x1 ![0, 0, 0, 0, 2] T slices_S8x2x4x4096x3_S8x2x4x4096x1_0_0_0_0_2)) W)) bitsLt_bf16_f32

/-- The whole reference. -/
def result (Q : Qry) (W : IVec S8x2x4096x64 32) (Ks Vs Kw Vw : Arr) (C : Out) (G : FVec Ideal S8x4096x256 .f32) : FVec Ideal S8x2x4x4096x64 .bf16 :=
  output (gates G) C (attend (chosen W) Q Ks Vs) (attend near Q Kw Vw)

theorem result_eq (m : (ℓ : Loc nD τ sig) → Buf (Elt Ideal) ℓ) (c : Dev nD) :
    Cert.Reference4Ideal.Value.res_main_v70 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := rfl

/-- A maximum over the last of five axes. -/
theorem reduce_last {n0 n1 n2 n3 n4 : ℕ} (S : FVec Ideal ⟨5, ![n0, n1, n2, n3, n4]⟩ .f32) (v : FVec Ideal S_ .f32) (hu : 0 < S_.numel)
    (h : (⟨5, ![n0, n1, n2, n3, n4]⟩ : Shape).ReducesTo [4] ⟨4, ![n0, n1, n2, n3]⟩) (a : Fin n0) (b : Fin n1) (c : Fin n2) (d : Fin n3) :
    Host.reduce FloatOps.maximumf S v h hu (ix4 a b c d) = Finset.univ.fold max (v (Shape.Idx.first hu)) fun k => S (ix5 a b c d k) := by
  pointwise

theorem max_pair {s : Shape} (x y : FVec Ideal s .f32) (i : s.Idx) : maximumf x y i = max (x i) (y i) := rfl

section
variable (b : Fin 8) (g : Fin 2) (h : Fin 4) (q k : Fin 4096) (d : Fin 64)

theorem bits {p p' : Prop} [Decidable p] [Decidable p'] : IntOp.andi (if p then 1#1 else 0#1) (if p' then 1#1 else 0#1) = if p ∧ p' then 1#1 else 0#1 := by
  by_cases h : p <;> by_cases h' : p' <;> simp [h, h'] <;> rfl

theorem causal_at : causal (ix2 q k) = if k.val ≤ q.val then 1#1 else 0#1 := by
  pointwise [causal]
  word_cmp
  by_cases h : k.val ≤ q.val <;> simp [h]

theorem near_at : near (ix5 b g h q k) = if k.val ≤ q.val ∧ q.val < k.val + 512 then 1#1 else 0#1 := by
  rw [← bits, ← causal_at, ← after_word q.val k.val q.isLt k.isLt]
  pointwise [near]

theorem ne_word (w : BitVec 32) : IntOp.cmpi .ne w 0#32 = if w ≠ 0#32 then 1#1 else 0#1 := by
  by_cases h : w = 0#32
  · subst h; rfl
  · rw [if_pos h]
    show BitVec.ofBool (w != 0#32) = 1#1
    rw [bne_iff_ne.mpr h]; rfl

theorem chosen_at (W : IVec S8x2x4096x64 32) : chosen W (ix5 b g h q k)
    = if W (ix4 b g q ⟨k.val / 64, by omega⟩) ≠ 0#32 ∧ k.val ≤ q.val then 1#1 else 0#1 := by
  rw [← bits, ← causal_at, ← ne_word]
  pointwise [chosen]

theorem scores_at (M : Msk) (Q : Qry) (K : Arr) (p : Prop) [Decidable p] (hp : M (ix5 b g h q k) = if p then 1#1 else 0#1) :
    scores M Q K (ix5 b g h q k) = if p then ∑ e : Fin 64, Q (ix5 b g h q e) * K (ix4 b g k e) else ⊥ := by
  pointwise [scores, hp]
  simp only [id]
  pointwise [negInf]
  by_cases hh : p
  · simp only [hh, if_true]; rfl
  · simp only [hh, if_false]; rfl

theorem maxima_at (S : Sco) : maxima S (ix4 b g h q) = max ⊥ (Finset.univ.fold max ⊥ fun k => S (ix5 b g h q k)) := by
  unfold maxima
  rw [max_pair, reduce_last S (constant S_ .f32 0xFF800000#32) h_S_ reducesTo_S8x2x4x4096x4096_S8x2x4x4096_d4 b g h q]
  pointwise [negInf]

theorem exps_at (S : Sco) : exps S (ix5 b g h q k) = Ideal.exp (S (ix5 b g h q k) - maxima S (ix4 b g h q)) := by
  pointwise [exps]

theorem probs_at (E : Sco) : probs E (ix5 b g h q k) = Ideal.div (E (ix5 b g h q k)) (∑ k, E (ix5 b g h q k)) := by
  pointwise [probs]

theorem mixed_at (P : Sco) (V : Arr) : mixed P V (ix5 b g h q d) = ∑ k, P (ix5 b g h q k) * V (ix4 b g k d) := by
  pointwise [mixed]

theorem gates_at (G : FVec Ideal S8x4096x256 .f32) (j : Fin 3) :
    gates G (ix5 b g h q j) = G (ix3 b q ⟨g.val * 128 + (h.val * 3 + j.val), by omega⟩) := by
  pointwise [gates]

theorem output_at (T : FVec Ideal S8x2x4x4096x3 .f32) (C S W : Out) : output T C S W (ix5 b g h q d)
    = T (ix5 b g h q 0) * C (ix5 b g h q d) + T (ix5 b g h q 1) * S (ix5 b g h q d) + T (ix5 b g h q 2) * W (ix5 b g h q d) := by
  pointwise [output]
end

section
variable {Q : Qry} {K V : Arr} {X : S8x2x4x4096x64.Idx → ℝ} {Y Z : S8x2x4096x64.Idx → ℝ}

/-- Masked attention of numbers, a key of each query being unmasked, is the mean of the values by the weights. -/
theorem attend_num (hQ : ∀ y, Q y = (X y : EReal)) (hK : ∀ y, K y = (Y y : EReal)) (hV : ∀ y, V y = (Z y : EReal))
    (M : Msk) (b : Fin 8) (g : Fin 2) (h : Fin 4) (q : Fin 4096) (d : Fin 64) (p : Fin 4096 → Prop) [DecidablePred p]
    (hp : ∀ k, M (ix5 b g h q k) = if p k then 1#1 else 0#1) (k0 : Fin 4096) (h0 : p k0) :
    attend M Q K V (ix5 b g h q d)
      = (mean (fun k => weigh (p k) (∑ e : Fin 64, X (ix5 b g h q e) * Y (ix4 b g k e))) (fun k => Z (ix4 b g k d)) : EReal) := by
  have hs : ∀ k, scores M Q K (ix5 b g h q k) = if p k then ((∑ e : Fin 64, X (ix5 b g h q e) * Y (ix4 b g k e) : ℝ) : EReal) else ⊥ := fun k => by
    rw [scores_at b g h q k M Q K (p k) (hp k), ← coe_sum]
    simp only [hQ, hK, EReal.coe_mul]
  have hw := fun k => (hs k) ▸ weigh_score (p k) (∑ e : Fin 64, X (ix5 b g h q e) * Y (ix4 b g k e))
  obtain ⟨m, hm⟩ := max_num Finset.univ ⊥ bot_ne_top (fun k => scores M Q K (ix5 b g h q k)) _ hw
    ⟨k0, Finset.mem_univ _, by rw [hs, if_pos h0]; exact EReal.coe_ne_bot _⟩
  have he : ∀ k, exps (scores M Q K) (ix5 b g h q k)
      = ((Real.exp (-m) * weigh (p k) (∑ e : Fin 64, X (ix5 b g h q e) * Y (ix4 b g k e)) : ℝ) : EReal) := fun k => by
    rw [exps_at, maxima_at, hm]; exact exp_less (hw k) m
  have hpr : ∀ k, probs (exps (scores M Q K)) (ix5 b g h q k)
      = ((weigh (p k) (∑ e : Fin 64, X (ix5 b g h q e) * Y (ix4 b g k e)) / ∑ j, weigh (p j) (∑ e : Fin 64, X (ix5 b g h q e) * Y (ix4 b g j e)) : ℝ) : EReal) := fun k => by
    rw [probs_at, he, Finset.sum_congr rfl fun j _ => he j, coe_sum, ← Finset.mul_sum]
    exact div_num _ _ _ (sum_weigh p _ k0 h0)
  rw [attend, mixed_at]
  simp only [hpr, hV, ← EReal.coe_mul, coe_sum]
  refine congrArg _ ?_
  rw [mean, Finset.sum_div]
  exact Finset.sum_congr rfl fun k _ => by ring
end
end Cert.Reference4Ideal.Stage
-- ==== Proof.SelOutA.lean ====
/-
  The output tile of the first tile of queries as a function of the input blocks.
-/
module

public import proofs.«01_k».proof.Proof.SelBody

@[expose] public section

set_option maxRecDepth 65536
set_option maxHeartbeats 3000000
noncomputable section
open Idealize.ShloMosaic Idealize.ShloMosaic.TcCoe Idealize.SL.Sem
open Idealize.ShloMosaic.Pipeline (Dat)
namespace Cert.Kernel4Ideal.Body
open Cert.Kernel4Ideal Cert.Kernel4Ideal.Gen
variable {F : FTy → Type} [FloatOps F] [Named F]

section
variable (c : Dev nD) (i : grid0.Coords)
  (arg3 : Memref sig .tc .vmem S1x1x4x256x128 .bf16) (harg3 : arg3.IsWhole)
  (arg4 : Memref sig .tc .vmem S1x1x256x128 .bf16) (harg4 : arg4.IsWhole)
  (arg5 : Memref sig .tc .vmem S1x1x4096x128 .bf16) (harg5 : arg5.IsWhole)
  (arg6 : Memref sig .tc .vmem S1x1x4096x64 .bf16) (harg6 : arg6.IsWhole)
  (arg7 : Memref sig .tc .vmem S1x1x4096x128 .bf16) (harg7 : arg7.IsWhole)
  (arg8 : Memref sig .tc .vmem S1x1x4096x64 .bf16) (harg8 : arg8.IsWhole)
  (arg9 : Memref sig .tc .vmem S1x1x4x256x64 .f32) (harg9 : arg9.IsWhole)
  (arg10 : Memref sig .tc .vmem S1x256x128 .f32) (harg10 : arg10.IsWhole)
  (arg11 : Memref sig .tc .vmem S1x1x4x256x64 .bf16) (harg11 : arg11.IsWhole)
  (arg12 : Memref sig .tc .vmem S1024x1 .f32) (harg12 : arg12.IsWhole)
  (arg13 : Memref sig .tc .vmem S1024x1 .f32) (harg13 : arg13.IsWhole)
  (arg14 : Memref sig .tc .vmem S1024x64 .f32) (harg14 : arg14.IsWhole)
/-- The output tile a grid point leaves, in the first tile of queries. -/
theorem out_eq_A (hc0 : ¬ cond0_0 i) (hc1 : ¬ cond0_1 i) (hc2 : cond0_2 i)
    (x0 : Vec F S1x1x4x256x128 .bf16) (x1 : Vec F S1x1x256x128 .bf16) (x2 : Vec F S1x1x4096x128 .bf16) (x3 : Vec F S1x1x4096x64 .bf16)
    (x4 : Vec F S1x1x4096x128 .bf16) (x5 : Vec F S1x1x4096x64 .bf16) (x6 : Vec F S1x1x4x256x64 .f32) (x7 : Vec F S1x256x128 .f32) :
    out0_A_8 c i arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7
      = emit (selected (i 2).val (k0_pay34 i) (k0_pay33 x0 x1) x2 x3) (windowed (i 2).val (k0_pay34 i) (k0_pay32 x0) x4 x5) x6 x7 := by
  have hi : (i 2).val < 16 := (i 2).isLt
  have h1 : ¬ 1 ≤ (i 2).val := fun h => hc1 ((cond_one i).mpr h)
  have hL := loop_reads c i arg3 harg3 arg4 harg4 arg5 harg5 arg6 harg6 arg7 harg7 arg8 harg8 arg9 harg9 arg10 harg10 arg11 harg11 arg12 harg12 arg13 harg13 arg14 harg14 Variants.none none (BitVec.ofNat 32 (i 2).val) (k0_pay33 x0 x1) cols (k0_pay34 i) (0#32)
    (Scalar.addi 0#32 (Scalar.muli (Scalar.divsi (Scalar.subi (BitVec.ofNat 32 (i 2).val) 0#32) 1#32) 1#32)) (harg5.unread x2) (harg6.unread x3) _ _ _ (Prod.ext (over_a arg12.view arg12.view.junk inb_S1024x1_S1024x1_0_0 k0_pay35 [])
    (Prod.ext (over_a arg13.view arg13.view.junk inb_S1024x1_S1024x1_0_0 k0_pay36 [])
      (over_b arg14.view arg14.view.junk inb_S1024x64_S1024x64_0_0 k0_pay37 [])))
    (Scf.trips (k0_t1_loop i).lb (k0_t1_loop i).ub (k0_t1_loop i).st) le_rfl
  simp only [Memref.IsWhole.read_unread] at hL
  unfold windowed
  rw [if_neg h1]
  frame_open
  rw [trips_two i]
  unfold pb_k0_t2
  dsimp only [List.nil_append]
  unfold View.readCov
  simp only [View.writes_append, whole_a, whole_b, whole_c, whole_d, whole_e, over_a, over_b, Memref.IsWhole.read_unread]
  simp only [tile_of_load _ _ _ hi (k0_off5_eq i), vtile_of_load _ _ _ hi (k0_off6_eq i), tile_of_load _ _ _ hi (k0_off11_eq i), vtile_of_load _ _ _ hi (k0_off12_eq i), head_0, head_1, head_2, head_3, Memref.IsWhole.read_unread]
  funext y
  rw [emit_reads]
  refine Eq.trans ?_ (congrArg (fun s : St F => emit (last (BitVec.ofNat 32 (i 2).val) (k0_pay34 i) (k0_pay33 x0 x1) (tile x2 (i 2).val) (vtile x3 (i 2).val) s) _ x6 x7 y)
    (hL.trans (congrArg (states (k0_pay33 x0 x1) x2 x3) (trips_one i))))
  simp only [copy_14, copy_15, copy_16, copy_17, copy_18, copy_19, copy_54, copy_55, copy_56, copy_20, copy_21, copy_22, copy_23, copy_24, copy_25, copy_57, copy_58, copy_59, copy_51, copy_52, copy_53]
  simp only [emit, last, wtile, win, start]
  rfl
end
end Cert.Kernel4Ideal.Body
-- ==== Proof.SelOutB.lean ====
/-
  The output tile of the second tile of queries as a function of the input blocks.
-/
module

public import proofs.«01_k».proof.Proof.SelBody

@[expose] public section

set_option maxRecDepth 65536
set_option maxHeartbeats 3000000
noncomputable section
open Idealize.ShloMosaic Idealize.ShloMosaic.TcCoe Idealize.SL.Sem
open Idealize.ShloMosaic.Pipeline (Dat)
namespace Cert.Kernel4Ideal.Body
open Cert.Kernel4Ideal Cert.Kernel4Ideal.Gen
variable {F : FTy → Type} [FloatOps F] [Named F]

section
variable (c : Dev nD) (i : grid0.Coords)
  (arg3 : Memref sig .tc .vmem S1x1x4x256x128 .bf16) (harg3 : arg3.IsWhole)
  (arg4 : Memref sig .tc .vmem S1x1x256x128 .bf16) (harg4 : arg4.IsWhole)
  (arg5 : Memref sig .tc .vmem S1x1x4096x128 .bf16) (harg5 : arg5.IsWhole)
  (arg6 : Memref sig .tc .vmem S1x1x4096x64 .bf16) (harg6 : arg6.IsWhole)
  (arg7 : Memref sig .tc .vmem S1x1x4096x128 .bf16) (harg7 : arg7.IsWhole)
  (arg8 : Memref sig .tc .vmem S1x1x4096x64 .bf16) (harg8 : arg8.IsWhole)
  (arg9 : Memref sig .tc .vmem S1x1x4x256x64 .f32) (harg9 : arg9.IsWhole)
  (arg10 : Memref sig .tc .vmem S1x256x128 .f32) (harg10 : arg10.IsWhole)
  (arg11 : Memref sig .tc .vmem S1x1x4x256x64 .bf16) (harg11 : arg11.IsWhole)
  (arg12 : Memref sig .tc .vmem S1024x1 .f32) (harg12 : arg12.IsWhole)
  (arg13 : Memref sig .tc .vmem S1024x1 .f32) (harg13 : arg13.IsWhole)
  (arg14 : Memref sig .tc .vmem S1024x64 .f32) (harg14 : arg14.IsWhole)
/-- The output tile a grid point leaves, in the second tile of queries. -/
theorem out_eq_B (hc0 : ¬ cond0_0 i) (hc1 : cond0_1 i) (hc2 : cond0_2 i)
    (x0 : Vec F S1x1x4x256x128 .bf16) (x1 : Vec F S1x1x256x128 .bf16) (x2 : Vec F S1x1x4096x128 .bf16) (x3 : Vec F S1x1x4096x64 .bf16)
    (x4 : Vec F S1x1x4096x128 .bf16) (x5 : Vec F S1x1x4096x64 .bf16) (x6 : Vec F S1x1x4x256x64 .f32) (x7 : Vec F S1x256x128 .f32) :
    out0_B_8 c i arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7
      = emit (selected (i 2).val (k0_pay34 i) (k0_pay33 x0 x1) x2 x3) (windowed (i 2).val (k0_pay34 i) (k0_pay32 x0) x4 x5) x6 x7 := by
  have hi : (i 2).val < 16 := (i 2).isLt
  have h2 : ¬ 2 ≤ (i 2).val := fun h => hc0 ((cond_two i).mpr h)
  have h1 : 1 ≤ (i 2).val := (cond_one i).mp hc1
  have hi1 : (i 2).val - 1 < 16 := by omega
  have hL := loop_reads c i arg3 harg3 arg4 harg4 arg5 harg5 arg6 harg6 arg7 harg7 arg8 harg8 arg9 harg9 arg10 harg10 arg11 harg11 arg12 harg12 arg13 harg13 arg14 harg14 Variants.none none (BitVec.ofNat 32 (i 2).val) (k0_pay33 x0 x1) cols (k0_pay34 i) (0#32)
    (Scalar.addi 0#32 (Scalar.muli (Scalar.divsi (Scalar.subi (BitVec.ofNat 32 (i 2).val) 0#32) 1#32) 1#32)) (harg5.unread x2) (harg6.unread x3) _ _ _ (Prod.ext (over_a arg12.view arg12.view.junk inb_S1024x1_S1024x1_0_0 k0_pay35 [])
    (Prod.ext (over_a arg13.view arg13.view.junk inb_S1024x1_S1024x1_0_0 k0_pay36 [])
      (over_b arg14.view arg14.view.junk inb_S1024x64_S1024x64_0_0 k0_pay37 [])))
    (Scf.trips (k0_t1_loop i).lb (k0_t1_loop i).ub (k0_t1_loop i).st) le_rfl
  simp only [Memref.IsWhole.read_unread] at hL
  unfold windowed
  rw [if_pos h1, if_neg h2]
  frame_open
  rw [trips_two i]
  unfold pb_k0_t2
  dsimp only [List.nil_append]
  unfold View.readCov
  simp only [View.writes_append, whole_a, whole_b, whole_c, whole_d, whole_e, over_a, over_b, Memref.IsWhole.read_unread]
  simp only [tile_of_load _ _ _ hi (k0_off5_eq i), vtile_of_load _ _ _ hi (k0_off6_eq i), tile_of_load _ _ _ hi (k0_off11_eq i), vtile_of_load _ _ _ hi (k0_off12_eq i), tile_of_load _ _ _ hi1 (off_one i h1), vtile_of_load _ _ _ hi1 (off_one' i h1), head_0, head_1, head_2, head_3, Memref.IsWhole.read_unread]
  funext y
  rw [emit_reads]
  refine Eq.trans ?_ (congrArg (fun s : St F => emit (last (BitVec.ofNat 32 (i 2).val) (k0_pay34 i) (k0_pay33 x0 x1) (tile x2 (i 2).val) (vtile x3 (i 2).val) s) _ x6 x7 y)
    (hL.trans (congrArg (states (k0_pay33 x0 x1) x2 x3) (trips_one i))))
  simp only [copy_14, copy_15, copy_16, copy_17, copy_18, copy_19, copy_54, copy_55, copy_56, copy_20, copy_21, copy_22, copy_23, copy_24, copy_25, copy_57, copy_58, copy_59, copy_51, copy_52, copy_53]
  simp only [emit, last, wtile, win, start]
  rfl
end
end Cert.Kernel4Ideal.Body
-- ==== Proof.SelOutC.lean ====
/-
  The output tile of the later tiles of queries as a function of the input blocks.
-/
module

public import proofs.«01_k».proof.Proof.SelBody

@[expose] public section

set_option maxRecDepth 65536
set_option maxHeartbeats 3000000
noncomputable section
open Idealize.ShloMosaic Idealize.ShloMosaic.TcCoe Idealize.SL.Sem
open Idealize.ShloMosaic.Pipeline (Dat)
namespace Cert.Kernel4Ideal.Body
open Cert.Kernel4Ideal Cert.Kernel4Ideal.Gen
variable {F : FTy → Type} [FloatOps F] [Named F]

section
variable (c : Dev nD) (i : grid0.Coords)
  (arg3 : Memref sig .tc .vmem S1x1x4x256x128 .bf16) (harg3 : arg3.IsWhole)
  (arg4 : Memref sig .tc .vmem S1x1x256x128 .bf16) (harg4 : arg4.IsWhole)
  (arg5 : Memref sig .tc .vmem S1x1x4096x128 .bf16) (harg5 : arg5.IsWhole)
  (arg6 : Memref sig .tc .vmem S1x1x4096x64 .bf16) (harg6 : arg6.IsWhole)
  (arg7 : Memref sig .tc .vmem S1x1x4096x128 .bf16) (harg7 : arg7.IsWhole)
  (arg8 : Memref sig .tc .vmem S1x1x4096x64 .bf16) (harg8 : arg8.IsWhole)
  (arg9 : Memref sig .tc .vmem S1x1x4x256x64 .f32) (harg9 : arg9.IsWhole)
  (arg10 : Memref sig .tc .vmem S1x256x128 .f32) (harg10 : arg10.IsWhole)
  (arg11 : Memref sig .tc .vmem S1x1x4x256x64 .bf16) (harg11 : arg11.IsWhole)
  (arg12 : Memref sig .tc .vmem S1024x1 .f32) (harg12 : arg12.IsWhole)
  (arg13 : Memref sig .tc .vmem S1024x1 .f32) (harg13 : arg13.IsWhole)
  (arg14 : Memref sig .tc .vmem S1024x64 .f32) (harg14 : arg14.IsWhole)
/-- The output tile a grid point leaves, in the later tiles of queries. -/
theorem out_eq_C (hc0 : cond0_0 i) (hc1 : cond0_1 i) (hc2 : cond0_2 i)
    (x0 : Vec F S1x1x4x256x128 .bf16) (x1 : Vec F S1x1x256x128 .bf16) (x2 : Vec F S1x1x4096x128 .bf16) (x3 : Vec F S1x1x4096x64 .bf16)
    (x4 : Vec F S1x1x4096x128 .bf16) (x5 : Vec F S1x1x4096x64 .bf16) (x6 : Vec F S1x1x4x256x64 .f32) (x7 : Vec F S1x256x128 .f32) :
    out0_C_8 c i arg3 harg3 arg4 harg4 arg5 harg5 arg6 harg6 arg7 harg7 arg8 harg8 arg9 harg9 arg10 harg10 arg11 harg11 arg12 harg12 arg13 harg13 arg14 harg14 hc0 hc1 hc2 x0 x1 x2 x3 x4 x5 x6 x7
      = emit (selected (i 2).val (k0_pay34 i) (k0_pay33 x0 x1) x2 x3) (windowed (i 2).val (k0_pay34 i) (k0_pay32 x0) x4 x5) x6 x7 := by
  have hi : (i 2).val < 16 := (i 2).isLt
  have h2 : 2 ≤ (i 2).val := (cond_two i).mp hc0
  have h1 : 1 ≤ (i 2).val := (cond_one i).mp hc1
  have hi1 : (i 2).val - 1 < 16 := by omega
  have hi2 : (i 2).val - 2 < 16 := by omega
  have hL := loop_reads c i arg3 harg3 arg4 harg4 arg5 harg5 arg6 harg6 arg7 harg7 arg8 harg8 arg9 harg9 arg10 harg10 arg11 harg11 arg12 harg12 arg13 harg13 arg14 harg14 Variants.none none (BitVec.ofNat 32 (i 2).val) (k0_pay33 x0 x1) cols (k0_pay34 i) (0#32)
    (Scalar.addi 0#32 (Scalar.muli (Scalar.divsi (Scalar.subi (BitVec.ofNat 32 (i 2).val) 0#32) 1#32) 1#32)) (harg5.unread x2) (harg6.unread x3) _ _ _ (Prod.ext (over_a arg12.view arg12.view.junk inb_S1024x1_S1024x1_0_0 k0_pay35 [])
    (Prod.ext (over_a arg13.view arg13.view.junk inb_S1024x1_S1024x1_0_0 k0_pay36 [])
      (over_b arg14.view arg14.view.junk inb_S1024x64_S1024x64_0_0 k0_pay37 [])))
    (Scf.trips (k0_t1_loop i).lb (k0_t1_loop i).ub (k0_t1_loop i).st) le_rfl
  simp only [Memref.IsWhole.read_unread] at hL
  unfold windowed
  rw [if_pos h1, if_pos h2]
  frame_open
  rw [trips_two i]
  unfold pb_k0_t2
  dsimp only [List.nil_append]
  unfold View.readCov
  simp only [View.writes_append, whole_a, whole_b, whole_c, whole_d, whole_e, over_a, over_b, Memref.IsWhole.read_unread]
  simp only [tile_of_load _ _ _ hi (k0_off5_eq i), vtile_of_load _ _ _ hi (k0_off6_eq i), tile_of_load _ _ _ hi (k0_off11_eq i), vtile_of_load _ _ _ hi (k0_off12_eq i), tile_of_load _ _ _ hi1 (off_one i h1), vtile_of_load _ _ _ hi1 (off_one' i h1), tile_of_load _ _ _ hi2 (off_two i h2), vtile_of_load _ _ _ hi2 (off_two' i h2), head_0, head_1, head_2, head_3, Memref.IsWhole.read_unread]
  funext y
  rw [emit_reads]
  refine Eq.trans ?_ (congrArg (fun s : St F => emit (last (BitVec.ofNat 32 (i 2).val) (k0_pay34 i) (k0_pay33 x0 x1) (tile x2 (i 2).val) (vtile x3 (i 2).val) s) _ x6 x7 y)
    (hL.trans (congrArg (states (k0_pay33 x0 x1) x2 x3) (trips_one i))))
  simp only [copy_14, copy_15, copy_16, copy_17, copy_18, copy_19, copy_54, copy_55, copy_56, copy_20, copy_21, copy_22, copy_23, copy_24, copy_25, copy_57, copy_58, copy_59, copy_51, copy_52, copy_53]
  simp only [emit, last, wtile, win, start]
  rfl
end
end Cert.Kernel4Ideal.Body
-- ==== Proof.SelValue.lean ====
/-
  The result array of the idealized selected and window attention is the reference's result of the same arrays.
-/
module

public import proofs.«01_k».proof.Proof.SelHost
public import proofs.«01_k».proof.Proof.SelRef
public import proofs.«01_k».proof.Proof.SelOutA
public import proofs.«01_k».proof.Proof.SelOutB
public import proofs.«01_k».proof.Proof.SelOutC
public import proofs.«01_k».proof.Proof.Gen.Kernel4Ideal.Value
public import Idealize.ShloMosaic.Lib.Pipeline.ValueKit

@[expose] public section

set_option maxRecDepth 65536
set_option maxHeartbeats 1000000
noncomputable section
open Idealize.ShloMosaic Idealize.ShloMosaic.TcCoe Idealize.SL.Sem
open Idealize.ShloMosaic.Pipeline (Dat)
namespace Cert.Kernel4Ideal.Body
open Cert.Kernel4Ideal Cert.Kernel4Ideal.Gen Cert.Row
open Cert.Reference4Ideal.Stage (result output gates chosen near attend output_at gates_at chosen_at near_at attend_num)

/-- The position of query `q` of tile `n`. -/
def pos (n : Fin 16) (q : Fin 256) : Fin 4096 := ⟨256 * n.val + q.val, by omega⟩

/-- The lane of the gates at lane `l` of group `g`. -/
def gl (g : Fin 2) (l : Fin 128) : Fin 256 := ⟨g.val * 128 + l.val, by omega⟩

section
variable {X : S8x2x4x4096x64.Idx → ℝ} {Y Z Y' Z' : S8x2x4096x64.Idx → ℝ} {Q : FVec Ideal S8x2x4x4096x64 .bf16} {K V K' V' : FVec Ideal S8x2x4096x64 .bf16}
  {W : IVec S8x2x4096x64 32} {C : FVec Ideal S8x2x4x4096x64 .f32} {G : FVec Ideal S8x4096x256 .f32} {l : FVec Ideal S1 .f32}

/-- What the kernel stores at head `h`, query `q`, lane `d` of a tile is the reference's result at the entry the tile is placed at. -/
theorem point (hQ : ∀ y, Q y = (X y : EReal)) (hK : ∀ y, K y = (Y y : EReal)) (hV : ∀ y, V y = (Z y : EReal))
    (hK' : ∀ y, K' y = (Y' y : EReal)) (hV' : ∀ y, V' y = (Z' y : EReal)) (hW : ∀ b g q, W (ix4 b g q 0) ≠ 0#32) (hl : l (ix1 0) = ⊥)
    (x0 : Vec Ideal S1x1x4x256x128 .bf16) (x1 : Vec Ideal S1x1x256x128 .bf16) (x2 x4 : Vec Ideal S1x1x4096x128 .bf16)
    (x3 x5 : Vec Ideal S1x1x4096x64 .bf16) (x6 : Vec Ideal S1x1x4x256x64 .f32) (x7 : Vec Ideal S1x256x128 .f32) (i : grid0.Coords) (b : Fin 8) (g : Fin 2)
    (h0 : ∀ h q e, x0 (ix5 0 0 h q e) = padQ Q (ix5 b g h (pos (i 2) q) e)) (h1 : ∀ q e, x1 (ix4 0 0 q e) = bias W l (ix4 b g (pos (i 2) q) e))
    (h2 : ∀ k e, x2 (ix4 0 0 k e) = keyed K (ix4 b g k e)) (h3 : ∀ k e, x3 (ix4 0 0 k e) = V (ix4 b g k e))
    (h4 : ∀ k e, x4 (ix4 0 0 k e) = padK K' (ix4 b g k e)) (h5 : ∀ k e, x5 (ix4 0 0 k e) = V' (ix4 b g k e))
    (h6 : ∀ h q e, x6 (ix5 0 0 h q e) = C (ix5 b g h (pos (i 2) q) e)) (h7 : ∀ q e, x7 (ix3 0 q e) = G (ix3 b (pos (i 2) q) (gl g e)))
    (h : Fin 4) (q : Fin 256) (d : Fin 64) :
    emit (selected (i 2).val (k0_pay34 i) (k0_pay33 x0 x1) x2 x3) (windowed (i 2).val (k0_pay34 i) (k0_pay32 x0) x4 x5) x6 x7 (ix5 0 0 h q d)
      = result Q W K V K' V' C G (ix5 b g h (pos (i 2) q) d) := by
  have r1 : hd (row h q) = h := Fin.ext (by show (256 * h.val + q.val) / 256 = _; omega)
  have r2 : qr (row h q) = q := Fin.ext (by show (256 * h.val + q.val) % 256 = _; omega)
  have r3 : (row h q).val % 256 = q.val := by show (256 * h.val + q.val) % 256 = _; omega
  have a0 : ∀ h q e, x0 (ix5 0 0 h q (lo e)) = (X (ix5 b g h (pos (i 2) q) e) : EReal) := fun h q e => by rw [h0, padQ_lo, hQ]
  have a0' : ∀ h q e, x0 (ix5 0 0 h q (hi e)) = 0 := fun h q e => by rw [h0, padQ_hi]
  have a1 : ∀ q e, x1 (ix4 0 0 q (lo e)) = 0 := fun q e => by rw [h1, bias_lo]
  have a1' : ∀ q j, x1 (ix4 0 0 q (hi j)) = if W (ix4 b g (pos (i 2) q) j) ≠ 0#32 then 0 else ⊥ := fun q j => by rw [h1, bias_hi, hl]
  have a2 : ∀ k e, x2 (ix4 0 0 k (lo e)) = (Y (ix4 b g k e) : EReal) := fun k e => by rw [h2, keyed_lo, hK]
  have a2' : ∀ (k : Fin 4096) (j : Fin 64), x2 (ix4 0 0 k (hi j)) = if k.val / 64 = j.val then 1 else 0 := fun k j => by rw [h2, keyed_hi]
  have a3 : ∀ k d, x3 (ix4 0 0 k d) = (Z (ix4 b g k d) : EReal) := fun k d => by rw [h3, hV]
  have a4 : ∀ k e, x4 (ix4 0 0 k (lo e)) = (Y' (ix4 b g k e) : EReal) := fun k e => by rw [h4, padK_lo, hK']
  have a5 : ∀ k d, x5 (ix4 0 0 k d) = (Z' (ix4 b g k d) : EReal) := fun k d => by rw [h5, hV']
  have es := selected_at (P := fun q j => W (ix4 b g (pos (i 2) q) j) ≠ 0#32) a0 a0' a1 a1' a2 a2' a3 i (row h q) d (hW _ _ _)
  have ew := windowed_at a0 a0' a4 a5 i (row h q) d
  rw [r1, r2, r3] at es
  rw [r1, r2, r3] at ew
  have ts := attend_num hQ hK hV (chosen W) b g h (pos (i 2) q) d (fun k => W (ix4 b g (pos (i 2) q) (blk k)) ≠ 0#32 ∧ k.val ≤ 256 * (i 2).val + q.val)
    (fun k => chosen_at b g h (pos (i 2) q) k W) 0 ⟨hW b g _, Nat.zero_le _⟩
  have tw := attend_num hQ hK' hV' near b g h (pos (i 2) q) d (fun k => k.val ≤ 256 * (i 2).val + q.val ∧ 256 * (i 2).val + q.val < k.val + 512)
    (fun k => near_at b g h (pos (i 2) q) k) (pos (i 2) q) ⟨le_rfl, Nat.lt_add_of_pos_right (by norm_num)⟩
  have e0 : gl g ⟨h.val * 3, by omega⟩ = ⟨g.val * 128 + (h.val * 3 + (0 : Fin 3).val), by omega⟩ := rfl
  have e1 : gl g ⟨h.val * 3 + 1, by omega⟩ = ⟨g.val * 128 + (h.val * 3 + (1 : Fin 3).val), by omega⟩ := rfl
  have e2 : gl g ⟨h.val * 3 + 2, by omega⟩ = ⟨g.val * 128 + (h.val * 3 + (2 : Fin 3).val), by omega⟩ := rfl
  unfold result
  rw [emit_at, output_at, gates_at, gates_at, gates_at, h7, h7, h7, e0, e1, e2, h6, ts, tw]
  unfold quo
  rw [es, ew]
end

variable (m : (ℓ : Loc nD τ sig) → Buf (Elt Ideal) ℓ) (c : Dev nD) (t : Fin cfg0.N)

/-- Which block each window stages at each grid point. -/
theorem idx : ∀ t : Fin cfg0.N,
    win0_0.index t = ![(grid0.coords t 0).val, (grid0.coords t 1).val, 0, (grid0.coords t 2).val, 0]
    ∧ win0_1.index t = ![(grid0.coords t 0).val, (grid0.coords t 1).val, (grid0.coords t 2).val, 0]
    ∧ win0_2.index t = ![(grid0.coords t 0).val, (grid0.coords t 1).val, 0, 0]
    ∧ win0_3.index t = ![(grid0.coords t 0).val, (grid0.coords t 1).val, 0, 0]
    ∧ win0_4.index t = ![(grid0.coords t 0).val, (grid0.coords t 1).val, 0, 0]
    ∧ win0_5.index t = ![(grid0.coords t 0).val, (grid0.coords t 1).val, 0, 0]
    ∧ win0_6.index t = ![(grid0.coords t 0).val, (grid0.coords t 1).val, 0, (grid0.coords t 2).val, 0]
    ∧ win0_7.index t = ![(grid0.coords t 0).val, (grid0.coords t 2).val, (grid0.coords t 1).val]
    ∧ win0_8.index t = ![(grid0.coords t 0).val, (grid0.coords t 1).val, 0, (grid0.coords t 2).val, 0] :=
  (by decide +kernel : ∀ t : Fin grid0.N, _)

/-- The batch, the group and the tile of a grid point. -/
abbrev tb : Fin 8 := grid0.coords t 0
abbrev tg : Fin 2 := grid0.coords t 1
abbrev tn : Fin 16 := grid0.coords t 2

theorem read_0 (h : Fin 4) (q : Fin 256) (e : Fin 128) :
    iblk m c 0 t (ix5 0 0 h q e) = padQ (m ((c : Thread nD τ).loc main_arg0)) (ix5 (tb t) (tg t) h (pos (tn t) q) e) := by
  have w : ((cfg0.win 0).blk t).view.emb (ix5 0 0 h q e) = ix5 (tb t) (tg t) h (pos (tn t) q) e := by blk_ext [idx t, tb, tg, tn, pos]
  exact (congrArg (V m c main_v1) w).trans (congrFun (entry_q m c) _)

theorem read_1 (q : Fin 256) (e : Fin 128) :
    iblk m c 1 t (ix4 0 0 q e) = bias (m ((c : Thread nD τ).loc main_arg1)) (m ((c : Thread nD τ).loc main_arg8)) (ix4 (tb t) (tg t) (pos (tn t) q) e) := by
  have w : ((cfg0.win 1).blk t).view.emb (ix4 0 0 q e) = ix4 (tb t) (tg t) (pos (tn t) q) e := by blk_ext [idx t, tb, tg, tn, pos]
  exact (congrArg (V m c main_v7) w).trans (congrFun (entry_b m c) _)

theorem read_2 (k : Fin 4096) (e : Fin 128) : iblk m c 2 t (ix4 0 0 k e) = keyed (m ((c : Thread nD τ).loc main_arg2)) (ix4 (tb t) (tg t) k e) := by
  have w : ((cfg0.win 2).blk t).view.emb (ix4 0 0 k e) = ix4 (tb t) (tg t) k e := by blk_ext [idx t, tb, tg, tn]
  exact (congrArg (V m c main_v18) w).trans (congrFun (entry_k m c) _)

theorem read_3 (k : Fin 4096) (e : Fin 64) : iblk m c 3 t (ix4 0 0 k e) = m ((c : Thread nD τ).loc main_arg3) (ix4 (tb t) (tg t) k e) := by
  have w : ((cfg0.win 3).blk t).view.emb (ix4 0 0 k e) = ix4 (tb t) (tg t) k e := by blk_ext [idx t, tb, tg, tn]
  exact (congrArg (V m c main_arg3) w).trans (congrFun (entry_3 m c) _)

theorem read_4 (k : Fin 4096) (e : Fin 128) : iblk m c 4 t (ix4 0 0 k e) = padK (m ((c : Thread nD τ).loc main_arg4)) (ix4 (tb t) (tg t) k e) := by
  have w : ((cfg0.win 4).blk t).view.emb (ix4 0 0 k e) = ix4 (tb t) (tg t) k e := by blk_ext [idx t, tb, tg, tn]
  exact (congrArg (V m c main_v20) w).trans (congrFun (entry_w m c) _)

theorem read_5 (k : Fin 4096) (e : Fin 64) : iblk m c 5 t (ix4 0 0 k e) = m ((c : Thread nD τ).loc main_arg5) (ix4 (tb t) (tg t) k e) := by
  have w : ((cfg0.win 5).blk t).view.emb (ix4 0 0 k e) = ix4 (tb t) (tg t) k e := by blk_ext [idx t, tb, tg, tn]
  exact (congrArg (V m c main_arg5) w).trans (congrFun (entry_5 m c) _)

theorem read_6 (h : Fin 4) (q : Fin 256) (e : Fin 64) :
    iblk m c 6 t (ix5 0 0 h q e) = m ((c : Thread nD τ).loc main_arg6) (ix5 (tb t) (tg t) h (pos (tn t) q) e) := by
  have w : ((cfg0.win 6).blk t).view.emb (ix5 0 0 h q e) = ix5 (tb t) (tg t) h (pos (tn t) q) e := by blk_ext [idx t, tb, tg, tn, pos]
  exact (congrArg (V m c main_arg6) w).trans (congrFun (entry_6 m c) _)

theorem read_7 (q : Fin 256) (e : Fin 128) :
    iblk m c 7 t (ix3 0 q e) = m ((c : Thread nD τ).loc main_arg7) (ix3 (tb t) (pos (tn t) q) (gl (tg t) e)) := by
  have w : ((cfg0.win 7).blk t).view.emb (ix3 0 q e) = ix3 (tb t) (pos (tn t) q) (gl (tg t) e) := by blk_ext [idx t, tb, tg, tn, pos, gl]
  exact (congrArg (V m c main_arg7) w).trans (congrFun (entry_7 m c) _)

/-- The tile a grid point leaves. -/
theorem tile_out : outsAt0 m c t.val t.isLt
    = emit (selected (tn t).val (k0_pay34 (grid0.coords t)) (k0_pay33 (iblk m c 0 t) (iblk m c 1 t)) (iblk m c 2 t) (iblk m c 3 t))
      (windowed (tn t).val (k0_pay34 (grid0.coords t)) (k0_pay32 (iblk m c 0 t)) (iblk m c 4 t) (iblk m c 5 t)) (iblk m c 6 t) (iblk m c 7 t) := by
  by_cases h0 : 2 ≤ t.val % 16
  · rw [outsAt0_C m c t h0 (by omega), out_eq_C]
  · by_cases h1 : 1 ≤ t.val % 16
    · rw [outsAt0_B m c t h0 h1, out_eq_B]
    · rw [outsAt0_A m c t h0 h1, out_eq_A]

/-- The kernel's result array is the reference's result of the arguments, when the queries, keys and values are numbers, every query keeps
    the first block and the bias of the other blocks is minus infinity. -/
theorem final {X : S8x2x4x4096x64.Idx → ℝ} {Y Z Y' Z' : S8x2x4096x64.Idx → ℝ}
    (hQ : ∀ y, m ((c : Thread nD τ).loc main_arg0) y = (X y : EReal))
    (hK : ∀ y, m ((c : Thread nD τ).loc main_arg2) y = (Y y : EReal)) (hV : ∀ y, m ((c : Thread nD τ).loc main_arg3) y = (Z y : EReal))
    (hK' : ∀ y, m ((c : Thread nD τ).loc main_arg4) y = (Y' y : EReal)) (hV' : ∀ y, m ((c : Thread nD τ).loc main_arg5) y = (Z' y : EReal))
    (hW : ∀ b g q, (m ((c : Thread nD τ).loc main_arg1) : IVec S8x2x4096x64 32) (ix4 b g q 0) ≠ 0#32)
    (hl : (m ((c : Thread nD τ).loc main_arg8) : FVec Ideal S1 .f32) (ix1 0) = (⊥ : EReal)) :
    (dats m 0 c).arrAt 8 cfg0.N = result (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  refine (dats m 0 c).arrAt_eq_of_covers 8 _ (by decide +kernel) fun t hf y => ?_
  blk_simp
  rw [after0_8, tile_out]
  have w8 : ((cfg0.win 8).blk t).view.emb y = ix5 (tb t) (tg t) (y 2) (pos (tn t) (y 3)) (y 4) := by blk_ext [idx t, tb, tg, tn, pos]
  have wy : y = ix5 0 0 (y 2) (y 3) (y 4) := by blk_ext []
  rw [w8]
  refine Eq.trans (congrArg _ wy) ?_
  exact point hQ hK hV hK' hV' hW hl _ _ _ _ _ _ _ _ (grid0.coords t) (tb t) (tg t) (read_0 m c t) (read_1 m c t) (read_2 m c t) (read_3 m c t)
    (read_4 m c t) (read_5 m c t) (read_6 m c t) (read_7 m c t) (y 2) (y 3) (y 4)

end Cert.Kernel4Ideal.Body
end
-- ==== Proof.SelNum.lean ====
/-
  What the precondition of the selected and window attention gives: the queries, keys and values are numbers, the first block is kept
  for every query, and the bias of a block that is not kept is minus infinity.
-/
module

public import proofs.«01_k».proof.Proof.Num

@[expose] public section

set_option maxRecDepth 65536
noncomputable section
open Idealize.ShloMosaic Idealize.ShloMosaic.TcCoe Idealize.SL.Sem
namespace Cert.SelNum
open Cert.Pre_finite4

/-- An array all of whose entries compare less than infinity in absolute value has only real entries. -/
theorem reals {s : Shape} {axes : List (Fin s.rank)} (x : FVec Ideal s .f32) (hb : S_.BroadcastsInDim s (![] : Fin 0 → Fin s.rank))
    (init : S_.Idx → BitVec 1) (hr : s.ReducesTo axes S_) (hu : 0 < S_.numel) (z : S_.Idx)
    (h : Host.reduce IntOp.andi (cmpf .olt (Host.absf x) (broadcastInDim s ![] hb (constant S_ .f32 0x7F800000#32))) init hr hu z = 1#1)
    (y : s.Idx) : x y = ((x y).toReal : EReal) := by
  haveI : Subsingleton S_.Idx := ⟨fun i j => funext fun a => a.elim0⟩
  exact Cert.Num.real_of_lt (x y) (Host.reduce_andi_all _ init hr hu z h y)

/-- The side conditions of the precondition's operations. -/
theorem facts : Facts where
  bitsLt_bf16_f32 := by decide
  bcast_S_S8x2x4x4096x64 := by decide
  reducesTo_S8x2x4x4096x64_S_d0_1_2_3_4 := by decide
  h_S_ := by decide
  bcast_S_S8x2x4096x64 := by decide
  reducesTo_S8x2x4096x64_S_d0_1_2_3 := by decide
  slices_S8x2x4096x64_S8x2x4096x1_0_0_0_0 := by decide
  shapeCasts_S8x2x4096x1_S8x2x4096 := by decide
  bcast_S_S8x2x4096 := by decide
  reducesTo_S8x2x4096_S_d0_1_2 := by decide
  bcast_S_S1 := by decide
  reducesTo_S1_S_d0 := by decide

theorem neg_inf : Ideal.ofBits .f32 0xFF800000#32 = ⊥ := by simp [Ideal.ofBits, Ideal.ieee]

variable [Facts] {Q : FVec Ideal S8x2x4x4096x64 .bf16} {W : IVec S8x2x4096x64 32} {K V K' V' : FVec Ideal S8x2x4096x64 .bf16}
  {C : FVec Ideal S8x2x4x4096x64 .f32} {G : FVec Ideal S8x4096x256 .f32} {l : FVec Ideal S1 .f32}

theorem first_block (h : Host.reduce IntOp.andi (cmpi .ne (shapeCast S8x2x4096 (extractStridedSlice S8x2x4096x1 ![0, 0, 0, 0] W Facts.slices_S8x2x4096x64_S8x2x4096x1_0_0_0_0) Facts.shapeCasts_S8x2x4096x1_S8x2x4096)
      (broadcastInDim S8x2x4096 ![] Facts.bcast_S_S8x2x4096 (constantI S_ 32 0#32))) (constantI S_ 1 1#1) Facts.reducesTo_S8x2x4096_S_d0_1_2 Facts.h_S_ ix0 = 1#1)
    (b : Fin 8) (g : Fin 2) (q : Fin 4096) : W (ix4 b g q 0) ≠ 0#32 := by
  haveI : Subsingleton S_.Idx := ⟨fun i j => funext fun a => a.elim0⟩
  have h := Host.reduce_andi_all _ _ Facts.reducesTo_S8x2x4096_S_d0_1_2 Facts.h_S_ ix0 h (ix3 b g q)
  have e : shapeCast S8x2x4096 (extractStridedSlice S8x2x4096x1 ![0, 0, 0, 0] W Facts.slices_S8x2x4096x64_S8x2x4096x1_0_0_0_0) Facts.shapeCasts_S8x2x4096x1_S8x2x4096 (ix3 b g q)
      = W (ix4 b g q 0) := by
    pointwise
  have h' : IntOp.cmpi .ne (shapeCast S8x2x4096 (extractStridedSlice S8x2x4096x1 ![0, 0, 0, 0] W Facts.slices_S8x2x4096x64_S8x2x4096x1_0_0_0_0) Facts.shapeCasts_S8x2x4096x1_S8x2x4096 (ix3 b g q)) 0#32 = 1#1 := h
  rw [e] at h'
  intro hz
  rw [hz] at h'
  exact absurd h' (by decide)

theorem low_bot (h : Host.reduce IntOp.andi (cmpf .oeq l (broadcastInDim S1 ![] Facts.bcast_S_S1 (constant S_ .f32 0xFF800000#32))) (constantI S_ 1 1#1) Facts.reducesTo_S1_S_d0 Facts.h_S_ ix0 = 1#1) :
    l (ix1 0) = ⊥ := by
  haveI : Subsingleton S_.Idx := ⟨fun i j => funext fun a => a.elim0⟩
  have h := Host.reduce_andi_all _ _ Facts.reducesTo_S1_S_d0 Facts.h_S_ ix0 h (ix1 0)
  have h' : Ideal.cmp .oeq (l (ix1 0)) (Ideal.ofBits .f32 0xFF800000#32) = 1#1 := h
  rw [neg_inf] at h'
  by_contra hn
  simp [Ideal.cmp, hn] at h'

/-- The precondition at the arguments. -/
theorem pre_reals (h : fn (F := Ideal) Q W K V K' V' C G l = fun _ => 1#1) :
    (∀ y, Q y = ((Q y).toReal : EReal)) ∧ (∀ y, K y = ((K y).toReal : EReal)) ∧ (∀ y, V y = ((V y).toReal : EReal))
    ∧ (∀ y, K' y = ((K' y).toReal : EReal)) ∧ (∀ y, V' y = ((V' y).toReal : EReal)) ∧ (∀ b g q, W (ix4 b g q 0) ≠ 0#32) ∧ l (ix1 0) = ⊥ := by
  have h := congrFun h ix0
  unfold fn fn_part1 fn_part2 at h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h1, h2⟩ := IntOp.andi_eq_one.1 h
  exact ⟨reals Q _ _ _ _ _ h1, reals K _ _ _ _ _ h2, reals V _ _ _ _ _ h3, reals K' _ _ _ _ _ h4, reals V' _ _ _ _ _ h5,
    first_block h6, low_bot h7⟩
end Cert.SelNum
end
-- ==== Proof.SelClaim.lean ====
/-
  The selected and window attention: kernel and reference end with the same array.
-/
module

public import proofs.«01_k».proof.Defs
public import proofs.«01_k».proof.Proof.Gen.Kernel4.Frame
public import proofs.«01_k».proof.Proof.SelValue
public import proofs.«01_k».proof.Proof.SelNum
public import Idealize.ShloMosaic.Lib.Claim
public import Idealize.ShloMosaic.Lib.Quiescent

@[expose] public section

set_option maxRecDepth 65536
noncomputable section
open Idealize.ShloMosaic Idealize.ShloMosaic.TcCoe Idealize.SL.Sem
namespace Cert.SelWin

/-- The reference runs, leaves its arguments unchanged and every semaphore counter at zero. -/
theorem frame_reference : Cert.quiescent_Reference4Ideal (hReference4Ideal := Cert.Reference4Ideal.Gen.facts) := fun m ρ _ =>
  (θ_run Cert.Reference4Ideal.defs _ _).mono
    (fun r h => ⟨fun c => (h c).2, Idealize.ShloMosaic.sem_eq_zero_of_no_sems (by decide) r.2⟩) (Cert.Reference4Ideal.Value.run m ρ)

/-- Where the queries, keys and values are numbers, the first block is kept and the bias of the other blocks is minus infinity, the kernel
    and the reference end with the same array. -/
theorem algebraic : Cert.algebraic_Kernel4Ideal_Reference4Ideal_pre_finite4 (hKernel4Ideal := Cert.Kernel4Ideal.Gen.facts)
    (hReference4Ideal := Cert.Reference4Ideal.Gen.facts) (hPre_finite4 := Cert.SelNum.facts) := by
  intro m g m' g' hpre hagree
  refine ⟨fun c => Cert.Reference4Ideal.Value.res_main_v70 m' c, (θ_run _ _ _).mono (fun r h c => ?_) (Cert.Kernel4Ideal.Value.run_blocks m g),
    (θ_run _ _ _).mono (fun r h c => h c) (Cert.Reference4Ideal.Value.run m' g')⟩
  refine ⟨(h c).1.trans ?_, (h c).2⟩
  haveI := Cert.SelNum.facts
  obtain ⟨hQ, hK, hV, hK', hV', hW, hl⟩ := Cert.SelNum.pre_reals (hpre c)
  obtain ⟨g0, g1, g2, g3, g4, g5, g6, g7, g8⟩ := hagree c
  show _ = Cert.Reference4Ideal.Value.res_main_v70 m' c
  rw [Cert.Reference4Ideal.Stage.result_eq, g0, g1, g2, g3, g4, g5, g6, g7]
  exact Cert.Kernel4Ideal.Body.final m c hQ hK hV hK' hV' hW hl

end Cert.SelWin
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.ReferenceIdeal.Run
public import proofs.«01_k».proof.Proof.Value
public import proofs.«01_k».proof.Proof.Num
public import proofs.«01_k».proof.Proof.OutClaim
public import proofs.«01_k».proof.Proof.InClaim
public import proofs.«01_k».proof.Proof.SelClaim
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its arguments unchanged and every semaphore counter at zero. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩) (Cert.ReferenceIdeal.Value.run m ρ)

/-- Where the queries, keys, values and lambda parameters are numbers, the kernel and the reference end with the same array. -/
theorem algebraic : Cert.algebraic_KernelIdeal_ReferenceIdeal_pre_finite (hKernelIdeal := Cert.KernelIdeal.Gen.facts)
    (hReferenceIdeal := Cert.ReferenceIdeal.Gen.facts) (hPre_finite := Cert.Num.facts) := by
  intro m g m' g' hpre hagree
  refine ⟨fun c => Cert.ReferenceIdeal.Value.res_main_v63 m' c, (θ_run _ _ _).mono (fun r h c => ?_) (Cert.KernelIdeal.Value.run_blocks m g),
    (θ_run _ _ _).mono (fun r h c => h c) (Cert.ReferenceIdeal.Value.run m' g')⟩
  refine ⟨(h c).1.trans ?_, (h c).2⟩
  haveI := Cert.Num.facts
  obtain ⟨hQ, hK, hV, ha, ha', he, he'⟩ := Cert.Num.pre_reals (hpre c)
  obtain ⟨x, hx⟩ := Cert.Num.lam_real _ _ _ _ ha ha' he he'
  obtain ⟨g0, g1, g2, g3, g4, g5, g6, g7⟩ := hagree c
  show _ = Cert.ReferenceIdeal.Value.res_main_v63 m' c
  rw [Cert.ReferenceIdeal.Stage.result_eq, g0, g1, g2, g3, g4, g5, g6, g7]
  exact Cert.KernelIdeal.Body.final m c hQ hK hV _ _ _ _ _ rfl rfl rfl rfl rfl x hx

/-- Everything claimed. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Num.facts, Cert.SelNum.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Kernel2.Gen.frame m ρ, fun m ρ _ => Cert.Kernel2Ideal.Gen.frame m ρ, Cert.OutProj.frame_reference,
    fun m ρ _ => Cert.Kernel3.Gen.frame m ρ, fun m ρ _ => Cert.Kernel3Ideal.Gen.frame m ρ, Cert.InProj.frame_reference,
    fun m ρ _ => Cert.Kernel4.Gen.frame m ρ, fun m ρ _ => Cert.Kernel4Ideal.Gen.frame m ρ, fun m ρ _ => Cert.Kernel4Ideal.Gen.frame m ρ,
    Cert.SelWin.frame_reference, fun m ρ _ => Cert.SelWin.frame_reference m ρ trivial,
    IdealRules.named_const.statement Cert.KernelIdeal.κ "mask" .f32 0xF149F2CA#32 ⊥ rfl, algebraic,
    trivial, Cert.OutProj.algebraic, trivial, Cert.InProj.algebraic,
    IdealRules.named_const.statement Cert.Kernel4Ideal.κ "mask" .f32 0xF149F2CA#32 ⊥ rfl, Cert.SelWin.algebraic⟩

end Cert.Proof

end
